-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_row1 [hPre_finite_row1 : Cert.Pre_finite_row1.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_row1.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_row1 [hPre_finite_row1 : Cert.Pre_finite_row1.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_row1.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_row1 [hKernel6Ideal : Cert.Kernel6Ideal.Facts] [hPre_finite_row1 : Cert.Pre_finite_row1.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_row1 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_row1 [hReference6Ideal : Cert.Reference6Ideal.Facts] [hPre_finite_row1 : Cert.Pre_finite_row1.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_row1 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)) (v2 : (c : Dev Cert.KernelIdeal.nD) → Buf (Elt Ideal) ((c.tc : Thread Cert.KernelIdeal.nD Cert.KernelIdeal.τ).loc Cert.KernelIdeal.main_v69_2)) (v3 : (c : Dev Cert.KernelIdeal.nD) → Buf (Elt Ideal) ((c.tc : Thread Cert.KernelIdeal.nD Cert.KernelIdeal.τ).loc Cert.KernelIdeal.main_v69_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_v69_2) = v2 c
          ∧ r.2.mem ((c.tc : Thread Cert.KernelIdeal.nD Cert.KernelIdeal.τ).loc Cert.KernelIdeal.main_v69_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_row1 [hKernel6Ideal : Cert.Kernel6Ideal.Facts] [hReference6Ideal : Cert.Reference6Ideal.Facts] [hPre_finite_row1 : Cert.Pre_finite_row1.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_row1 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v101) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v161) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_row1 : Cert.Pre_finite_row1.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_row1 (hKernel6Ideal := hKernel6Ideal) (hPre_finite_row1 := hPre_finite_row1)
    ∧ quiescent_Reference6Ideal (hReference6Ideal := hReference6Ideal)
    ∧ quiescent_Reference6Ideal_pre_finite_row1 (hReference6Ideal := hReference6Ideal) (hPre_finite_row1 := hPre_finite_row1)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_row1 (hKernel6Ideal := hKernel6Ideal) (hReference6Ideal := hReference6Ideal) (hPre_finite_row1 := hPre_finite_row1)
-- ==== Pre_finite.lean ====
abbrev S16384x1024 : Shape := ⟨2, ![16384, 1024]⟩
abbrev S16384x2048 : Shape := ⟨2, ![16384, 2048]⟩
abbrev S4x256x256 : Shape := ⟨3, ![4, 256, 256]⟩
abbrev S2x1024 : Shape := ⟨2, ![2, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2x1024 .f32) (main_arg5 : FVec F S1024x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2x1024 .f32 := subf main_arg4 main_arg4
  let main_cst_6 : FVec F S_ .f32 := constant S_ .f32 0x00000000#32
  let main_v20 : FVec F S2x1024 .f32 := broadcastInDim S2x1024 ![] bcast_S_S2x1024 main_cst_6
  let main_v21 : IVec S2x1024 1 := cmpf .oeq main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S1024x1024 .f32 := subf main_arg5 main_arg5
  let main_cst_8 : FVec F S_ .f32 := constant S_ .f32 0x00000000#32
  let main_v25 : FVec F S1024x1024 .f32 := broadcastInDim S1024x1024 ![] bcast_S_S1024x1024 main_cst_8
  let main_v26 : IVec S1024x1024 1 := cmpf .oeq main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S16384x1024 .f32) (main_arg1 : FVec F S16384x2048 .f32) (main_arg2 : FVec F S4x256x256 .f32) (main_arg3 : FVec F S2x1024 .f32) (main_arg4 : FVec F S2x1024 .f32) (main_arg5 : FVec F S1024x1024 .f32) : IVec S_ 1 :=
  let main_v0 : FVec F S16384x1024 .f32 := subf main_arg0 main_arg0
  let main_cst : FVec F S_ .f32 := constant S_ .f32 0x00000000#32
  let main_v1 : FVec F S16384x1024 .f32 := broadcastInDim S16384x1024 ![] bcast_S_S16384x1024 main_cst
  let main_v2 : IVec S16384x1024 1 := cmpf .oeq main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := subf main_arg1 main_arg1
  let main_cst_0 : FVec F S_ .f32 := constant S_ .f32 0x00000000#32
  let main_v5 : FVec F S16384x2048 .f32 := broadcastInDim S16384x2048 ![] bcast_S_S16384x2048 main_cst_0
  let main_v6 : IVec S16384x2048 1 := cmpf .oeq main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S4x256x256 .f32 := subf main_arg2 main_arg2
  let main_cst_2 : FVec F S_ .f32 := constant S_ .f32 0x00000000#32
  let main_v10 : FVec F S4x256x256 .f32 := broadcastInDim S4x256x256 ![] bcast_S_S4x256x256 main_cst_2
  let main_v11 : IVec S4x256x256 1 := cmpf .oeq main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S2x1024 .f32 := subf main_arg3 main_arg3
  let main_cst_4 : FVec F S_ .f32 := constant S_ .f32 0x00000000#32
  let main_v15 : FVec F S2x1024 .f32 := broadcastInDim S2x1024 ![] bcast_S_S2x1024 main_cst_4
  let main_v16 : IVec S2x1024 1 := cmpf .oeq main_v14 main_v15
  fn_part1 (F := F) main_arg4 main_arg5 main_v13 main_v16
-- ==== Pre_finite_row1.lean ====
abbrev S16384x1024 : Shape := ⟨2, ![16384, 1024]⟩
abbrev S4x1024 : Shape := ⟨2, ![4, 1024]⟩
abbrev S1024x2048 : Shape := ⟨2, ![1024, 2048]⟩
abbrev S4x256x256 : Shape := ⟨3, ![4, 256, 256]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

class Facts : Prop where
  slices_S4x1024_S1x1024_1_0 : S4x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S16384x1024 .f32) (main_arg1 : FVec F S4x1024 .f32) (main_arg2 : FVec F S1024x2048 .f32) (main_arg3 : FVec F S4x256x256 .f32) (main_arg4 : FVec F S2x1024 .f32) (main_arg5 : FVec F S2x1024 .f32) (main_arg6 : FVec F S1024x1024 .f32) : IVec S_ 1 :=
  let main_v0 : FVec F S1x1024 .f32 := (extractStridedSlice S1x1024 ![1, 0] · slices_S4x1024_S1x1024_1_0) main_arg1
  let main_v1 : FVec F S1024 .f32 := shapeCast S1024 main_v0 shapeCasts_S1x1024_S1024
  let main_v2 : FVec F S1024 .f32 := subf main_v1 main_v1
  let main_cst : FVec F S_ .f32 := constant S_ .f32 0x00000000#32
  let main_v3 : FVec F S1024 .f32 := broadcastInDim S1024 ![] bcast_S_S1024 main_cst
  let main_v4 : IVec S1024 1 := cmpf .oeq main_v2 main_v3
  let main_c : IVec S_ 1 := constantI S_ 1 1#1
  let main_v5 : IVec S_ 1 := (fun x v => Host.reduce IntOp.andi x v reducesTo_S1024_S_d0 h_S_) main_v4 main_c
  let main_v6 : FVec F S1024x2048 .f32 := subf main_arg2 main_arg2
  let main_cst_0 : FVec F S_ .f32 := constant S_ .f32 0x00000000#32
  let main_v7 : FVec F S1024x2048 .f32 := broadcastInDim S1024x2048 ![] bcast_S_S1024x2048 main_cst_0
  let main_v8 : IVec S1024x2048 1 := cmpf .oeq main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v5 main_v9
  main_v10
-- ==== Kernel.lean ====
abbrev S16384x1024 : Shape := ⟨2, ![16384, 1024]⟩
abbrev S16384x2048 : Shape := ⟨2, ![16384, 2048]⟩
abbrev S4x256x256 : Shape := ⟨3, ![4, 256, 256]⟩
abbrev S2x1024 : Shape := ⟨2, ![2, 1024]⟩
abbrev S1024x1024 : Shape := ⟨2, ![1024, 1024]⟩
abbrev S_ : Shape := ⟨0, ![]⟩
abbrev S1x1024 : Shape := ⟨2, ![1, 1024]⟩
abbrev S16385x1024 : Shape := ⟨2, ![16385, 1024]⟩
abbrev S16384 : Shape := ⟨1, ![16384]⟩
abbrev S16385x256 : Shape := ⟨2, ![16385, 256]⟩
abbrev S16384x256 : Shape := ⟨2, ![16384, 256]⟩
abbrev S1x256 : Shape := ⟨2, ![1, 256]⟩
abbrev S16383x256 : Shape := ⟨2, ![16383, 256]⟩
abbrev S16384x1 : Shape := ⟨2, ![16384, 1]⟩
abbrev S3x256 : Shape := ⟨2, ![3, 256]⟩
abbrev S16381x256 : Shape := ⟨2, ![16381, 256]⟩
abbrev S7x256 : Shape := ⟨2, ![7, 256]⟩
abbrev S16377x256 : Shape := ⟨2, ![16377, 256]⟩
abbrev S15x256 : Shape := ⟨2, ![15, 256]⟩
abbrev S16369x256 : Shape := ⟨2, ![16369, 256]⟩
abbrev S2x1x1024 : Shape := ⟨3, ![2, 1, 1024]⟩
abbrev S8x1024 : Shape := ⟨2, ![8, 1024]⟩
abbrev S512x1024 : Shape := ⟨2, ![512, 1024]⟩
abbrev S1x1x1024 : Shape := ⟨3, ![1, 1, 1024]⟩
abbrev S512x2048 : Shape := ⟨2, ![512, 2048]⟩
abbrev S528x1024 : Shape := ⟨2, ![528, 1024]⟩
abbrev S16x1024 : Shape := ⟨2, ![16, 1024]⟩
abbrev S512x256 : Shape := ⟨2, ![512, 256]⟩
abbrev S1x256x256 : Shape := ⟨3, ![1, 256, 256]⟩
abbrev S256x256 : Shape := ⟨2, ![256, 256]⟩
abbrev S64x8x1024 : Shape := ⟨3, ![64, 8, 1024]⟩
abbrev S512x1 : Shape := ⟨2, ![512, 1]⟩
abbrev S528x256 : Shape := ⟨2, ![528, 256]⟩
abbrev S1024 : Shape := ⟨1, ![1024]⟩

abbrev nBuf : Space → Nat
  | .hbm => 91
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S4x256x256, .f32⟩
  | .hbm, ⟨3, _⟩ => ⟨S2x1024, .f32⟩
  | .hbm, ⟨4, _⟩ => ⟨S2x1024, .f32⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16385x1024, .f32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16385x256, .f32⟩
  | .hbm, ⟨18, _⟩ => ⟨S16384x256, .f32⟩
  | .hbm, ⟨19, _⟩ => ⟨S_, .f32⟩
  | .hbm, ⟨20, _⟩ => ⟨S1x256, .f32⟩
  | .hbm, ⟨21, _⟩ => ⟨S16383x256, .f32⟩
  | .hbm, ⟨22, _⟩ => ⟨S16384x256, .f32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .f32⟩
  | .hbm, ⟨27, _⟩ => ⟨S16384x1, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16385x256, .f32⟩
  | .hbm, ⟨34, _⟩ => ⟨S16384x256, .f32⟩
  | .hbm, ⟨35, _⟩ => ⟨S_, .f32⟩
  | .hbm, ⟨36, _⟩ => ⟨S3x256, .f32⟩
  | .hbm, ⟨37, _⟩ => ⟨S16381x256, .f32⟩
  | .hbm, ⟨38, _⟩ => ⟨S16384x256, .f32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16385x256, .f32⟩
  | .hbm, ⟨50, _⟩ => ⟨S16384x256, .f32⟩
  | .hbm, ⟨51, _⟩ => ⟨S_, .f32⟩
  | .hbm, ⟨52, _⟩ => ⟨S7x256, .f32⟩
  | .hbm, ⟨53, _⟩ => ⟨S16377x256, .f32⟩
  | .hbm, ⟨54, _⟩ => ⟨S16384x256, .f32⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .f32⟩
  | .hbm, ⟨59, _⟩ => ⟨S16384x1, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S16384x256, .f32⟩
  | .hbm, ⟨64, _⟩ => ⟨S16384x256, .f32⟩
  | .hbm, ⟨65, _⟩ => ⟨S16385x256, .f32⟩
  | .hbm, ⟨66, _⟩ => ⟨S16384x256, .f32⟩
  | .hbm, ⟨67, _⟩ => ⟨S_, .f32⟩
  | .hbm, ⟨68, _⟩ => ⟨S15x256, .f32⟩
  | .hbm, ⟨69, _⟩ => ⟨S16369x256, .f32⟩
  | .hbm, ⟨70, _⟩ => ⟨S16384x256, .f32⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .f32⟩
  | .hbm, ⟨75, _⟩ => ⟨S16384x1, .f32⟩
  | .hbm, ⟨76, _⟩ => ⟨S16384x256, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S16384x256, .f32⟩
  | .hbm, ⟨81, _⟩ => ⟨S16384x1024, .f32⟩
  | .hbm, ⟨82, _⟩ => ⟨S16384x1024, .bf16⟩
  | .hbm, ⟨83, _⟩ => ⟨S2x1x1024, .f32⟩
  | .hbm, ⟨84, _⟩ => ⟨S2x1x1024, .f32⟩
  | .hbm, ⟨85, _⟩ => ⟨S4x256x256, .bf16⟩
  | .hbm, ⟨86, _⟩ => ⟨S1024x1024, .bf16⟩
  | .hbm, ⟨87, _⟩ => ⟨S16384x2048, .bf16⟩
  | .hbm, ⟨88, _⟩ => ⟨S1024x1024, .bf16⟩
  | .hbm, ⟨89, _⟩ => ⟨S4x256x256, .bf16⟩
  | .hbm, ⟨90, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S4x256x256, .bf16⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S512x2048, .bf16⟩
  | .local _ .vmem, ⟨11, _⟩ => ⟨S512x2048, .bf16⟩
  | .local _ .vmem, ⟨12, _⟩ => ⟨S1024x1024, .bf16⟩
  | .local _ .vmem, ⟨13, _⟩ => ⟨S4x256x256, .bf16⟩
  | .local _ .vmem, ⟨14, _⟩ => ⟨S8x1024, .f32⟩
  | .local _ .vmem, ⟨15, _⟩ => ⟨S528x1024, .f32⟩
  | .local _ .vmem, ⟨16, _⟩ => ⟨S16x1024, .f32⟩
  | .local _ .vmem, ⟨17, _⟩ => ⟨S1024x1024, .f32⟩
  | .local _ .vmem, ⟨18, _⟩ => ⟨S4x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev main_v69_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32_133 : BitVec 32 := 31#32
  let v232 : BitVec 1 := Scalar.cmpi .eq arg0 c31_i32_133
  let v233 : BitVec 32 := Scalar.extui v232
  let c0_i32_134 : BitVec 32 := 0#32
  let v234 : BitVec 1 := Scalar.cmpi .ne v233 c0_i32_134
  v234

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S16384x2048 : Shape := ⟨2, ![16384, 2048]⟩
abbrev S4x256x256 : Shape := ⟨3, ![4, 256, 256]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16385x1024 : Shape := ⟨2, ![16385, 1024]⟩
abbrev S16384 : Shape := ⟨1, ![16384]⟩
abbrev S16385x256 : Shape := ⟨2, ![16385, 256]⟩
abbrev S16384x256 : Shape := ⟨2, ![16384, 256]⟩
abbrev S1x256 : Shape := ⟨2, ![1, 256]⟩
abbrev S16383x256 : Shape := ⟨2, ![16383, 256]⟩
abbrev S16384x1 : Shape := ⟨2, ![16384, 1]⟩
abbrev S3x256 : Shape := ⟨2, ![3, 256]⟩
abbrev S16381x256 : Shape := ⟨2, ![16381, 256]⟩
abbrev S7x256 : Shape := ⟨2, ![7, 256]⟩
abbrev S16377x256 : Shape := ⟨2, ![16377, 256]⟩
abbrev S15x256 : Shape := ⟨2, ![15, 256]⟩
abbrev S16369x256 : Shape := ⟨2, ![16369, 256]⟩
abbrev S1x256x256 : Shape := ⟨3, ![1, 256, 256]⟩
abbrev S256x256 : Shape := ⟨2, ![256, 256]⟩
abbrev S6x1024 : Shape := ⟨2, ![6, 1024]⟩
abbrev S8x1024 : Shape := ⟨2, ![8, 1024]⟩

abbrev nBuf : Space → Nat
  | .hbm => 268
  | .vmem => 0
  | .smem => 0
  | _ => 0

abbrev hbmTy0_0 (i : Nat) : BufTy := match i % 128 with
  | 0 => ⟨S16384x1024, .f32⟩
  | 1 => ⟨S16384x2048, .f32⟩
  | 2 => ⟨S4x256x256, .f32⟩
  | 3 => ⟨S2x1024, .f32⟩
  | 4 => ⟨S2x1024, .f32⟩
  | 5 => ⟨S1024x1024, .f32⟩
  | 6 => ⟨S1x1024, .f32⟩
  | 7 => ⟨S1024, .f32⟩
  | 8 => ⟨S1x1024, .f32⟩
  | 9 => ⟨S1024, .f32⟩
  | 10 => ⟨S16384x1024, .f32⟩
  | 11 => ⟨S16384x1024, .f32⟩
  | 12 => ⟨S_, .f32⟩
  | 13 => ⟨S1x1024, .f32⟩
  | 14 => ⟨S_, .f32⟩
  | 15 => ⟨S_, .f32⟩
  | 16 => ⟨S16384x1024, .f32⟩
  | 17 => ⟨S16385x1024, .f32⟩
  | 18 => ⟨S_, .f32⟩
  | 19 => ⟨S1x1024, .f32⟩
  | 20 => ⟨S16384, .i32⟩
  | 21 => ⟨S_, .i32⟩
  | 22 => ⟨S16384, .i32⟩
  | 23 => ⟨S16384, .i32⟩
  | 24 => ⟨S16385x256, .f32⟩
  | 25 => ⟨S16384x256, .f32⟩
  | 26 => ⟨S_, .f32⟩
  | 27 => ⟨S1x256, .f32⟩
  | 28 => ⟨S16383x256, .f32⟩
  | 29 => ⟨S16384x256, .f32⟩
  | 30 => ⟨S_, .f32⟩
  | 31 => ⟨S1x256, .f32⟩
  | 32 => ⟨S_, .i32⟩
  | 33 => ⟨S16384, .i32⟩
  | 34 => ⟨S16384, .i32⟩
  | 35 => ⟨S16384, .f32⟩
  | 36 => ⟨S16384x1, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16385x256, .f32⟩
  | 43 => ⟨S16384x256, .f32⟩
  | 44 => ⟨S_, .f32⟩
  | 45 => ⟨S3x256, .f32⟩
  | 46 => ⟨S16381x256, .f32⟩
  | 47 => ⟨S16384x256, .f32⟩
  | 48 => ⟨S_, .f32⟩
  | 49 => ⟨S3x256, .f32⟩
  | 50 => ⟨S_, .i32⟩
  | 51 => ⟨S16384, .i32⟩
  | 52 => ⟨S16384, .i32⟩
  | 53 => ⟨S16384, .f32⟩
  | 54 => ⟨S16384x1, .f32⟩
  | 55 => ⟨S16384x256, .f32⟩
  | 56 => ⟨S16384x256, .f32⟩
  | 57 => ⟨S16384x256, .f32⟩
  | 58 => ⟨S16384x256, .f32⟩
  | 59 => ⟨S16384x256, .f32⟩
  | 60 => ⟨S16385x256, .f32⟩
  | 61 => ⟨S16384x256, .f32⟩
  | 62 => ⟨S_, .f32⟩
  | 63 => ⟨S7x256, .f32⟩
  | 64 => ⟨S16377x256, .f32⟩
  | 65 => ⟨S16384x256, .f32⟩
  | 66 => ⟨S_, .f32⟩
  | 67 => ⟨S7x256, .f32⟩
  | 68 => ⟨S_, .i32⟩
  | 69 => ⟨S16384, .i32⟩
  | 70 => ⟨S16384, .i32⟩
  | 71 => ⟨S16384, .f32⟩
  | 72 => ⟨S16384x1, .f32⟩
  | 73 => ⟨S16384x256, .f32⟩
  | 74 => ⟨S16384x256, .f32⟩
  | 75 => ⟨S16384x256, .f32⟩
  | 76 => ⟨S16384x256, .f32⟩
  | 77 => ⟨S16384x256, .f32⟩
  | 78 => ⟨S16385x256, .f32⟩
  | 79 => ⟨S16384x256, .f32⟩
  | 80 => ⟨S_, .f32⟩
  | 81 => ⟨S15x256, .f32⟩
  | 82 => ⟨S16369x256, .f32⟩
  | 83 => ⟨S16384x256, .f32⟩
  | 84 => ⟨S_, .f32⟩
  | 85 => ⟨S15x256, .f32⟩
  | 86 => ⟨S_, .i32⟩
  | 87 => ⟨S16384, .i32⟩
  | 88 => ⟨S16384, .i32⟩
  | 89 => ⟨S16384, .f32⟩
  | 90 => ⟨S16384x1, .f32⟩
  | 91 => ⟨S16384x256, .f32⟩
  | 92 => ⟨S16384x256, .f32⟩
  | 93 => ⟨S16384x256, .f32⟩
  | 94 => ⟨S16384x256, .f32⟩
  | 95 => ⟨S16384x256, .f32⟩
  | 96 => ⟨S1x256x256, .f32⟩
  | 97 => ⟨S256x256, .f32⟩
  | 98 => ⟨S16384x256, .f32⟩
  | 99 => ⟨S1x256x256, .f32⟩
  | 100 => ⟨S256x256, .f32⟩
  | 101 => ⟨S16384x256, .f32⟩
  | 102 => ⟨S1x256x256, .f32⟩
  | 103 => ⟨S256x256, .f32⟩
  | 104 => ⟨S16384x256, .f32⟩
  | 105 => ⟨S1x256x256, .f32⟩
  | 106 => ⟨S256x256, .f32⟩
  | 107 => ⟨S16384x256, .f32⟩
  | 108 => ⟨S16384x1024, .f32⟩
  | 109 => ⟨S1x1024, .f32⟩
  | 110 => ⟨S16384x1024, .f32⟩
  | 111 => ⟨S16384x1024, .f32⟩
  | 112 => ⟨S1x1024, .f32⟩
  | 113 => ⟨S16384x1024, .f32⟩
  | 114 => ⟨S16384x1024, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1024x1024, .f32⟩
  | 3 => ⟨S1024x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S_, .f32⟩
  | 13 => ⟨S1024, .f32⟩
  | 14 => ⟨S1x1024, .f32⟩
  | 15 => ⟨S16384x1024, .f32⟩
  | 16 => ⟨S16384x1024, .f32⟩
  | 17 => ⟨S_, .f32⟩
  | 18 => ⟨S1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S16384x256, .f32⟩
  | 25 => ⟨S16384x256, .f32⟩
  | 26 => ⟨S16384x256, .f32⟩
  | 27 => ⟨S16384x256, .f32⟩
  | 28 => ⟨S256x256, .f32⟩
  | 29 => ⟨S256x256, .f32⟩
  | 30 => ⟨S16384x256, .f32⟩
  | 31 => ⟨S1x256x256, .f32⟩
  | 32 => ⟨S_, .f32⟩
  | 33 => ⟨S4x256x256, .f32⟩
  | 34 => ⟨S256x256, .f32⟩
  | 35 => ⟨S256x256, .f32⟩
  | 36 => ⟨S16384x256, .f32⟩
  | 37 => ⟨S1x256x256, .f32⟩
  | 38 => ⟨S_, .f32⟩
  | 39 => ⟨S4x256x256, .f32⟩
  | 40 => ⟨S4x256x256, .f32⟩
  | 41 => ⟨S256x256, .f32⟩
  | 42 => ⟨S256x256, .f32⟩
  | 43 => ⟨S16384x256, .f32⟩
  | 44 => ⟨S1x256x256, .f32⟩
  | 45 => ⟨S_, .f32⟩
  | 46 => ⟨S4x256x256, .f32⟩
  | 47 => ⟨S4x256x256, .f32⟩
  | 48 => ⟨S256x256, .f32⟩
  | 49 => ⟨S256x256, .f32⟩
  | 50 => ⟨S16384x256, .f32⟩
  | 51 => ⟨S1x256x256, .f32⟩
  | 52 => ⟨S_, .f32⟩
  | 53 => ⟨S4x256x256, .f32⟩
  | 54 => ⟨S4x256x256, .f32⟩
  | 55 => ⟨S16384x256, .f32⟩
  | 56 => ⟨S_, .f32⟩
  | 57 => ⟨S16384x1024, .f32⟩
  | 58 => ⟨S16384x256, .f32⟩
  | 59 => ⟨S16384x256, .f32⟩
  | 60 => ⟨S16384x256, .f32⟩
  | 61 => ⟨S15x256, .f32⟩
  | 62 => ⟨S16369x256, .f32⟩
  | 63 => ⟨S_, .f32⟩
  | 64 => ⟨S16385x256, .f32⟩
  | 65 => ⟨S_, .f32⟩
  | 66 => ⟨S16385x256, .f32⟩
  | 67 => ⟨S16385x256, .f32⟩
  | 68 => ⟨S_, .f32⟩
  | 69 => ⟨S16385x1024, .f32⟩
  | 70 => ⟨S16384x256, .f32⟩
  | 71 => ⟨S_, .f32⟩
  | 72 => ⟨S16384x1024, .f32⟩
  | 73 => ⟨S16384x1024, .f32⟩
  | 74 => ⟨S16384x256, .f32⟩
  | 75 => ⟨S16384x256, .f32⟩
  | 76 => ⟨S16384x256, .f32⟩
  | 77 => ⟨S7x256, .f32⟩
  | 78 => ⟨S16377x256, .f32⟩
  | 79 => ⟨S_, .f32⟩
  | 80 => ⟨S16385x256, .f32⟩
  | 81 => ⟨S_, .f32⟩
  | 82 => ⟨S16385x256, .f32⟩
  | 83 => ⟨S16385x256, .f32⟩
  | 84 => ⟨S_, .f32⟩
  | 85 => ⟨S16385x1024, .f32⟩
  | 86 => ⟨S16385x1024, .f32⟩
  | 87 => ⟨S16384x256, .f32⟩
  | 88 => ⟨S_, .f32⟩
  | 89 => ⟨S16384x1024, .f32⟩
  | 90 => ⟨S16384x1024, .f32⟩
  | 91 => ⟨S16384x256, .f32⟩
  | 92 => ⟨S16384x256, .f32⟩
  | 93 => ⟨S16384x256, .f32⟩
  | 94 => ⟨S3x256, .f32⟩
  | 95 => ⟨S16381x256, .f32⟩
  | 96 => ⟨S_, .f32⟩
  | 97 => ⟨S16385x256, .f32⟩
  | 98 => ⟨S_, .f32⟩
  | 99 => ⟨S16385x256, .f32⟩
  | 100 => ⟨S16385x256, .f32⟩
  | 101 => ⟨S_, .f32⟩
  | 102 => ⟨S16385x1024, .f32⟩
  | 103 => ⟨S16385x1024, .f32⟩
  | 104 => ⟨S16384x256, .f32⟩
  | 105 => ⟨S_, .f32⟩
  | 106 => ⟨S16384x1024, .f32⟩
  | 107 => ⟨S16384x1024, .f32⟩
  | 108 => ⟨S16384x256, .f32⟩
  | 109 => ⟨S16384x256, .f32⟩
  | 110 => ⟨S16384x256, .f32⟩
  | 111 => ⟨S1x256, .f32⟩
  | 112 => ⟨S16383x256, .f32⟩
  | 113 => ⟨S_, .f32⟩
  | 114 => ⟨S16385x256, .f32⟩
  | 115 => ⟨S_, .f32⟩
  | 116 => ⟨S16385x256, .f32⟩
  | 117 => ⟨S16385x256, .f32⟩
  | 118 => ⟨S_, .f32⟩
  | 119 => ⟨S16385x1024, .f32⟩
  | 120 => ⟨S16385x1024, .f32⟩
  | 121 => ⟨S1x1024, .f32⟩
  | 122 => ⟨S16384x1024, .f32⟩
  | 123 => ⟨S_, .f32⟩
  | 124 => ⟨S_, .f32⟩
  | 125 => ⟨S16384x1024, .f32⟩
  | 126 => ⟨S16384x1024, .f32⟩
  | 127 => ⟨S_, .f32⟩
  | _ => ⟨S16384x1024, .f32⟩

abbrev hbmTy0_2 (i : Nat) : BufTy := match i % 128 with
  | 0 => ⟨S16384x2048, .f32⟩
  | 1 => ⟨S_, .f32⟩
  | 2 => ⟨S16384x2048, .f32⟩
  | 3 => ⟨S16384x2048, .f32⟩
  | 4 => ⟨S1x1024, .f32⟩
  | 5 => ⟨S1x1024, .f32⟩
  | 6 => ⟨S_, .f32⟩
  | 7 => ⟨S6x1024, .f32⟩
  | 8 => ⟨S8x1024, .f32⟩
  | 9 => ⟨S16384x2048, .bf16⟩
  | 10 => ⟨S1024x1024, .bf16⟩
  | 11 => ⟨S4x256x256, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_call0_cst : Ref sig .tc := ⟨.hbm, 14, rfl⟩
abbrev main_call0_call0_v0 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_v92_2 : Ref sig .tc := ⟨.hbm, 122, rfl⟩
abbrev main_call1_cst_1 : Ref sig .tc := ⟨.hbm, 123, rfl⟩
abbrev main_call1_v6 : Ref sig .tc := ⟨.hbm, 124, rfl⟩
abbrev main_call1_v7 : Ref sig .tc := ⟨.hbm, 125, rfl⟩
abbrev main_v92_1 : Ref sig .tc := ⟨.hbm, 126, rfl⟩
abbrev main_v92_0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_v100 : Ref sig .tc := ⟨.hbm, 138, rfl⟩
abbrev main_v101 : Ref sig .tc := ⟨.hbm, 139, rfl⟩
abbrev main_cst_13 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_14 : Ref sig .tc := ⟨.hbm, 145, rfl⟩
abbrev main_v106 : Ref sig .tc := ⟨.hbm, 146, rfl⟩
abbrev main_cst_15 : Ref sig .tc := ⟨.hbm, 147, rfl⟩
abbrev main_v107 : Ref sig .tc := ⟨.hbm, 148, rfl⟩
abbrev main_v108 : Ref sig .tc := ⟨.hbm, 149, rfl⟩
abbrev main_cst_16 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_17 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_18 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_19 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_20 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_21 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_22 : Ref sig .tc := ⟨.hbm, 191, rfl⟩
abbrev main_v144 : Ref sig .tc := ⟨.hbm, 192, rfl⟩
abbrev main_cst_23 : Ref sig .tc := ⟨.hbm, 193, rfl⟩
abbrev main_v145 : Ref sig .tc := ⟨.hbm, 194, rfl⟩
abbrev main_v146 : Ref sig .tc := ⟨.hbm, 195, rfl⟩
abbrev main_cst_24 : Ref sig .tc := ⟨.hbm, 196, rfl⟩
abbrev main_v147 : Ref sig .tc := ⟨.hbm, 197, rfl⟩
abbrev main_v148 : Ref sig .tc := ⟨.hbm, 198, rfl⟩
abbrev main_cst_25 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_26 : Ref sig .tc := ⟨.hbm, 207, rfl⟩
abbrev main_v156 : Ref sig .tc := ⟨.hbm, 208, rfl⟩
abbrev main_cst_27 : Ref sig .tc := ⟨.hbm, 209, rfl⟩
abbrev main_v157 : Ref sig .tc := ⟨.hbm, 210, rfl⟩
abbrev main_v158 : Ref sig .tc := ⟨.hbm, 211, rfl⟩
abbrev main_cst_28 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_29 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_30 : Ref sig .tc := ⟨.hbm, 224, rfl⟩
abbrev main_v169 : Ref sig .tc := ⟨.hbm, 225, rfl⟩
abbrev main_cst_31 : Ref sig .tc := ⟨.hbm, 226, rfl⟩
abbrev main_v170 : Ref sig .tc := ⟨.hbm, 227, rfl⟩
abbrev main_v171 : Ref sig .tc := ⟨.hbm, 228, rfl⟩
abbrev main_cst_32 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_cst_33 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_34 : Ref sig .tc := ⟨.hbm, 241, rfl⟩
abbrev main_v182 : Ref sig .tc := ⟨.hbm, 242, rfl⟩
abbrev main_cst_35 : Ref sig .tc := ⟨.hbm, 243, rfl⟩
abbrev main_v183 : Ref sig .tc := ⟨.hbm, 244, rfl⟩
abbrev main_v184 : Ref sig .tc := ⟨.hbm, 245, rfl⟩
abbrev main_cst_36 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_call3_call0_cst : Ref sig .tc := ⟨.hbm, 251, rfl⟩
abbrev main_call3_call0_v0 : Ref sig .tc := ⟨.hbm, 252, rfl⟩
abbrev main_v189 : Ref sig .tc := ⟨.hbm, 253, rfl⟩
abbrev main_v190 : Ref sig .tc := ⟨.hbm, 254, rfl⟩
abbrev main_cst_37 : Ref sig .tc := ⟨.hbm, 255, rfl⟩
abbrev main_v191 : Ref sig .tc := ⟨.hbm, 256, rfl⟩
abbrev main_cst_38 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_39 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩

abbrev nD : Nat := 1
abbrev τ : Topo := Topo.v7x

variable {F : FTy → Type} [FloatOps F]
-- ==== Kernel2.lean ====
abbrev S16384x3072 : Shape := ⟨2, ![16384, 3072]⟩
abbrev S16384x1024 : Shape := ⟨2, ![16384, 1024]⟩
abbrev S4x1024 : Shape := ⟨2, ![4, 1024]⟩
abbrev S1024x3072 : Shape := ⟨2, ![1024, 3072]⟩
abbrev S4x1x1024 : Shape := ⟨3, ![4, 1, 1024]⟩
abbrev S8x1024 : Shape := ⟨2, ![8, 1024]⟩
abbrev S512x3072 : Shape := ⟨2, ![512, 3072]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩
abbrev S64x8x1024 : Shape := ⟨3, ![64, 8, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x3072, .f32⟩
  | .hbm, ⟨5, _⟩ => ⟨S16384x3072, .bf16⟩
  | .hbm, ⟨6, _⟩ => ⟨S4x1x1024, .f32⟩
  | .hbm, ⟨7, _⟩ => ⟨S1024x3072, .bf16⟩
  | .hbm, ⟨8, _⟩ => ⟨S16384x1024, .f32⟩
  | .hbm, ⟨9, _⟩ => ⟨S1024x3072, .bf16⟩
  | .hbm, ⟨10, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S1024x3072, .bf16⟩
  | .local _ .vmem, ⟨11, _⟩ => ⟨S8x1024, .f32⟩
  | .local _ .vmem, ⟨12, _⟩ => ⟨S8x1024, .f32⟩
  | .local _ .vmem, ⟨13, _⟩ => ⟨S1024x3072, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v55 : BitVec 1 := Scalar.cmpi .eq arg0 c31_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x3072 : Shape := ⟨2, ![16384, 3072]⟩
abbrev S16384x1024 : Shape := ⟨2, ![16384, 1024]⟩
abbrev S4x1024 : Shape := ⟨2, ![4, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S3072x1024 : Shape := ⟨2, ![3072, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x3072, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x3072, .f32⟩
  | .hbm, ⟨28, _⟩ => ⟨S3072x1024, .f32⟩
  | .hbm, ⟨29, _⟩ => ⟨S1024x3072, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1024x3072, .bf16⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S4x1024 : Shape := ⟨2, ![4, 1024]⟩
abbrev S1024x2048 : Shape := ⟨2, ![1024, 2048]⟩
abbrev S4x1x1024 : Shape := ⟨3, ![4, 1, 1024]⟩
abbrev S8x1024 : Shape := ⟨2, ![8, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩
abbrev S64x8x1024 : Shape := ⟨3, ![64, 8, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x2048, .f32⟩
  | .hbm, ⟨5, _⟩ => ⟨S16384x2048, .bf16⟩
  | .hbm, ⟨6, _⟩ => ⟨S4x1x1024, .f32⟩
  | .hbm, ⟨7, _⟩ => ⟨S1024x2048, .bf16⟩
  | .hbm, ⟨8, _⟩ => ⟨S16384x1024, .f32⟩
  | .hbm, ⟨9, _⟩ => ⟨S1024x2048, .bf16⟩
  | .hbm, ⟨10, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S8x1024, .f32⟩
  | .local _ .vmem, ⟨12, _⟩ => ⟨S8x1024, .f32⟩
  | .local _ .vmem, ⟨13, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v55 : BitVec 1 := Scalar.cmpi .eq arg0 c31_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S16384x2048 : Shape := ⟨2, ![16384, 2048]⟩
abbrev S16384x1024 : Shape := ⟨2, ![16384, 1024]⟩
abbrev S4x1024 : Shape := ⟨2, ![4, 1024]⟩
abbrev S1024x2048 : Shape := ⟨2, ![1024, 2048]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S2048x1024 : Shape := ⟨2, ![2048, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x2048, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S2048x1024, .f32⟩
  | .hbm, ⟨29, _⟩ => ⟨S1024x2048, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1024x2048, .bf16⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S4x1024 : Shape := ⟨2, ![4, 1024]⟩
abbrev S1024x2048 : Shape := ⟨2, ![1024, 2048]⟩
abbrev S4x1x1024 : Shape := ⟨3, ![4, 1, 1024]⟩
abbrev S8x1024 : Shape := ⟨2, ![8, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩
abbrev S64x8x1024 : Shape := ⟨3, ![64, 8, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x2048, .f32⟩
  | .hbm, ⟨5, _⟩ => ⟨S16384x2048, .bf16⟩
  | .hbm, ⟨6, _⟩ => ⟨S4x1x1024, .f32⟩
  | .hbm, ⟨7, _⟩ => ⟨S1024x2048, .bf16⟩
  | .hbm, ⟨8, _⟩ => ⟨S16384x1024, .f32⟩
  | .hbm, ⟨9, _⟩ => ⟨S1024x2048, .bf16⟩
  | .hbm, ⟨10, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S8x1024, .f32⟩
  | .local _ .vmem, ⟨12, _⟩ => ⟨S8x1024, .f32⟩
  | .local _ .vmem, ⟨13, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v55 : BitVec 1 := Scalar.cmpi .eq arg0 c31_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S16384x2048 : Shape := ⟨2, ![16384, 2048]⟩
abbrev S16384x1024 : Shape := ⟨2, ![16384, 1024]⟩
abbrev S4x1024 : Shape := ⟨2, ![4, 1024]⟩
abbrev S1024x2048 : Shape := ⟨2, ![1024, 2048]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S2048x1024 : Shape := ⟨2, ![2048, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S4x1024, .f32⟩
  | .hbm, ⟨4, _⟩ => ⟨S1024x2048, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S2048x1024, .f32⟩
  | .hbm, ⟨29, _⟩ => ⟨S1024x2048, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1024x2048, .bf16⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel5.lean ====
abbrev S16384x1024 : Shape := ⟨2, ![16384, 1024]⟩
abbrev S4x1024 : Shape := ⟨2, ![4, 1024]⟩
abbrev S1024x3072 : Shape := ⟨2, ![1024, 3072]⟩
abbrev S4x1x1024 : Shape := ⟨3, ![4, 1, 1024]⟩
abbrev S16384x3072 : Shape := ⟨2, ![16384, 3072]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x3072, .f32⟩
  | .hbm, ⟨3, _⟩ => ⟨S4x1x1024, .f32⟩
  | .hbm, ⟨4, _⟩ => ⟨S1024x3072, .bf16⟩
  | .hbm, ⟨5, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S4x1024 : Shape := ⟨2, ![4, 1024]⟩
abbrev S1024x3072 : Shape := ⟨2, ![1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x3072, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S16384x1024 : Shape := ⟨2, ![16384, 1024]⟩
abbrev S4x1024 : Shape := ⟨2, ![4, 1024]⟩
abbrev S1024x2048 : Shape := ⟨2, ![1024, 2048]⟩
abbrev S4x256x256 : Shape := ⟨3, ![4, 256, 256]⟩
abbrev S2x1024 : Shape := ⟨2, ![2, 1024]⟩
abbrev S1024x1024 : Shape := ⟨2, ![1024, 1024]⟩
abbrev S2x1x1024 : Shape := ⟨3, ![2, 1, 1024]⟩
abbrev S4x1x1024 : Shape := ⟨3, ![4, 1, 1024]⟩
abbrev S16384x2048 : Shape := ⟨2, ![16384, 2048]⟩
abbrev S512x1024 : Shape := ⟨2, ![512, 1024]⟩
abbrev S1x1x1024 : Shape := ⟨3, ![1, 1, 1024]⟩
abbrev S512x2048 : Shape := ⟨2, ![512, 2048]⟩
abbrev S528x1024 : Shape := ⟨2, ![528, 1024]⟩
abbrev S16x1024 : Shape := ⟨2, ![16, 1024]⟩
abbrev S512 : Shape := ⟨1, ![512]⟩
abbrev S512x1 : Shape := ⟨2, ![512, 1]⟩
abbrev S1x1024 : Shape := ⟨2, ![1, 1024]⟩
abbrev S1024x256 : Shape := ⟨2, ![1024, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x2048, .f32⟩
  | .hbm, ⟨3, _⟩ => ⟨S4x256x256, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S2x1x1024, .f32⟩
  | .hbm, ⟨8, _⟩ => ⟨S2x1x1024, .f32⟩
  | .hbm, ⟨9, _⟩ => ⟨S4x1x1024, .f32⟩
  | .hbm, ⟨10, _⟩ => ⟨S1024x2048, .bf16⟩
  | .hbm, ⟨11, _⟩ => ⟨S4x256x256, .bf16⟩
  | .hbm, ⟨12, _⟩ => ⟨S1024x1024, .bf16⟩
  | .hbm, ⟨13, _⟩ => ⟨S16384x1024, .f32⟩
  | .hbm, ⟨14, _⟩ => ⟨S16384x2048, .f32⟩
  | .hbm, ⟨15, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1024x2048, .bf16⟩
  | .local _ .vmem, ⟨6, _⟩ => ⟨S4x256x256, .bf16⟩
  | .local _ .vmem, ⟨7, _⟩ => ⟨S1x1x1024, .f32⟩
  | .local _ .vmem, ⟨8, _⟩ => ⟨S1x1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S528x1024, .f32⟩
  | .local _ .vmem, ⟨17, _⟩ => ⟨S512x1024, .bf16⟩
  | .local _ .vmem, ⟨18, _⟩ => ⟨S512x2048, .f32⟩
  | .local _ .vmem, ⟨19, _⟩ => ⟨S512x1024, .f32⟩
  | .local _ .vmem, ⟨20, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x1024 : Shape := ⟨2, ![16384, 1024]⟩
abbrev S4x1024 : Shape := ⟨2, ![4, 1024]⟩
abbrev S1024x2048 : Shape := ⟨2, ![1024, 2048]⟩
abbrev S4x256x256 : Shape := ⟨3, ![4, 256, 256]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16385x1024 : Shape := ⟨2, ![16385, 1024]⟩
abbrev S16385x256 : Shape := ⟨2, ![16385, 256]⟩
abbrev S16384x256 : Shape := ⟨2, ![16384, 256]⟩
abbrev S16383x256 : Shape := ⟨2, ![16383, 256]⟩
abbrev S16381x256 : Shape := ⟨2, ![16381, 256]⟩
abbrev S16377x256 : Shape := ⟨2, ![16377, 256]⟩
abbrev S16369x256 : Shape := ⟨2, ![16369, 256]⟩
abbrev S1x256x256 : Shape := ⟨3, ![1, 256, 256]⟩
abbrev S256x256 : Shape := ⟨2, ![256, 256]⟩

abbrev nBuf : Space → Nat
  | .hbm => 214
  | .vmem => 0
  | .smem => 0
  | _ => 0

abbrev hbmTy0_0 (i : Nat) : BufTy := match i % 128 with
  | 0 => ⟨S16384x1024, .f32⟩
  | 1 => ⟨S4x1024, .f32⟩
  | 2 => ⟨S1024x2048, .f32⟩
  | 3 => ⟨S4x256x256, .f32⟩
  | 4 => ⟨S2x1024, .f32⟩
  | 5 => ⟨S2x1024, .f32⟩
  | 6 => ⟨S1024x1024, .f32⟩
  | 7 => ⟨S1x1024, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S16384x2048, .f32⟩
  | 26 => ⟨S1x1024, .f32⟩
  | 27 => ⟨S1024, .f32⟩
  | 28 => ⟨S1x1024, .f32⟩
  | 29 => ⟨S1024, .f32⟩
  | 30 => ⟨S16384x1024, .f32⟩
  | 31 => ⟨S16384x1024, .f32⟩
  | 32 => ⟨S_, .f32⟩
  | 33 => ⟨S_, .f32⟩
  | 34 => ⟨S16384x1024, .f32⟩
  | 35 => ⟨S_, .i32⟩
  | 36 => ⟨S_, .f32⟩
  | 37 => ⟨S16385x1024, .f32⟩
  | 38 => ⟨S16384, .i32⟩
  | 39 => ⟨S_, .i32⟩
  | 40 => ⟨S16384, .i32⟩
  | 41 => ⟨S16384, .i32⟩
  | 42 => ⟨S16385x256, .f32⟩
  | 43 => ⟨S16384x256, .f32⟩
  | 44 => ⟨S16383x256, .f32⟩
  | 45 => ⟨S_, .i32⟩
  | 46 => ⟨S_, .f32⟩
  | 47 => ⟨S16384x256, .f32⟩
  | 48 => ⟨S_, .i32⟩
  | 49 => ⟨S16384, .i32⟩
  | 50 => ⟨S16384, .i32⟩
  | 51 => ⟨S16384, .f32⟩
  | 52 => ⟨S16384x1, .f32⟩
  | 53 => ⟨S16384x256, .f32⟩
  | 54 => ⟨S16384x256, .f32⟩
  | 55 => ⟨S16384x256, .f32⟩
  | 56 => ⟨S16384x256, .f32⟩
  | 57 => ⟨S16384x256, .f32⟩
  | 58 => ⟨S16385x256, .f32⟩
  | 59 => ⟨S16384x256, .f32⟩
  | 60 => ⟨S16381x256, .f32⟩
  | 61 => ⟨S_, .i32⟩
  | 62 => ⟨S_, .f32⟩
  | 63 => ⟨S16384x256, .f32⟩
  | 64 => ⟨S_, .i32⟩
  | 65 => ⟨S16384, .i32⟩
  | 66 => ⟨S16384, .i32⟩
  | 67 => ⟨S16384, .f32⟩
  | 68 => ⟨S16384x1, .f32⟩
  | 69 => ⟨S16384x256, .f32⟩
  | 70 => ⟨S16384x256, .f32⟩
  | 71 => ⟨S16384x256, .f32⟩
  | 72 => ⟨S16384x256, .f32⟩
  | 73 => ⟨S16384x256, .f32⟩
  | 74 => ⟨S16385x256, .f32⟩
  | 75 => ⟨S16384x256, .f32⟩
  | 76 => ⟨S16377x256, .f32⟩
  | 77 => ⟨S_, .i32⟩
  | 78 => ⟨S_, .f32⟩
  | 79 => ⟨S16384x256, .f32⟩
  | 80 => ⟨S_, .i32⟩
  | 81 => ⟨S16384, .i32⟩
  | 82 => ⟨S16384, .i32⟩
  | 83 => ⟨S16384, .f32⟩
  | 84 => ⟨S16384x1, .f32⟩
  | 85 => ⟨S16384x256, .f32⟩
  | 86 => ⟨S16384x256, .f32⟩
  | 87 => ⟨S16384x256, .f32⟩
  | 88 => ⟨S16384x256, .f32⟩
  | 89 => ⟨S16384x256, .f32⟩
  | 90 => ⟨S16385x256, .f32⟩
  | 91 => ⟨S16384x256, .f32⟩
  | 92 => ⟨S16369x256, .f32⟩
  | 93 => ⟨S_, .i32⟩
  | 94 => ⟨S_, .f32⟩
  | 95 => ⟨S16384x256, .f32⟩
  | 96 => ⟨S_, .i32⟩
  | 97 => ⟨S16384, .i32⟩
  | 98 => ⟨S16384, .i32⟩
  | 99 => ⟨S16384, .f32⟩
  | 100 => ⟨S16384x1, .f32⟩
  | 101 => ⟨S16384x256, .f32⟩
  | 102 => ⟨S16384x256, .f32⟩
  | 103 => ⟨S16384x256, .f32⟩
  | 104 => ⟨S16384x256, .f32⟩
  | 105 => ⟨S16384x256, .f32⟩
  | 106 => ⟨S1x256x256, .f32⟩
  | 107 => ⟨S256x256, .f32⟩
  | 108 => ⟨S16384x256, .f32⟩
  | 109 => ⟨S1x256x256, .f32⟩
  | 110 => ⟨S256x256, .f32⟩
  | 111 => ⟨S16384x256, .f32⟩
  | 112 => ⟨S1x256x256, .f32⟩
  | 113 => ⟨S256x256, .f32⟩
  | 114 => ⟨S16384x256, .f32⟩
  | 115 => ⟨S1x256x256, .f32⟩
  | 116 => ⟨S256x256, .f32⟩
  | 117 => ⟨S16384x256, .f32⟩
  | 118 => ⟨S16384x1024, .f32⟩
  | 119 => ⟨S1x1024, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S_, .f32⟩
  | 12 => ⟨S16384x1024, .f32⟩
  | 13 => ⟨S_, .i32⟩
  | 14 => ⟨S_, .f32⟩
  | 15 => ⟨S16385x1024, .f32⟩
  | 16 => ⟨S16384, .i32⟩
  | 17 => ⟨S_, .i32⟩
  | 18 => ⟨S16384, .i32⟩
  | 19 => ⟨S16384, .i32⟩
  | 20 => ⟨S16385x256, .f32⟩
  | 21 => ⟨S16384x256, .f32⟩
  | 22 => ⟨S16383x256, .f32⟩
  | 23 => ⟨S_, .i32⟩
  | 24 => ⟨S_, .f32⟩
  | 25 => ⟨S16384x256, .f32⟩
  | 26 => ⟨S_, .i32⟩
  | 27 => ⟨S16384, .i32⟩
  | 28 => ⟨S16384, .i32⟩
  | 29 => ⟨S16384, .f32⟩
  | 30 => ⟨S16384x1, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16385x256, .f32⟩
  | 37 => ⟨S16384x256, .f32⟩
  | 38 => ⟨S16381x256, .f32⟩
  | 39 => ⟨S_, .i32⟩
  | 40 => ⟨S_, .f32⟩
  | 41 => ⟨S16384x256, .f32⟩
  | 42 => ⟨S_, .i32⟩
  | 43 => ⟨S16384, .i32⟩
  | 44 => ⟨S16384, .i32⟩
  | 45 => ⟨S16384, .f32⟩
  | 46 => ⟨S16384x1, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S16385x256, .f32⟩
  | 53 => ⟨S16384x256, .f32⟩
  | 54 => ⟨S16377x256, .f32⟩
  | 55 => ⟨S_, .i32⟩
  | 56 => ⟨S_, .f32⟩
  | 57 => ⟨S16384x256, .f32⟩
  | 58 => ⟨S_, .i32⟩
  | 59 => ⟨S16384, .i32⟩
  | 60 => ⟨S16384, .i32⟩
  | 61 => ⟨S16384, .f32⟩
  | 62 => ⟨S16384x1, .f32⟩
  | 63 => ⟨S16384x256, .f32⟩
  | 64 => ⟨S16384x256, .f32⟩
  | 65 => ⟨S16384x256, .f32⟩
  | 66 => ⟨S16384x256, .f32⟩
  | 67 => ⟨S16384x256, .f32⟩
  | 68 => ⟨S16385x256, .f32⟩
  | 69 => ⟨S16384x256, .f32⟩
  | 70 => ⟨S16369x256, .f32⟩
  | 71 => ⟨S_, .i32⟩
  | 72 => ⟨S_, .f32⟩
  | 73 => ⟨S16384x256, .f32⟩
  | 74 => ⟨S_, .i32⟩
  | 75 => ⟨S16384, .i32⟩
  | 76 => ⟨S16384, .i32⟩
  | 77 => ⟨S16384, .f32⟩
  | 78 => ⟨S16384x1, .f32⟩
  | 79 => ⟨S16384x256, .f32⟩
  | 80 => ⟨S16384x256, .f32⟩
  | 81 => ⟨S16384x256, .f32⟩
  | 82 => ⟨S16384x256, .f32⟩
  | 83 => ⟨S16384x256, .f32⟩
  | 84 => ⟨S16384x1024, .f32⟩
  | 85 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_call0_cst : Ref sig .tc := ⟨.hbm, 32, rfl⟩
abbrev main_call0_call0_v0 : Ref sig .tc := ⟨.hbm, 33, rfl⟩
abbrev main_v22 : Ref sig .tc := ⟨.hbm, 34, rfl⟩
abbrev main_c : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_call2_v0 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_call3_v0 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_call4_v0 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_9 : Ref sig .tc := ⟨.hbm, 93, rfl⟩
abbrev main_call5_v0 : Ref sig .tc := ⟨.hbm, 94, rfl⟩
abbrev main_v69 : Ref sig .tc := ⟨.hbm, 95, rfl⟩
abbrev main_c_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call6_v0 : Ref sig .tc := ⟨.hbm, 125, rfl⟩
abbrev main_call6_v1 : Ref sig .tc := ⟨.hbm, 126, rfl⟩
abbrev main_call6_cst : Ref sig .tc := ⟨.hbm, 127, rfl⟩
abbrev main_call6_v2 : Ref sig .tc := ⟨.hbm, 128, rfl⟩
abbrev main_call6_v3 : Ref sig .tc := ⟨.hbm, 129, rfl⟩
abbrev main_call6_cst_0 : Ref sig .tc := ⟨.hbm, 130, rfl⟩
abbrev main_call6_v4 : Ref sig .tc := ⟨.hbm, 131, rfl⟩
abbrev main_call6_v5 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call7_call0_cst : Ref sig .tc := ⟨.hbm, 138, rfl⟩
abbrev main_call7_call0_v0 : Ref sig .tc := ⟨.hbm, 139, rfl⟩
abbrev main_v103 : Ref sig .tc := ⟨.hbm, 140, rfl⟩
abbrev main_c_11 : Ref sig .tc := ⟨.hbm, 141, rfl⟩
abbrev main_call8_v0 : Ref sig .tc := ⟨.hbm, 142, rfl⟩
abbrev main_v104 : Ref sig .tc := ⟨.hbm, 143, rfl⟩
abbrev main_v105 : Ref sig .tc := ⟨.hbm, 144, rfl⟩
abbrev main_c_12 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_13 : Ref sig .tc := ⟨.hbm, 151, rfl⟩
abbrev main_call9_v0 : Ref sig .tc := ⟨.hbm, 152, rfl⟩
abbrev main_v111 : Ref sig .tc := ⟨.hbm, 153, rfl⟩
abbrev main_c_14 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_15 : Ref sig .tc := ⟨.hbm, 167, rfl⟩
abbrev main_call10_v0 : Ref sig .tc := ⟨.hbm, 168, rfl⟩
abbrev main_v124 : Ref sig .tc := ⟨.hbm, 169, rfl⟩
abbrev main_c_16 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_17 : Ref sig .tc := ⟨.hbm, 183, rfl⟩
abbrev main_call11_v0 : Ref sig .tc := ⟨.hbm, 184, rfl⟩
abbrev main_v137 : Ref sig .tc := ⟨.hbm, 185, rfl⟩
abbrev main_c_18 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_19 : Ref sig .tc := ⟨.hbm, 199, rfl⟩
abbrev main_call12_v0 : Ref sig .tc := ⟨.hbm, 200, rfl⟩
abbrev main_v150 : Ref sig .tc := ⟨.hbm, 201, rfl⟩
abbrev main_c_20 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩

abbrev nD : Nat := 1
abbrev τ : Topo := Topo.v7x

variable {F : FTy → Type} [FloatOps F]
-- ==== Proof.Blk.lean ====
/-
  What one grid point of the backward call leaves in its buffers, written as closed terms over the point's input
  blocks and over what the point before left: the same terms at the first, the middle and the last points.
-/
module

public import proofs.«01_k».proof.Proof.Gen.KernelIdeal.Value

@[expose] public section

set_option maxRecDepth 16384

noncomputable section

open Idealize.ShloMosaic Idealize.ShloMosaic.TcCoe Idealize.SL.Sem Cert.KernelIdeal Cert.KernelIdeal.Gen

namespace Cert.Proof.Blk

variable {F : FTy → Type} [FloatOps F]

/-- A load through a rectangle of what a list of stores left reads the list's contents there. -/
theorem readCov_ld {Val : EltTy → Type} [∀ e, Nonempty (Val e)] {sg : RefSig} {κ : Kind} {sp : Space} {s : Shape} {e : EltTy}
    (v : View sg κ sp s e) (L : List (View.Piece Val s e)) (r : Rect s) :
    v.readCov L r.toLoadRect = View.ld (View.canon L) r := View.readCov_eq_canon' v L _

theorem z2 : (![0, 0] : Fin 2 → ℕ) = fun _ => 0 := by funext a; fin_cases a <;> rfl
theorem z3 : (![0, 0, 0] : Fin 3 → ℕ) = fun _ => 0 := by funext a; fin_cases a <;> rfl

/-- Loads and stores of whole buffers. -/
theorem ldW {e : EltTy} (X : Vec F S1024x1024 e) :
    View.ld X (Rect.unit ![0, 0] ![1024, 1024] inb_S1024x1024_S1024x1024_0_0) = X := View.ld_unit_zero z2 _ X
theorem ldB {e : EltTy} (X : Vec F S512x1024 e) :
    View.ld X (Rect.unit ![0, 0] ![512, 1024] inb_S512x1024_S512x1024_0_0) = X := View.ld_unit_zero z2 _ X
theorem ldV {e : EltTy} (X : Vec F S1x1x1024 e) :
    View.ld X (Rect.unit ![0, 0, 0] ![1, 1, 1024] inb_S1x1x1024_S1x1x1024_0_0_0) = X := View.ld_unit_zero z3 _ X
theorem ldG {e : EltTy} (X : Vec F S4x256x256 e) :
    View.ld X (Rect.unit ![0, 0, 0] ![4, 256, 256] inb_S4x256x256_S4x256x256_0_0_0) = X := View.ld_unit_zero z3 _ X
theorem cW {e : EltTy} (w : Vec F S1024x1024 e) (L : List (View.Piece (Elt F) S1024x1024 e)) :
    View.canon (⟨Rect.unit ![0, 0] ![1024, 1024] inb_S1024x1024_S1024x1024_0_0, w⟩ :: L) = w := View.canon_cons_unit_zero z2 _ w L
theorem cG {e : EltTy} (w : Vec F S4x256x256 e) (L : List (View.Piece (Elt F) S4x256x256 e)) :
    View.canon (⟨Rect.unit ![0, 0, 0] ![4, 256, 256] inb_S4x256x256_S4x256x256_0_0_0, w⟩ :: L) = w := View.canon_cons_unit_zero z3 _ w L
theorem cA {e : EltTy} (w : Vec F S16x1024 e) (L : List (View.Piece (Elt F) S16x1024 e)) :
    View.canon (⟨Rect.unit ![0, 0] ![16, 1024] inb_S16x1024_S16x1024_0_0, w⟩ :: L) = w := View.canon_cons_unit_zero z2 _ w L

/-- Stores that cover an element hide the stores made before them. -/
theorem canon_append {Val : EltTy → Type} [∀ e, Nonempty (Val e)] {s : Shape} {e : EltTy} (M : List (View.Piece Val s e)) :
    ∀ (L : List (View.Piece Val s e)) (y : s.Idx), (∃ p ∈ L, y ∈ p.1.set) → View.canon (L ++ M) y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq'
      · exact absurd hyq hm
      · exact canon_append M L y ⟨q, hq', hyq⟩

/-- A load beside the last store does not see it. -/
theorem ld_miss {Val : EltTy → Type} [∀ e, Nonempty (Val e)] {s : Shape} {e : EltTy} {off size off' size' : Fin s.rank → ℕ}
    (inb : ∀ a, off a + size a ≤ s.size a) (inb' : ∀ a, off' a + size' a ≤ s.size a) (w : (Rect.unit off size inb).shape.Idx → Val e)
    (L : List (View.Piece Val s e)) (a : Fin s.rank) (h : off a + size a ≤ off' a ∨ off' a + size' a ≤ off a) :
    View.ld (View.canon (⟨Rect.unit off size inb, w⟩ :: L)) (Rect.unit off' size' inb') = View.ld (View.canon L) (Rect.unit off' size' inb') := by
  funext x
  show View.canon _ ((Rect.unit off' size' inb').idx x) = View.canon L ((Rect.unit off' size' inb').idx x)
  refine View.canon_cons_of_not_mem _ _ fun hm => ?_
  have h1 := (Rect.mem_set_unit (inb := inb)).mp hm a
  have h2 : ((Rect.unit off' size' inb').idx x a : ℕ) = off' a + 1 * (x a).val := rfl
  have h3 : (x a).val < size' a := (x a).isLt
  omega

section Terms

variable (i : grid0.Coords) (x0 : Vec F S512x1024 .f32) (x1 : Vec F S512x1024 .f32) (x2 : Vec F S512x1024 .bf16) (x3 : Vec F S4x256x256 .bf16) (x4 : Vec F S1x1x1024 .f32) (x5 : Vec F S1x1x1024 .f32) (x6 : Vec F S1024x1024 .bf16)
  (h : Vec F S16x1024 .f32) (q1 : Vec F S16x1024 .f32) (q2 : Vec F S1024x1024 .f32) (q3 : Vec F S4x256x256 .f32)

/-- The tile's number, as the body computes it: tiles are taken last to first. -/
def v0 : BitVec 32 := Scalar.subi (31#32) (BitVec.ofNat 32 ↑(i 0))

/-- Matrix `g` of the four grouped weights. -/
def w0 : Vec F S1x256x256 .bf16 := View.ld x3 (Rect.unit ![0, 0, 0] ![1, 256, 256] inb_S4x256x256_S1x256x256_0_0_0)
def w1 : Vec F S1x256x256 .bf16 := View.ld x3 (Rect.unit ![1, 0, 0] ![1, 256, 256] inb_S4x256x256_S1x256x256_1_0_0)
def w2 : Vec F S1x256x256 .bf16 := View.ld x3 (Rect.unit ![2, 0, 0] ![1, 256, 256] inb_S4x256x256_S1x256x256_2_0_0)
def w3 : Vec F S1x256x256 .bf16 := View.ld x3 (Rect.unit ![3, 0, 0] ![1, 256, 256] inb_S4x256x256_S1x256x256_3_0_0)

/-- The bias and the scale, one row each. -/
def bg : FVec F S1x1024 .f32 := k0_pay14 (View.ld x4 (Rect.unit ![0, 0, 0] ![1, 1, 1024] inb_S1x1x1024_S1x1x1024_0_0_0))
def sc : FVec F S1x1024 .f32 := k0_pay15 (View.ld x5 (Rect.unit ![0, 0, 0] ![1, 1, 1024] inb_S1x1x1024_S1x1x1024_0_0_0))

/-- The gate's input and the incoming gradient, whole blocks. -/
def zb : Vec F S512x1024 .f32 := View.ld x1 (Rect.unit ![0, 0] ![512, 1024] inb_S512x1024_S512x1024_0_0)
def db : Vec F S512x1024 .f32 := View.ld x0 (Rect.unit ![0, 0] ![512, 1024] inb_S512x1024_S512x1024_0_0)
def wo : Vec F S1024x1024 .bf16 := View.ld x6 (Rect.unit ![0, 0] ![1024, 1024] inb_S1024x1024_S1024x1024_0_0)

/-- The four column groups of the window means. -/
def d0 : Vec F S512x256 .bf16 := View.ld x2 (Rect.unit ![0, 0] ![512, 256] inb_S512x1024_S512x256_0_0)
def d1 : Vec F S512x256 .bf16 := View.ld x2 (Rect.unit ![0, 256] ![512, 256] inb_S512x1024_S512x256_0_256)
def d2 : Vec F S512x256 .bf16 := View.ld x2 (Rect.unit ![0, 512] ![512, 256] inb_S512x1024_S512x256_0_512)
def d3 : Vec F S512x256 .bf16 := View.ld x2 (Rect.unit ![0, 768] ![512, 256] inb_S512x1024_S512x256_0_768)

/-- The grouped product plus the bias. -/
def obV : FVec F S512x1024 .f32 :=
  k0_pay23 (bg x4) (k0_pay18 (d2 x2)) (k0_pay19 (d3 x2)) (k0_pay20 (d0 x2) (w0 x3)) (k0_pay21 (d1 x2) (w1 x3)) (k0_pay22 (w2 x3)) (w3 x3)

/-- The gradient at the gated sum, and behind the scale. -/
def dy1V : FVec F S512x1024 .f32 := k0_pay30 (zb x1) (db x0) (wo x6)
def doV : FVec F S512x1024 .f32 := k0_pay33 (sc x5) (dy1V x0 x1 x6)

def cst : FVec F S512x256 .f32 := constant S512x256 .f32 0x00000000#32

/-- The gradient at the window means, group by group. -/
def dd0 : FVec F S512x256 .f32 := k0_pay37 (sc x5) (dy1V x0 x1 x6) (w0 x3)
def dd1 : FVec F S512x256 .f32 := k0_pay43 (doV x0 x1 x5 x6) (w1 x3)
def dd2 : FVec F S512x256 .f32 := k0_pay49 (doV x0 x1 x5 x6) (w2 x3)
def dd3 : FVec F S512x256 .f32 := k0_pay1 (k0_pay53 (doV x0 x1 x5 x6)) (k0_pay55 (w3 x3)) cst

/-- The pieces of the tile's scaled gradient, group by group, over the sixteen rows carried from the tile after it. -/
def E0 : List (View.Piece (Elt F) S528x1024 .f32) :=
  [⟨Rect.unit ![0, 0] ![512, 256] inb_S528x1024_S512x256_0_0, k0_pay39 (dd0 x0 x1 x3 x5 x6) (k0_pay38 (v0 i))⟩,
   ⟨Rect.unit ![512, 0] ![16, 1024] inb_S528x1024_S16x1024_512_0, h⟩]
def E1 : List (View.Piece (Elt F) S528x1024 .f32) :=
  ⟨Rect.unit ![0, 256] ![512, 256] inb_S528x1024_S512x256_0_256, k0_pay45 (dd1 x0 x1 x3 x5 x6) (k0_pay44 (v0 i))⟩ :: E0 i x0 x1 x3 x5 x6 h
def E2 : List (View.Piece (Elt F) S528x1024 .f32) :=
  ⟨Rect.unit ![0, 512] ![512, 256] inb_S528x1024_S512x256_0_512, k0_pay51 (dd2 x0 x1 x3 x5 x6) (k0_pay50 (v0 i))⟩ :: E1 i x0 x1 x3 x5 x6 h
def E3 : List (View.Piece (Elt F) S528x1024 .f32) :=
  ⟨Rect.unit ![0, 768] ![512, 256] inb_S528x1024_S512x256_0_768,
    k0_pay2 (v0 i) (k0_pay53 (doV x0 x1 x5 x6)) (k0_pay55 (w3 x3)) cst⟩ :: E2 i x0 x1 x3 x5 x6 h

/-- The scaled gradient's buffer after the point. -/
def S0 : Vec F S528x1024 .f32 := View.canon (E3 i x0 x1 x3 x5 x6 h)

/-- The block of the input's gradient. -/
def W7 : Vec F S512x2048 .bf16 := View.canon
  [⟨Rect.unit ![0, 768] ![512, 256] inb_S512x2048_S512x256_0_768,
     k0_pay3 (k0_pay53 (doV x0 x1 x5 x6)) (k0_pay55 (w3 x3)) cst
       (View.ld (View.canon (E3 i x0 x1 x3 x5 x6 h)) (Rect.unit ![0, 768] ![528, 256] inb_S528x1024_S528x256_0_768))⟩,
   ⟨Rect.unit ![0, 512] ![512, 256] inb_S512x2048_S512x256_0_512,
     k0_pay52 (dd2 x0 x1 x3 x5 x6)
       (View.ld (View.canon (E2 i x0 x1 x3 x5 x6 h)) (Rect.unit ![0, 512] ![528, 256] inb_S528x1024_S528x256_0_512))⟩,
   ⟨Rect.unit ![0, 256] ![512, 256] inb_S512x2048_S512x256_0_256,
     k0_pay46 (dd1 x0 x1 x3 x5 x6)
       (View.ld (View.canon (E1 i x0 x1 x3 x5 x6 h)) (Rect.unit ![0, 256] ![528, 256] inb_S528x1024_S528x256_0_256))⟩,
   ⟨Rect.unit ![0, 0] ![512, 256] inb_S512x2048_S512x256_0_0,
     k0_pay40 (dd0 x0 x1 x3 x5 x6)
       (View.ld (View.canon (E0 i x0 x1 x3 x5 x6 h)) (Rect.unit ![0, 0] ![528, 256] inb_S528x1024_S528x256_0_0))⟩,
   ⟨Rect.unit ![0, 1024] ![512, 1024] inb_S512x2048_S512x1024_0_1024,
     k0_pay31 (bg x4) (sc x5) (k0_pay18 (d2 x2)) (k0_pay19 (d3 x2)) (k0_pay20 (d0 x2) (w0 x3)) (k0_pay21 (d1 x2) (w1 x3)) (k0_pay22 (w2 x3)) (w3 x3)
       (zb x1) (db x0) (wo x6)⟩]

/-- The two vectors' running sums, eight rows each, after the point. -/
def S1 : Vec F S16x1024 .f32 := View.canon
  [⟨Rect.unit ![0, 0] ![8, 1024] inb_S16x1024_S8x1024_0_0,
     k0_pay34 (sc x5) (dy1V x0 x1 x6) (View.ld q1 (Rect.unit ![0, 0] ![8, 1024] inb_S16x1024_S8x1024_0_0))⟩,
   ⟨Rect.unit ![8, 0] ![8, 1024] inb_S16x1024_S8x1024_8_0,
     k0_pay32 (obV x2 x3 x4) (dy1V x0 x1 x6) (View.ld q1 (Rect.unit ![8, 0] ![8, 1024] inb_S16x1024_S8x1024_8_0))⟩]

/-- The output weight's gradient so far. -/
def S2 : Vec F S1024x1024 .f32 :=
  k0_pay29 (bg x4) (sc x5) (k0_pay18 (d2 x2)) (k0_pay19 (d3 x2)) (k0_pay20 (d0 x2) (w0 x3)) (k0_pay21 (d1 x2) (w1 x3)) (k0_pay22 (w2 x3)) (w3 x3)
    (zb x1) (db x0) q2

/-- The grouped weights' gradient so far. -/
def S3 : Vec F S4x256x256 .f32 := View.canon
  [⟨Rect.unit ![3, 0, 0] ![1, 256, 256] inb_S4x256x256_S1x256x256_3_0_0,
     k0_pay54 (k0_pay19 (d3 x2)) (doV x0 x1 x5 x6) (View.ld q3 (Rect.unit ![3, 0, 0] ![1, 256, 256] inb_S4x256x256_S1x256x256_3_0_0))⟩,
   ⟨Rect.unit ![2, 0, 0] ![1, 256, 256] inb_S4x256x256_S1x256x256_2_0_0,
     k0_pay48 (k0_pay18 (d2 x2)) (doV x0 x1 x5 x6) (View.ld q3 (Rect.unit ![2, 0, 0] ![1, 256, 256] inb_S4x256x256_S1x256x256_2_0_0))⟩,
   ⟨Rect.unit ![1, 0, 0] ![1, 256, 256] inb_S4x256x256_S1x256x256_1_0_0,
     k0_pay42 (k0_pay17 (d1 x2)) (doV x0 x1 x5 x6) (View.ld q3 (Rect.unit ![1, 0, 0] ![1, 256, 256] inb_S4x256x256_S1x256x256_1_0_0))⟩,
   ⟨Rect.unit ![0, 0, 0] ![1, 256, 256] inb_S4x256x256_S1x256x256_0_0_0,
     k0_pay36 (sc x5) (k0_pay16 (d0 x2)) (dy1V x0 x1 x6) (View.ld q3 (Rect.unit ![0, 0, 0] ![1, 256, 256] inb_S4x256x256_S1x256x256_0_0_0))⟩]

/-- The two vectors' gradients, written at the last point from the running sums. -/
def W10 (s : Vec F S16x1024 .f32) : Vec F S8x1024 .f32 := View.canon
  [⟨Rect.unit ![1, 0] ![1, 1024] inb_S8x1024_S1x1024_1_0, k0_pay8 (View.ld s (Rect.unit ![8, 0] ![8, 1024] inb_S16x1024_S8x1024_8_0))⟩,
   ⟨Rect.unit ![0, 0] ![1, 1024] inb_S8x1024_S1x1024_0_0, k0_pay7 (View.ld s (Rect.unit ![0, 0] ![8, 1024] inb_S16x1024_S8x1024_0_0))⟩,
   ⟨Rect.unit ![0, 0] ![8, 1024] inb_S8x1024_S8x1024_0_0, k0_pay6⟩]

end Terms

section Cases

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S4x256x256 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S1024x1024 .bf16) (harg9 : arg9.IsWhole) (arg10 : Memref sig .tc .vmem S4x256x256 .bf16) (harg10 : arg10.IsWhole) (arg11 : Memref sig .tc .vmem S8x1024 .f32) (harg11 : arg11.IsWhole) (arg12 : Memref sig .tc .vmem S528x1024 .f32) (harg12 : arg12.IsWhole) (arg13 : Memref sig .tc .vmem S16x1024 .f32) (harg13 : arg13.IsWhole) (arg14 : Memref sig .tc .vmem S1024x1024 .f32) (harg14 : arg14.IsWhole) (arg15 : Memref sig .tc .vmem S4x256x256 .f32) (harg15 : arg15.IsWhole)
  (x0 : Vec F S512x1024 .f32) (x1 : Vec F S512x1024 .f32) (x2 : Vec F S512x1024 .bf16) (x3 : Vec F S4x256x256 .bf16) (x4 : Vec F S1x1x1024 .f32) (x5 : Vec F S1x1x1024 .f32) (x6 : Vec F S1024x1024 .bf16)
  (xs0 : Vec F S528x1024 .f32) (xs1 : Vec F S16x1024 .f32) (xs2 : Vec F S1024x1024 .f32) (xs3 : Vec F S4x256x256 .f32)

theorem out_B_7 (hc0 : ¬cond0_0 i) (hc1 : cond0_1 i) (hc2 : ¬cond0_2 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = W7 i x0 x1 x2 x3 x4 x5 x6 (k0_pay13 (View.ld xs0 (Rect.unit ![0, 0] ![16, 1024] inb_S528x1024_S16x1024_0_0))) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_B_0 (hc0 : ¬cond0_0 i) (hc1 : cond0_1 i) (hc2 : ¬cond0_2 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S0 i x0 x1 x3 x5 x6 (k0_pay13 (View.ld xs0 (Rect.unit ![0, 0] ![16, 1024] inb_S528x1024_S16x1024_0_0))) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_B_1 (hc0 : ¬cond0_0 i) (hc1 : cond0_1 i) (hc2 : ¬cond0_2 i) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S1 x0 x1 x2 x3 x4 x5 x6 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_B_2 (hc0 : ¬cond0_0 i) (hc1 : cond0_1 i) (hc2 : ¬cond0_2 i) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S2 x0 x1 x2 x3 x4 x5 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [cW, ldW xs2]; rfl

theorem sout_B_3 (hc0 : ¬cond0_0 i) (hc1 : cond0_1 i) (hc2 : ¬cond0_2 i) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S3 x0 x1 x2 x5 x6 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem out_C_7 (hc0 : ¬cond0_0 i) (hc1 : cond0_1 i) (hc2 : cond0_2 i) : out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = W7 i x0 x1 x2 x3 x4 x5 x6 (k0_pay13 (View.ld xs0 (Rect.unit ![0, 0] ![16, 1024] inb_S528x1024_S16x1024_0_0))) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_C_0 (hc0 : ¬cond0_0 i) (hc1 : cond0_1 i) (hc2 : cond0_2 i) : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S0 i x0 x1 x3 x5 x6 (k0_pay13 (View.ld xs0 (Rect.unit ![0, 0] ![16, 1024] inb_S528x1024_S16x1024_0_0))) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_C_1 (hc0 : ¬cond0_0 i) (hc1 : cond0_1 i) (hc2 : cond0_2 i) : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S1 x0 x1 x2 x3 x4 x5 x6 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_C_2 (hc0 : ¬cond0_0 i) (hc1 : cond0_1 i) (hc2 : cond0_2 i) : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S2 x0 x1 x2 x3 x4 x5 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [cW, ldW xs2]; rfl

theorem sout_C_3 (hc0 : ¬cond0_0 i) (hc1 : cond0_1 i) (hc2 : cond0_2 i) : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = S3 x0 x1 x2 x5 x6 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem out_C_8 (hc0 : ¬cond0_0 i) (hc1 : cond0_1 i) (hc2 : cond0_2 i) : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = k0_pay4 (S2 x0 x1 x2 x3 x4 x5 xs2) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [cW, ldW (View.canon _), cW, ldW xs2]; rfl

theorem out_C_9 (hc0 : ¬cond0_0 i) (hc1 : cond0_1 i) (hc2 : cond0_2 i) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = k0_pay5 (S3 x0 x1 x2 x5 x6 xs3) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [cG, ldG]; rfl

theorem out_C_10 (hc0 : ¬cond0_0 i) (hc1 : cond0_1 i) (hc2 : cond0_2 i) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3 = W10 (S1 x0 x1 x2 x3 x4 x5 x6 xs1) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 xs0 xs1 xs2 xs3)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem out_A_7 (hc0 : cond0_0 i) (hc1 : ¬cond0_1 i) (hc2 : ¬cond0_2 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6  = W7 i x0 x1 x2 x3 x4 x5 x6 k0_pay12 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_A_0 (hc0 : cond0_0 i) (hc1 : ¬cond0_1 i) (hc2 : ¬cond0_2 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6  = S0 i x0 x1 x3 x5 x6 k0_pay12 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rfl

theorem sout_A_1 (hc0 : cond0_0 i) (hc1 : ¬cond0_1 i) (hc2 : ¬cond0_2 i) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6  = S1 x0 x1 x2 x3 x4 x5 x6 k0_pay11 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [ld_miss (s := S16x1024) inb_S16x1024_S8x1024_8_0 inb_S16x1024_S8x1024_0_0 _ _ 0 (by decide), cA]
  funext y
  exact canon_append [_] [_, _] y (View.cover_of_tiledL (s := S16x1024) _ ![8, 1024] (by sl_kernel_rfl) y)

theorem sout_A_2 (hc0 : cond0_0 i) (hc1 : ¬cond0_1 i) (hc2 : ¬cond0_2 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6  = S2 x0 x1 x2 x3 x4 x5 k0_pay9 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [cW, ldW, cW]; rfl

theorem sout_A_3 (hc0 : cond0_0 i) (hc1 : ¬cond0_1 i) (hc2 : ¬cond0_2 i) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6  = S3 x0 x1 x2 x5 x6 k0_pay10 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 )]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, readCov_ld]
  rw [ld_miss (s := S4x256x256) inb_S4x256x256_S1x256x256_2_0_0 inb_S4x256x256_S1x256x256_3_0_0 _ _ 0 (by decide), ld_miss (s := S4x256x256) inb_S4x256x256_S1x256x256_1_0_0 inb_S4x256x256_S1x256x256_3_0_0 _ _ 0 (by decide), ld_miss (s := S4x256x256) inb_S4x256x256_S1x256x256_0_0_0 inb_S4x256x256_S1x256x256_3_0_0 _ _ 0 (by decide), ld_miss (s := S4x256x256) inb_S4x256x256_S1x256x256_1_0_0 inb_S4x256x256_S1x256x256_2_0_0 _ _ 0 (by decide), ld_miss (s := S4x256x256) inb_S4x256x256_S1x256x256_0_0_0 inb_S4x256x256_S1x256x256_2_0_0 _ _ 0 (by decide), ld_miss (s := S4x256x256) inb_S4x256x256_S1x256x256_0_0_0 inb_S4x256x256_S1x256x256_1_0_0 _ _ 0 (by decide), cG]
  funext y
  exact canon_append [_] [_, _, _, _] y (View.cover_of_tiledL (s := S4x256x256) _ ![1, 256, 256] (by sl_kernel_rfl) y)

end Cases

end Cert.Proof.Blk

end
-- ==== Proof.Spec.lean ====
/-
  The backward pass of the pooled gated block, as mathematics over the extended reals: for every token and channel the
  grouped product, the gate, the gradient behind them, the windows' gradient, and the sums over the tokens that are the
  parameters' gradients. No program is mentioned here.
-/
module

public import Idealize.ShloMosaic.Lib.Pointwise

@[expose] public section

noncomputable section

open Idealize.ShloMosaic

namespace Cert.Proof

/-- Channel `256 g + k`. -/
def col (g : Fin 4) (k : Fin 256) : Fin 1024 := ⟨256 * g.val + k.val, by have := g.isLt; have := k.isLt; omega⟩
/-- A channel's group, and its place in the group. -/
def gOf (c : Fin 1024) : Fin 4 := ⟨c.val / 256, by have := c.isLt; omega⟩
def rOf (c : Fin 1024) : Fin 256 := ⟨c.val % 256, by omega⟩

theorem col_of (c : Fin 1024) : col (gOf c) (rOf c) = c := Fin.ext (by simp only [col, gOf, rOf]; omega)
theorem gOf_col (g : Fin 4) (k : Fin 256) : gOf (col g k) = g :=
  Fin.ext (by have := k.isLt; simp only [col, gOf]; omega)
theorem rOf_col (g : Fin 4) (k : Fin 256) : rOf (col g k) = k :=
  Fin.ext (by have := k.isLt; simp only [col, rOf]; omega)

/-- The width of a group's window: 2, 4, 8, 16 tokens. -/
def wid (g : Fin 4) : ℕ := 2 ^ (g.val + 1)
/-- How many tokens the window ending at token `p` holds. -/
def cnt (g : Fin 4) (p : ℕ) : ℕ := min (p + 1) (wid g)

/-- The arrays of the backward pass: the incoming gradient, the gate's input, the window means less the token, the
    grouped weights, the bias, the scale and the output weight. -/
structure Inp where
  D : Fin 16384 → Fin 1024 → EReal
  Z : Fin 16384 → Fin 1024 → EReal
  d : Fin 16384 → Fin 1024 → EReal
  W : Fin 4 → Fin 256 → Fin 256 → EReal
  b : Fin 1024 → EReal
  s : Fin 1024 → EReal
  Wo : Fin 1024 → Fin 1024 → EReal

namespace Inp

variable (A : Inp) (t : Fin 16384) (c : Fin 1024)

/-- The grouped product plus the bias. -/
def ob : EReal := (∑ k : Fin 256, A.d t (col (gOf c) k) * A.W (gOf c) k (rOf c)) + A.b c
/-- The gate. -/
def lg : EReal := Ideal.logistic (A.Z t c)
def sz : EReal := A.Z t c * A.lg t c
/-- The gated value before the output product. -/
def y2 : EReal := (A.ob t c * A.s c) * A.sz t c
/-- The gradient at the gated value. -/
def dy2 : EReal := ∑ k : Fin 1024, A.D t k * A.Wo c k
def dy1 : EReal := A.dy2 t c * A.sz t c
/-- The gradient behind the scale. -/
def dov : EReal := A.dy1 t c * A.s c
/-- The gradient at the window means. -/
def dd : EReal := ∑ k : Fin 256, A.dov t (col (gOf c) k) * A.W (gOf c) (rOf c) k
/-- The gradient at the gate's input. -/
def dz : EReal := (A.dy2 t c * (A.ob t c * A.s c)) * (A.lg t c * (1 + A.Z t c * (1 - A.lg t c)))
/-- The windows' gradient over the windows' counts, nothing past the last token. -/
def ee (p : ℕ) : EReal :=
  if h : p < 16384 then A.dd ⟨p, h⟩ c * Ideal.div 1 ((cnt (gOf c) p : ℝ) : EReal) else 0
/-- The gradient at the pooled input: the windows that hold the token, less the token's own. -/
def du : EReal := (∑ j ∈ Finset.range (wid (gOf c)), A.ee c (t.val + j)) - A.dd t c

/-- The parameters' gradients, over all tokens. -/
def dwo (d : Fin 1024) : EReal := ∑ t : Fin 16384, A.y2 t c * A.D t d
def dwg (g : Fin 4) (k k' : Fin 256) : EReal := ∑ t : Fin 16384, A.d t (col g k) * A.dov t (col g k')
def dbg : EReal := ∑ t : Fin 16384, A.dov t c
def dsc : EReal := ∑ t : Fin 16384, A.dy1 t c * A.ob t c

end Inp

/-- Row `r` of the tile that grid point `n` works on: the tiles are taken last to first. -/
def tok (n : Fin 32) (r : Fin 512) : Fin 16384 := ⟨512 * (31 - n.val) + r.val, by have := n.isLt; have := r.isLt; omega⟩

end Cert.Proof

end
-- ==== Proof.Rows.lean ====
/-
  What one grid point computes, read element by element: the point's terms over its blocks are the mathematics of
  `Spec` at the tile's tokens.
-/
module

public import proofs.«01_k».proof.Proof.Blk
public import proofs.«01_k».proof.Proof.Spec
public import Idealize.ShloMosaic.Lib.Tactic.WordOmega

@[expose] public section

set_option maxRecDepth 16384

noncomputable section

open Idealize.ShloMosaic Idealize.ShloMosaic.TcCoe Idealize.SL.Sem Cert.KernelIdeal Cert.KernelIdeal.Gen Cert.Proof.Blk

namespace Cert.Proof.Rows

variable {A : Inp} {n : Fin 32} {i : grid0.Coords}
  {x0 : Vec Ideal S512x1024 .f32} {x1 : Vec Ideal S512x1024 .f32} {x2 : Vec Ideal S512x1024 .bf16} {x3 : Vec Ideal S4x256x256 .bf16}
  {x4 : Vec Ideal S1x1x1024 .f32} {x5 : Vec Ideal S1x1x1024 .f32} {x6 : Vec Ideal S1024x1024 .bf16}

/-- The blocks hold the arrays' rows of tile `n`. -/
structure IsBlk (A : Inp) (n : Fin 32) (i : grid0.Coords)
    (x0 : Vec Ideal S512x1024 .f32) (x1 : Vec Ideal S512x1024 .f32) (x2 : Vec Ideal S512x1024 .bf16) (x3 : Vec Ideal S4x256x256 .bf16)
    (x4 : Vec Ideal S1x1x1024 .f32) (x5 : Vec Ideal S1x1x1024 .f32) (x6 : Vec Ideal S1024x1024 .bf16) : Prop where
  hi : (i 0).val = n.val
  h0 : ∀ r c, x0 (ix2 r c) = A.D (tok n r) c
  h1 : ∀ r c, x1 (ix2 r c) = A.Z (tok n r) c
  h2 : ∀ r c, x2 (ix2 r c) = A.d (tok n r) c
  h3 : ∀ g k k', x3 (ix3 g k k') = A.W g k k'
  h4 : ∀ c, x4 (ix3 0 0 c) = A.b c
  h5 : ∀ c, x5 (ix3 0 0 c) = A.s c
  h6 : ∀ c k, x6 (ix2 c k) = A.Wo c k

variable (H : IsBlk A n i x0 x1 x2 x3 x4 x5 x6)

theorem col0 (k : Fin 256) : col 0 k = ⟨k.val, by omega⟩ := Fin.ext (by simp [col])
theorem col1 (k : Fin 256) : col 1 k = ⟨256 + k.val, by omega⟩ := Fin.ext (by simp [col])
theorem col2 (k : Fin 256) : col 2 k = ⟨512 + k.val, by omega⟩ := Fin.ext (by simp [col])
theorem col3 (k : Fin 256) : col 3 k = ⟨768 + k.val, by omega⟩ := Fin.ext (by simp [col])

section Pieces

variable {e : EltTy}

/-- The latest piece at an element of its own. -/
theorem hit2 {N M p q a b : ℕ} (inb : ∀ d, (![a, b] : Fin 2 → ℕ) d + (![p, q] : Fin 2 → ℕ) d ≤ (⟨2, ![N, M]⟩ : Shape).size d)
    (w : (⟨2, ![p, q]⟩ : Shape).Idx → Elt Ideal e) (L : List (View.Piece (Elt Ideal) ⟨2, ![N, M]⟩ e))
    (y0 : Fin N) (y1 : Fin M) (x0 : Fin p) (x1 : Fin q) (h0 : y0.val = a + x0.val) (h1 : y1.val = b + x1.val) :
    View.canon ((⟨Rect.unit ![a, b] ![p, q] inb, w⟩ : View.Piece (Elt Ideal) ⟨2, ![N, M]⟩ e) :: L) (ix2 y0 y1) = w (ix2 x0 x1) := by
  have hy : (ix2 y0 y1 : (⟨2, ![N, M]⟩ : Shape).Idx) = (Rect.unit (s := ⟨2, ![N, M]⟩) ![a, b] ![p, q] inb).emb (ix2 x0 x1) := by
    funext d
    apply Fin.ext
    have h2 : ∀ d, ((Rect.unit (s := ⟨2, ![N, M]⟩) ![a, b] ![p, q] inb).emb (ix2 x0 x1) d : ℕ) = ![a, b] d + 1 * (ix2 x0 x1 d).val := fun _ => rfl
    rw [h2]
    match d with
    | ⟨0, _⟩ => show y0.val = a + 1 * x0.val; omega
    | ⟨1, _⟩ => show y1.val = b + 1 * x1.val; omega
  rw [hy]
  exact View.canon_cons_emb _ _ _ _

/-- The latest piece passed over, for an element outside it. -/
theorem miss2 {N M p q a b : ℕ} (inb : ∀ d, (![a, b] : Fin 2 → ℕ) d + (![p, q] : Fin 2 → ℕ) d ≤ (⟨2, ![N, M]⟩ : Shape).size d)
    (w : (⟨2, ![p, q]⟩ : Shape).Idx → Elt Ideal e) (L : List (View.Piece (Elt Ideal) ⟨2, ![N, M]⟩ e))
    (y0 : Fin N) (y1 : Fin M) (h : (y0.val < a ∨ a + p ≤ y0.val) ∨ (y1.val < b ∨ b + q ≤ y1.val)) :
    View.canon ((⟨Rect.unit ![a, b] ![p, q] inb, w⟩ : View.Piece (Elt Ideal) ⟨2, ![N, M]⟩ e) :: L) (ix2 y0 y1) = View.canon L (ix2 y0 y1) := by
  refine View.canon_cons_of_not_mem _ _ fun hm => ?_
  have h1 := (Rect.mem_set_unit (inb := inb)).mp hm
  have h2 : a ≤ y0.val ∧ y0.val < a + p := h1 0
  have h3 : b ≤ y1.val ∧ y1.val < b + q := h1 1
  omega

theorem hit3 {N M K p q r a b c : ℕ}
    (inb : ∀ d, (![a, b, c] : Fin 3 → ℕ) d + (![p, q, r] : Fin 3 → ℕ) d ≤ (⟨3, ![N, M, K]⟩ : Shape).size d)
    (w : (⟨3, ![p, q, r]⟩ : Shape).Idx → Elt Ideal e) (L : List (View.Piece (Elt Ideal) ⟨3, ![N, M, K]⟩ e))
    (y0 : Fin N) (y1 : Fin M) (y2 : Fin K) (x0 : Fin p) (x1 : Fin q) (x2 : Fin r)
    (h0 : y0.val = a + x0.val) (h1 : y1.val = b + x1.val) (h2 : y2.val = c + x2.val) :
    View.canon ((⟨Rect.unit ![a, b, c] ![p, q, r] inb, w⟩ : View.Piece (Elt Ideal) ⟨3, ![N, M, K]⟩ e) :: L) (ix3 y0 y1 y2)
      = w (ix3 x0 x1 x2) := by
  have hy : (ix3 y0 y1 y2 : (⟨3, ![N, M, K]⟩ : Shape).Idx) = (Rect.unit (s := ⟨3, ![N, M, K]⟩) ![a, b, c] ![p, q, r] inb).emb (ix3 x0 x1 x2) := by
    funext d
    apply Fin.ext
    have h2 : ∀ d, ((Rect.unit (s := ⟨3, ![N, M, K]⟩) ![a, b, c] ![p, q, r] inb).emb (ix3 x0 x1 x2) d : ℕ) = ![a, b, c] d + 1 * (ix3 x0 x1 x2 d).val := fun _ => rfl
    rw [h2]
    match d with
    | ⟨0, _⟩ => show y0.val = a + 1 * x0.val; omega
    | ⟨1, _⟩ => show y1.val = b + 1 * x1.val; omega
    | ⟨2, _⟩ => show y2.val = c + 1 * x2.val; omega
  rw [hy]
  exact View.canon_cons_emb _ _ _ _

theorem miss3 {N M K p q r a b c : ℕ}
    (inb : ∀ d, (![a, b, c] : Fin 3 → ℕ) d + (![p, q, r] : Fin 3 → ℕ) d ≤ (⟨3, ![N, M, K]⟩ : Shape).size d)
    (w : (⟨3, ![p, q, r]⟩ : Shape).Idx → Elt Ideal e) (L : List (View.Piece (Elt Ideal) ⟨3, ![N, M, K]⟩ e))
    (y0 : Fin N) (y1 : Fin M) (y2 : Fin K) (h : y0.val < a ∨ a + p ≤ y0.val) :
    View.canon ((⟨Rect.unit ![a, b, c] ![p, q, r] inb, w⟩ : View.Piece (Elt Ideal) ⟨3, ![N, M, K]⟩ e) :: L) (ix3 y0 y1 y2)
      = View.canon L (ix3 y0 y1 y2) := by
  refine View.canon_cons_of_not_mem _ _ fun hm => ?_
  have h1 := (Rect.mem_set_unit (inb := inb)).mp hm
  have h2 : a ≤ y0.val ∧ y0.val < a + p := h1 0
  omega

theorem ld2 {N M p q a b : ℕ} (inb : ∀ d, (![a, b] : Fin 2 → ℕ) d + (![p, q] : Fin 2 → ℕ) d ≤ (⟨2, ![N, M]⟩ : Shape).size d)
    (X : (⟨2, ![N, M]⟩ : Shape).Idx → Elt Ideal e) (x0 : Fin p) (x1 : Fin q) (y0 : Fin N) (y1 : Fin M)
    (h0 : y0.val = a + x0.val) (h1 : y1.val = b + x1.val) :
    View.ld X (Rect.unit (s := ⟨2, ![N, M]⟩) ![a, b] ![p, q] inb) (ix2 x0 x1) = X (ix2 y0 y1) := by
  show X _ = X _
  congr 1
  funext d
  apply Fin.ext
  have h2 : ∀ d, ((Rect.unit (s := ⟨2, ![N, M]⟩) ![a, b] ![p, q] inb).idx (ix2 x0 x1) d : ℕ) = ![a, b] d + 1 * (ix2 x0 x1 d).val := fun _ => rfl
  rw [h2]
  match d with
  | ⟨0, _⟩ => show a + 1 * x0.val = y0.val; omega
  | ⟨1, _⟩ => show b + 1 * x1.val = y1.val; omega

theorem ld3 {N M K p q r a b c : ℕ}
    (inb : ∀ d, (![a, b, c] : Fin 3 → ℕ) d + (![p, q, r] : Fin 3 → ℕ) d ≤ (⟨3, ![N, M, K]⟩ : Shape).size d)
    (X : (⟨3, ![N, M, K]⟩ : Shape).Idx → Elt Ideal e) (x0 : Fin p) (x1 : Fin q) (x2 : Fin r) (y0 : Fin N) (y1 : Fin M) (y2 : Fin K)
    (h0 : y0.val = a + x0.val) (h1 : y1.val = b + x1.val) (h2 : y2.val = c + x2.val) :
    View.ld X (Rect.unit (s := ⟨3, ![N, M, K]⟩) ![a, b, c] ![p, q, r] inb) (ix3 x0 x1 x2) = X (ix3 y0 y1 y2) := by
  show X _ = X _
  congr 1
  funext d
  apply Fin.ext
  have h2 : ∀ d, ((Rect.unit (s := ⟨3, ![N, M, K]⟩) ![a, b, c] ![p, q, r] inb).idx (ix3 x0 x1 x2) d : ℕ) = ![a, b, c] d + 1 * (ix3 x0 x1 x2 d).val := fun _ => rfl
  rw [h2]
  match d with
  | ⟨0, _⟩ => show a + 1 * x0.val = y0.val; omega
  | ⟨1, _⟩ => show b + 1 * x1.val = y1.val; omega
  | ⟨2, _⟩ => show c + 1 * x2.val = y2.val; omega

end Pieces

/-! The doubling ladder of rolled sums, over a column that reads a function of the row. -/

theorem rollIx (a b : ℕ) (h : b < 528) : (a + 528 - b) % 528 = (a + (528 - b)) % 528 := by omega

theorem rot0 (v : FVec Ideal S512x256 .f32) (x : FVec Ideal S528x256 .f32) (f : ℕ → EReal) (k : Fin 256)
    (hx : ∀ r : Fin 528, x (ix2 r k) = f r.val) (r : Fin 512) :
    k0_pay40 v x (ix2 r k) = (∑ j ∈ Finset.range 2, f (r.val + j)) - v (ix2 r k) := by
  have hr := r.isLt
  unfold k0_pay40
  pointwise
  simp only [rollIx _ 527 (by omega), Nat.reduceSub, Nat.mod_add_mod, Nat.add_assoc, Nat.reduceAdd, hx, Nat.mod_eq_of_lt (show r.val + 1 < 528 by omega),
    Finset.sum_range_succ, Finset.sum_range_zero, zero_add, add_zero, add_assoc]

theorem rot1 (v : FVec Ideal S512x256 .f32) (x : FVec Ideal S528x256 .f32) (f : ℕ → EReal) (k : Fin 256)
    (hx : ∀ r : Fin 528, x (ix2 r k) = f r.val) (r : Fin 512) :
    k0_pay46 v x (ix2 r k) = (∑ j ∈ Finset.range 4, f (r.val + j)) - v (ix2 r k) := by
  have hr := r.isLt
  unfold k0_pay46
  pointwise
  simp only [rollIx _ 527 (by omega), rollIx _ 526 (by omega), Nat.reduceSub, Nat.mod_add_mod, Nat.add_assoc, Nat.reduceAdd, hx, Nat.mod_eq_of_lt (show r.val + 1 < 528 by omega), Nat.mod_eq_of_lt (show r.val + 2 < 528 by omega), Nat.mod_eq_of_lt (show r.val + 3 < 528 by omega),
    Finset.sum_range_succ, Finset.sum_range_zero, zero_add, add_zero, add_assoc]

theorem rot2 (v : FVec Ideal S512x256 .f32) (x : FVec Ideal S528x256 .f32) (f : ℕ → EReal) (k : Fin 256)
    (hx : ∀ r : Fin 528, x (ix2 r k) = f r.val) (r : Fin 512) :
    k0_pay52 v x (ix2 r k) = (∑ j ∈ Finset.range 8, f (r.val + j)) - v (ix2 r k) := by
  have hr := r.isLt
  unfold k0_pay52
  pointwise
  simp only [rollIx _ 527 (by omega), rollIx _ 526 (by omega), rollIx _ 524 (by omega), Nat.reduceSub, Nat.mod_add_mod, Nat.add_assoc, Nat.reduceAdd, hx, Nat.mod_eq_of_lt (show r.val + 1 < 528 by omega), Nat.mod_eq_of_lt (show r.val + 2 < 528 by omega), Nat.mod_eq_of_lt (show r.val + 3 < 528 by omega), Nat.mod_eq_of_lt (show r.val + 4 < 528 by omega), Nat.mod_eq_of_lt (show r.val + 5 < 528 by omega), Nat.mod_eq_of_lt (show r.val + 6 < 528 by omega), Nat.mod_eq_of_lt (show r.val + 7 < 528 by omega),
    Finset.sum_range_succ, Finset.sum_range_zero, zero_add, add_zero, add_assoc]

set_option maxHeartbeats 4000000 in
theorem rot3 (v : FVec Ideal S512x256 .bf16) (w : FVec Ideal S256x256 .bf16) (u : FVec Ideal S512x256 .f32) (x : FVec Ideal S528x256 .f32) (f : ℕ → EReal) (k : Fin 256)
    (hx : ∀ r : Fin 528, x (ix2 r k) = f r.val) (r : Fin 512) :
    k0_pay3 v w u x (ix2 r k) = (∑ j ∈ Finset.range 16, f (r.val + j)) - k0_pay1 v w u (ix2 r k) := by
  have hr := r.isLt
  unfold k0_pay3
  generalize k0_pay1 v w u = z
  pointwise
  simp only [rollIx _ 527 (by omega), rollIx _ 526 (by omega), rollIx _ 524 (by omega), rollIx _ 520 (by omega), Nat.reduceSub, Nat.mod_add_mod, Nat.add_assoc, Nat.reduceAdd, hx, Nat.mod_eq_of_lt (show r.val + 1 < 528 by omega), Nat.mod_eq_of_lt (show r.val + 2 < 528 by omega), Nat.mod_eq_of_lt (show r.val + 3 < 528 by omega), Nat.mod_eq_of_lt (show r.val + 4 < 528 by omega), Nat.mod_eq_of_lt (show r.val + 5 < 528 by omega), Nat.mod_eq_of_lt (show r.val + 6 < 528 by omega), Nat.mod_eq_of_lt (show r.val + 7 < 528 by omega), Nat.mod_eq_of_lt (show r.val + 8 < 528 by omega), Nat.mod_eq_of_lt (show r.val + 9 < 528 by omega), Nat.mod_eq_of_lt (show r.val + 10 < 528 by omega), Nat.mod_eq_of_lt (show r.val + 11 < 528 by omega), Nat.mod_eq_of_lt (show r.val + 12 < 528 by omega), Nat.mod_eq_of_lt (show r.val + 13 < 528 by omega), Nat.mod_eq_of_lt (show r.val + 14 < 528 by omega), Nat.mod_eq_of_lt (show r.val + 15 < 528 by omega),
    Finset.sum_range_succ, Finset.sum_range_zero, zero_add, add_zero, add_assoc]

include H

theorem obV_apply (r : Fin 512) (c : Fin 1024) : obV x2 x3 x4 (ix2 r c) = A.ob (tok n r) c := by
  obtain ⟨g, k, rfl⟩ : ∃ g k, c = col g k := ⟨gOf c, rOf c, (col_of c).symm⟩
  have hk := k.isLt
  unfold obV bg w0 w1 w2 w3 d0 d1 d2 d3 Inp.ob
  rw [gOf_col, rOf_col]
  unfold_payloads
  pointwise
  simp only [H.h2, H.h3, H.h4]
  congr 1
  fin_cases g
  · have : ((col 0 k : Fin 1024) : ℕ) = k.val := by simp [col]
    simp only [Fin.zero_eta, this, hk, ↓reduceDIte, col0]
  · have : ((col 1 k : Fin 1024) : ℕ) = 256 + k.val := by simp [col]
    simp only [Fin.mk_one, this, show ¬ (256 + k.val < 256) by omega, show 256 + k.val - 256 = k.val by omega, hk, ↓reduceDIte, col1]
  · have : ((col 2 k : Fin 1024) : ℕ) = 512 + k.val := by simp [col]
    simp only [Fin.reduceFinMk, this, show ¬ (512 + k.val < 256) by omega, show ¬ (512 + k.val - 256 < 256) by omega, show 512 + k.val - 256 - 256 = k.val by omega, hk, ↓reduceDIte, col2]
  · have : ((col 3 k : Fin 1024) : ℕ) = 768 + k.val := by simp [col]
    simp only [Fin.reduceFinMk, this, show ¬ (768 + k.val < 256) by omega, show ¬ (768 + k.val - 256 < 256) by omega, show ¬ (768 + k.val - 256 - 256 < 256) by omega, show 768 + k.val - 256 - 256 - 256 = k.val by omega, hk, ↓reduceDIte, col3]

theorem dy1V_apply (r : Fin 512) (c : Fin 1024) : dy1V x0 x1 x6 (ix2 r c) = A.dy1 (tok n r) c := by
  unfold dy1V zb db wo
  rw [ldB, ldB, ldW]
  unfold_payloads
  pointwise
  simp only [H.h0, H.h1, H.h6]
  rfl

theorem sc_apply (c : Fin 1024) : sc x5 (ix2 0 c) = A.s c := by
  unfold sc
  unfold_payloads
  pointwise
  exact H.h5 c

theorem doV_apply (r : Fin 512) (c : Fin 1024) : doV x0 x1 x5 x6 (ix2 r c) = A.dov (tok n r) c := by
  unfold doV
  unfold_payloads
  pointwise
  rw [dy1V_apply H, sc_apply H]
  rfl

theorem dd0_apply (r : Fin 512) (k : Fin 256) : dd0 x0 x1 x3 x5 x6 (ix2 r k) = A.dd (tok n r) (col 0 k) := by
  unfold dd0 w0 Inp.dd k0_pay37 k0_pay35
  rw [gOf_col, rOf_col, show k0_pay33 (sc x5) (dy1V x0 x1 x6) = doV x0 x1 x5 x6 from rfl]
  pointwise
  simp only [doV_apply H, H.h3, col0]

theorem dd1_apply (r : Fin 512) (k : Fin 256) : dd1 x0 x1 x3 x5 x6 (ix2 r k) = A.dd (tok n r) (col 1 k) := by
  unfold dd1 w1 Inp.dd
  rw [gOf_col, rOf_col]
  unfold_payloads
  pointwise
  simp only [doV_apply H, H.h3, col1]

theorem dd2_apply (r : Fin 512) (k : Fin 256) : dd2 x0 x1 x3 x5 x6 (ix2 r k) = A.dd (tok n r) (col 2 k) := by
  unfold dd2 w2 Inp.dd
  rw [gOf_col, rOf_col]
  unfold_payloads
  pointwise
  simp only [doV_apply H, H.h3, col2]

theorem dd3_apply (r : Fin 512) (k : Fin 256) : dd3 x0 x1 x3 x5 x6 (ix2 r k) = A.dd (tok n r) (col 3 k) := by
  unfold dd3 w3 cst Inp.dd
  rw [gOf_col, rOf_col]
  unfold_payloads
  pointwise
  simp only [doV_apply H, H.h3, col3]

omit H in
theorem minw (p w : ℕ) (hp : p < 20000) (hw : w < 100) :
    (IntOp.minsi (BitVec.ofNat 32 p) (BitVec.ofNat 32 w) : BitVec 32).toInt = ((min p w : ℕ) : ℤ) := by
  have h1 : (BitVec.ofNat 32 p).toInt = p := by rw [BitVec.toInt_ofNat']; simp only [Int.bmod]; omega
  have h2 : (BitVec.ofNat 32 w).toInt = w := by rw [BitVec.toInt_ofNat']; simp only [Int.bmod]; omega
  unfold IntOp.minsi
  rw [BitVec.slt_eq_decide, h1, h2]
  by_cases h : (p : ℤ) < w
  · rw [if_pos (by simpa using h), h1]; omega
  · rw [if_neg (by simpa using h), h2]; omega

omit H in
/-- The count's word, as the real it is converted to. -/
theorem cntw (w : ℕ) (hw : w < 100) (n : Fin 32) (r : Fin 512) :
    (FloatOps.sitofp FTy.f32
          (IntOp.minsi
            (IntOp.addi
              (IntOp.addi (Scalar.muli (Scalar.subi (31#32) (BitVec.ofNat 32 ↑n)) 512#32) (BitVec.ofNat 32 ↑r)) 1#32)
            (BitVec.ofNat 32 w)) : Ideal .f32) = (((min (512 * (31 - n.val) + r.val + 1) w : ℕ) : ℝ) : EReal) := by
  have hn := n.isLt
  have hr := r.isLt
  have e : (IntOp.addi
              (IntOp.addi (Scalar.muli (Scalar.subi (31#32) (BitVec.ofNat 32 ↑n)) 512#32) (BitVec.ofNat 32 ↑r)) 1#32)
       = BitVec.ofNat 32 (512 * (31 - n.val) + r.val + 1) := by
    apply BitVec.eq_of_toNat_eq
    simp only [IntOp.addi, Scalar.muli, Scalar.subi, IntOp.muli, IntOp.subi, BitVec.toNat_add, BitVec.toNat_mul, BitVec.toNat_sub, BitVec.toNat_ofNat]
    omega
  show (((IntOp.minsi _ _ : BitVec 32).toInt : ℝ) : EReal) = _
  rw [e]
  rw [minw _ w (by omega) hw]
  simp

theorem e0_apply (r : Fin 512) (k : Fin 256) :
    k0_pay39 (dd0 x0 x1 x3 x5 x6) (k0_pay38 (v0 i)) (ix2 r k) = A.ee (col 0 k) (512 * (31 - n.val) + r.val) := by
  unfold v0 Inp.ee
  unfold_payloads
  pointwise
  rw [dd0_apply H, H.hi, dif_pos (show 512 * (31 - n.val) + r.val < 16384 from (tok n r).isLt), gOf_col, cntw 2 (by omega)]
  rfl

theorem e1_apply (r : Fin 512) (k : Fin 256) :
    k0_pay45 (dd1 x0 x1 x3 x5 x6) (k0_pay44 (v0 i)) (ix2 r k) = A.ee (col 1 k) (512 * (31 - n.val) + r.val) := by
  unfold v0 Inp.ee
  unfold_payloads
  pointwise
  rw [dd1_apply H, H.hi, dif_pos (show 512 * (31 - n.val) + r.val < 16384 from (tok n r).isLt), gOf_col, cntw 4 (by omega)]
  rfl

theorem e2_apply (r : Fin 512) (k : Fin 256) :
    k0_pay51 (dd2 x0 x1 x3 x5 x6) (k0_pay50 (v0 i)) (ix2 r k) = A.ee (col 2 k) (512 * (31 - n.val) + r.val) := by
  unfold v0 Inp.ee
  unfold_payloads
  pointwise
  rw [dd2_apply H, H.hi, dif_pos (show 512 * (31 - n.val) + r.val < 16384 from (tok n r).isLt), gOf_col, cntw 8 (by omega)]
  rfl

theorem e3_apply (r : Fin 512) (k : Fin 256) :
    k0_pay2 (v0 i) (k0_pay53 (doV x0 x1 x5 x6)) (k0_pay55 (w3 x3)) cst (ix2 r k) = A.ee (col 3 k) (512 * (31 - n.val) + r.val) := by
  have hd := dd3_apply H r k
  unfold dd3 at hd
  unfold v0 Inp.ee k0_pay2
  pointwise
  rw [hd, H.hi, dif_pos (show 512 * (31 - n.val) + r.val < 16384 from (tok n r).isLt), gOf_col, cntw 16 (by omega)]
  rfl

/-- The rows carried over are the next tile's first sixteen, or nothing after the last tile. -/
def IsHalo (A : Inp) (n : Fin 32) (h : Vec Ideal S16x1024 .f32) : Prop :=
  ∀ (q : Fin 16) (c : Fin 1024), h (ix2 q c) = A.ee c (512 * (31 - n.val) + (512 + q.val))

variable {h : Vec Ideal S16x1024 .f32} (hh : IsHalo A n h)
include hh

theorem E0_0 (r : Fin 528) (c : Fin 1024) (hc : 512 ≤ r.val ∨ c.val < 256) : View.canon (E0 i x0 x1 x3 x5 x6 h) (ix2 r c) = A.ee c (512 * (31 - n.val) + r.val) := by
  unfold E0
  by_cases hr : r.val < 512
  · refine (hit2 _ _ _ r c ⟨r.val, hr⟩ ⟨c.val, by omega⟩ (by simp) (by simp)).trans ?_
    refine (e0_apply H _ _).trans ?_
    rw [col0]
  · refine (miss2 _ _ _ r c (by omega)).trans ?_
    refine (hit2 _ _ _ r c ⟨r.val - 512, by omega⟩ c (by simp; omega) (by simp)).trans ?_
    refine (hh _ _).trans ?_
    rw [show 512 + (r.val - 512) = r.val by omega]

theorem E1_1 (r : Fin 528) (c : Fin 1024) (hc : 512 ≤ r.val ∨ c.val < 512) : View.canon (E1 i x0 x1 x3 x5 x6 h) (ix2 r c) = A.ee c (512 * (31 - n.val) + r.val) := by
  unfold E1
  by_cases hr : r.val < 512 ∧ 256 ≤ c.val
  · refine (hit2 _ _ _ r c ⟨r.val, hr.1⟩ ⟨c.val - 256, by omega⟩ (by simp) (by simp; omega)).trans ?_
    refine (e1_apply H _ _).trans ?_
    rw [col1]
    congr 2
    show 256 + (c.val - 256) = c.val
    omega
  · refine (miss2 _ _ _ r c (by omega)).trans ?_
    exact E0_0 H hh r c (by omega)

theorem E2_2 (r : Fin 528) (c : Fin 1024) (hc : 512 ≤ r.val ∨ c.val < 768) : View.canon (E2 i x0 x1 x3 x5 x6 h) (ix2 r c) = A.ee c (512 * (31 - n.val) + r.val) := by
  unfold E2
  by_cases hr : r.val < 512 ∧ 512 ≤ c.val
  · refine (hit2 _ _ _ r c ⟨r.val, hr.1⟩ ⟨c.val - 512, by omega⟩ (by simp) (by simp; omega)).trans ?_
    refine (e2_apply H _ _).trans ?_
    rw [col2]
    congr 2
    show 512 + (c.val - 512) = c.val
    omega
  · refine (miss2 _ _ _ r c (by omega)).trans ?_
    exact E1_1 H hh r c (by omega)

theorem E3_3 (r : Fin 528) (c : Fin 1024) (hc : 512 ≤ r.val ∨ c.val < 1024) : View.canon (E3 i x0 x1 x3 x5 x6 h) (ix2 r c) = A.ee c (512 * (31 - n.val) + r.val) := by
  unfold E3
  by_cases hr : r.val < 512 ∧ 768 ≤ c.val
  · refine (hit2 _ _ _ r c ⟨r.val, hr.1⟩ ⟨c.val - 768, by omega⟩ (by simp) (by simp; omega)).trans ?_
    refine (e3_apply H _ _).trans ?_
    rw [col3]
    congr 2
    show 768 + (c.val - 768) = c.val
    omega
  · refine (miss2 _ _ _ r c (by omega)).trans ?_
    exact E2_2 H hh r c (by omega)

theorem S0_apply (r : Fin 528) (c : Fin 1024) : S0 i x0 x1 x3 x5 x6 h (ix2 r c) = A.ee c (512 * (31 - n.val) + r.val) :=
  E3_3 H hh r c (by omega)

omit hh in
theorem dz_apply (r : Fin 512) (c : Fin 1024) :
    k0_pay31 (bg x4) (sc x5) (k0_pay18 (d2 x2)) (k0_pay19 (d3 x2)) (k0_pay20 (d0 x2) (w0 x3)) (k0_pay21 (d1 x2) (w1 x3)) (k0_pay22 (w2 x3)) (w3 x3)
      (zb x1) (db x0) (wo x6) (ix2 r c) = A.dz (tok n r) c := by
  have hz : zb x1 = x1 := ldB x1
  have hd : db x0 = x0 := ldB x0
  have hw : wo x6 = x6 := ldW x6
  unfold k0_pay31 k0_pay26 k0_pay24 k0_pay28 k0_pay27
  rw [hz, hd, hw, show k0_pay23 (bg x4) (k0_pay18 (d2 x2)) (k0_pay19 (d3 x2)) (k0_pay20 (d0 x2) (w0 x3)) (k0_pay21 (d1 x2) (w1 x3))
      (k0_pay22 (w2 x3)) (w3 x3) = obV x2 x3 x4 from rfl]
  pointwise
  simp only [obV_apply H, sc_apply H, H.h0, H.h1, H.h6]
  rfl

theorem W7_lo (r : Fin 512) (k : Fin 2048) (c : Fin 1024) (hk : k.val = c.val) :
    W7 i x0 x1 x2 x3 x4 x5 x6 h (ix2 r k) = A.du (tok n r) c := by
  have ew : ∀ (g : Fin 4) (k : Fin 256), A.du (tok n r) (col g k)
      = (∑ j ∈ Finset.range (wid g), A.ee (col g k) (512 * (31 - n.val) + (r.val + j))) - A.dd (tok n r) (col g k) := fun g k => by
    unfold Inp.du
    rw [gOf_col]
    simp only [tok, Nat.add_assoc]
  obtain ⟨g, q, rfl⟩ : ∃ g k, c = col g k := ⟨gOf c, rOf c, (col_of c).symm⟩
  have hq := q.isLt
  unfold W7
  rw [ew]
  fin_cases g
  · replace hk : k.val = 0 + q.val := by rw [hk]; rfl
    refine (miss2 _ _ _ r k (by omega)).trans ?_
    refine (miss2 _ _ _ r k (by omega)).trans ?_
    refine (miss2 _ _ _ r k (by omega)).trans ?_
    refine (hit2 _ _ _ r k r q (by simp) hk).trans ?_
    refine (rot0 _ _ (fun p => A.ee (col 0 q) (512 * (31 - n.val) + p)) q (fun r' => ?_) r).trans ?_
    · refine (ld2 _ _ r' q r' (col 0 q) (by simp) (by simp [col])).trans ?_
      exact E0_0 H hh r' _ (by simp [col])
    · rw [dd0_apply H]; rfl
  · replace hk : k.val = 256 + q.val := by rw [hk]; rfl
    refine (miss2 _ _ _ r k (by omega)).trans ?_
    refine (miss2 _ _ _ r k (by omega)).trans ?_
    refine (hit2 _ _ _ r k r q (by simp) hk).trans ?_
    refine (rot1 _ _ (fun p => A.ee (col 1 q) (512 * (31 - n.val) + p)) q (fun r' => ?_) r).trans ?_
    · refine (ld2 _ _ r' q r' (col 1 q) (by simp) (by simp [col])).trans ?_
      exact E1_1 H hh r' _ (by simp [col]; omega)
    · rw [dd1_apply H]; rfl
  · replace hk : k.val = 512 + q.val := by rw [hk]; rfl
    refine (miss2 _ _ _ r k (by omega)).trans ?_
    refine (hit2 _ _ _ r k r q (by simp) hk).trans ?_
    refine (rot2 _ _ (fun p => A.ee (col 2 q) (512 * (31 - n.val) + p)) q (fun r' => ?_) r).trans ?_
    · refine (ld2 _ _ r' q r' (col 2 q) (by simp) (by simp [col])).trans ?_
      exact E2_2 H hh r' _ (by simp [col]; omega)
    · rw [dd2_apply H]; rfl
  · replace hk : k.val = 768 + q.val := by rw [hk]; rfl
    refine (hit2 _ _ _ r k r q (by simp) hk).trans ?_
    refine (rot3 _ _ _ _ (fun p => A.ee (col 3 q) (512 * (31 - n.val) + p)) q (fun r' => ?_) r).trans ?_
    · refine (ld2 _ _ r' q r' (col 3 q) (by simp) (by simp [col])).trans ?_
      exact E3_3 H hh r' _ (by simp [col]; omega)
    · have hd := dd3_apply H r q
      unfold dd3 at hd
      rw [hd]; rfl

omit hh in
theorem W7_hi (r : Fin 512) (k : Fin 2048) (c : Fin 1024) (hk : k.val = 1024 + c.val) :
    W7 i x0 x1 x2 x3 x4 x5 x6 h (ix2 r k) = A.dz (tok n r) c := by
  unfold W7
  refine (miss2 _ _ _ r k (by omega)).trans ?_
  refine (miss2 _ _ _ r k (by omega)).trans ?_
  refine (miss2 _ _ _ r k (by omega)).trans ?_
  refine (miss2 _ _ _ r k (by omega)).trans ?_
  refine (hit2 _ _ _ r k r c (by simp) hk).trans ?_
  exact dz_apply H r c

omit hh in
theorem S1_lo (q1 : Vec Ideal S16x1024 .f32) (q : Fin 16) (r : Fin 8) (hq : q.val = r.val) (c : Fin 1024) :
    S1 x0 x1 x2 x3 x4 x5 x6 q1 (ix2 q c)
      = q1 (ix2 q c) + ∑ x : Fin 64, A.dov (tok n ⟨x.val * 8 + r.val, by have := x.isLt; have := r.isLt; omega⟩) c := by
  obtain ⟨q, hq'⟩ := q
  simp only at hq
  subst hq
  unfold S1
  refine (hit2 _ _ _ _ c r c (by simp) (by simp)).trans ?_
  unfold k0_pay34
  rw [show k0_pay33 (sc x5) (dy1V x0 x1 x6) = doV x0 x1 x5 x6 from rfl]
  pointwise
  simp only [doV_apply H]

omit hh in
theorem S1_hi (q1 : Vec Ideal S16x1024 .f32) (q : Fin 16) (r : Fin 8) (hq : q.val = 8 + r.val) (c : Fin 1024) :
    S1 x0 x1 x2 x3 x4 x5 x6 q1 (ix2 q c)
      = q1 (ix2 q c) + ∑ x : Fin 64, A.dy1 (tok n ⟨x.val * 8 + r.val, by have := x.isLt; have := r.isLt; omega⟩) c
          * A.ob (tok n ⟨x.val * 8 + r.val, by have := x.isLt; have := r.isLt; omega⟩) c := by
  obtain ⟨q, hq'⟩ := q
  simp only at hq
  subst hq
  unfold S1
  refine (miss2 _ _ _ _ c (by simp)).trans ?_
  refine (hit2 _ _ _ _ c r c (by simp) (by simp)).trans ?_
  unfold k0_pay32
  pointwise
  simp only [dy1V_apply H, obV_apply H]

omit hh in
theorem S2_apply (q2 : Vec Ideal S1024x1024 .f32) (c d : Fin 1024) :
    S2 x0 x1 x2 x3 x4 x5 q2 (ix2 c d) = q2 (ix2 c d) + ∑ r : Fin 512, A.y2 (tok n r) c * A.D (tok n r) d := by
  have hz : zb x1 = x1 := ldB x1
  have hd : db x0 = x0 := ldB x0
  unfold S2 k0_pay29 k0_pay26 k0_pay25 k0_pay24 k0_pay27
  rw [hz, hd, show k0_pay23 (bg x4) (k0_pay18 (d2 x2)) (k0_pay19 (d3 x2)) (k0_pay20 (d0 x2) (w0 x3)) (k0_pay21 (d1 x2) (w1 x3))
      (k0_pay22 (w2 x3)) (w3 x3) = obV x2 x3 x4 from rfl]
  pointwise
  simp only [obV_apply H, sc_apply H, H.h0, H.h1]
  rfl

omit hh in
theorem S3_apply (q3 : Vec Ideal S4x256x256 .f32) (g : Fin 4) (k k' : Fin 256) :
    S3 x0 x1 x2 x5 x6 q3 (ix3 g k k')
      = q3 (ix3 g k k') + ∑ r : Fin 512, A.d (tok n r) (col g k) * A.dov (tok n r) (col g k') := by
  unfold S3
  fin_cases g
  · refine (miss3 _ _ _ _ _ _ (by simp)).trans ?_
    refine (miss3 _ _ _ _ _ _ (by simp)).trans ?_
    refine (miss3 _ _ _ _ _ _ (by simp)).trans ?_
    refine (hit3 _ _ _ _ _ _ 0 k k' (by simp) (by simp) (by simp)).trans ?_
    unfold k0_pay36 k0_pay35 k0_pay16 d0
    rw [show k0_pay33 (sc x5) (dy1V x0 x1 x6) = doV x0 x1 x5 x6 from rfl]
    pointwise
    simp only [doV_apply H, H.h2, col0]
  · refine (miss3 _ _ _ _ _ _ (by simp)).trans ?_
    refine (miss3 _ _ _ _ _ _ (by simp)).trans ?_
    refine (hit3 _ _ _ _ _ _ 0 k k' (by simp) (by simp) (by simp)).trans ?_
    unfold k0_pay42 d1
    unfold_payloads
    pointwise
    simp only [doV_apply H, H.h2, col1]
  · refine (miss3 _ _ _ _ _ _ (by simp)).trans ?_
    refine (hit3 _ _ _ _ _ _ 0 k k' (by simp) (by simp) (by simp)).trans ?_
    unfold k0_pay48 d2
    unfold_payloads
    pointwise
    simp only [doV_apply H, H.h2, col2]
  · refine (hit3 _ _ _ _ _ _ 0 k k' (by simp) (by simp) (by simp)).trans ?_
    unfold k0_pay54 d3
    unfold_payloads
    pointwise
    simp only [doV_apply H, H.h2, col3]

end Cert.Proof.Rows

end
-- ==== Proof.Blocks.lean ====
/-
  The blocks a grid point reads, as rows of the arrays: the launch finds the arguments, their casts and the window means
  that the host computed, and point `t` stages tile `31 - t` of the token axis.
-/
module

public import proofs.«01_k».proof.Proof.Rows
public import proofs.«01_k».proof.Proof.Gen.ReferenceIdeal.Read
public import Idealize.ShloMosaic.Lib.StableHlo.ReadAt
public import Idealize.ShloMosaic.Lib.Claim
public import Idealize.ShloMosaic.Lib.Pipeline.ValueKit.Point

@[expose] public section

set_option maxRecDepth 16384

noncomputable section

open Idealize.ShloMosaic Idealize.ShloMosaic.TcCoe Idealize.SL.Sem Cert.KernelIdeal Cert.KernelIdeal.Gen
open Cert.ReferenceIdeal.Read (val_main_v27 val_main_v42 val_main_v57 val_main_v72)

namespace Cert.Proof.Blocks

section Host

variable {F : FTy → Type} [FloatOps F] (m : (ℓ : Loc nD τ sig) → Buf (Elt F) ℓ) (c : Dev nD)

set_option maxHeartbeats 4000000 in
theorem V_v20 : StableHlo.upto [hostOps0, hostOps0_1, hostOps0_2].flatten (fun b => m (c, b)) 75 (Proc.tc.devRef main_v20)
    = val_main_v27 (F := F) (m ((c : Thread nD τ).loc main_arg1)) := by
  after_reads_simp
  rfl
set_option maxHeartbeats 4000000 in
theorem V_v34 : StableHlo.upto [hostOps0, hostOps0_1, hostOps0_2].flatten (fun b => m (c, b)) 75 (Proc.tc.devRef main_v34)
    = val_main_v42 (F := F) (m ((c : Thread nD τ).loc main_arg1)) := by
  after_reads_simp
  rfl
set_option maxHeartbeats 4000000 in
theorem V_v48 : StableHlo.upto [hostOps0, hostOps0_1, hostOps0_2].flatten (fun b => m (c, b)) 75 (Proc.tc.devRef main_v48)
    = val_main_v57 (F := F) (m ((c : Thread nD τ).loc main_arg1)) := by
  after_reads_simp
  rfl
set_option maxHeartbeats 4000000 in
theorem V_v62 : StableHlo.upto [hostOps0, hostOps0_1, hostOps0_2].flatten (fun b => m (c, b)) 75 (Proc.tc.devRef main_v62)
    = val_main_v72 (F := F) (m ((c : Thread nD τ).loc main_arg1)) := by
  after_reads_simp
  rfl
set_option maxHeartbeats 4000000 in
/-- The host's window means less the token, group by group, are the terms that the reference computes. -/
theorem V_v64 : V m c main_v64 = truncf .bf16 (concatenate S16384x1024 1
      [⟨S16384x256, val_main_v27 (F := F) (m ((c : Thread nD τ).loc main_arg1))⟩,
       ⟨S16384x256, val_main_v42 (F := F) (m ((c : Thread nD τ).loc main_arg1))⟩,
       ⟨S16384x256, val_main_v57 (F := F) (m ((c : Thread nD τ).loc main_arg1))⟩,
       ⟨S16384x256, val_main_v72 (F := F) (m ((c : Thread nD τ).loc main_arg1))⟩]
      concatenates_S16384x256_S16384x256_S16384x256_S16384x256_S16384x1024_d1) bitsLt_bf16_f32 := by
  unfold V
  after_reads_simp
  change truncf .bf16 (concatenate S16384x1024 1 [⟨S16384x256, StableHlo.upto [hostOps0, hostOps0_1, hostOps0_2].flatten (fun b => m (c, b)) 75 (Proc.tc.devRef main_v20)⟩, ⟨S16384x256, StableHlo.upto [hostOps0, hostOps0_1, hostOps0_2].flatten (fun b => m (c, b)) 75 (Proc.tc.devRef main_v34)⟩, ⟨S16384x256, StableHlo.upto [hostOps0, hostOps0_1, hostOps0_2].flatten (fun b => m (c, b)) 75 (Proc.tc.devRef main_v48)⟩, ⟨S16384x256, StableHlo.upto [hostOps0, hostOps0_1, hostOps0_2].flatten (fun b => m (c, b)) 75 (Proc.tc.devRef main_v62)⟩]
    concatenates_S16384x256_S16384x256_S16384x256_S16384x256_S16384x1024_d1) bitsLt_bf16_f32 = _
  rw [V_v20, V_v34, V_v48, V_v62]

set_option maxHeartbeats 4000000 in
theorem V_v65 : V m c main_v65 = broadcastInDim S2x1x1024 ![0, 2] bcast_S2x1024_S2x1x1024_0_2 (m ((c : Thread nD τ).loc main_arg3)) := by
  unfold V
  after_reads_simp
set_option maxHeartbeats 4000000 in
theorem V_v66 : V m c main_v66 = broadcastInDim S2x1x1024 ![0, 2] bcast_S2x1024_S2x1x1024_0_2 (m ((c : Thread nD τ).loc main_arg4)) := by
  unfold V
  after_reads_simp
set_option maxHeartbeats 4000000 in
theorem V_v67 : V m c main_v67 = truncf (F := F) (s := S4x256x256) (φ := .f32) .bf16 (m ((c : Thread nD τ).loc main_arg2)) bitsLt_bf16_f32 := by
  unfold V
  after_reads_simp
set_option maxHeartbeats 4000000 in
theorem V_v68 : V m c main_v68 = truncf (F := F) (s := S1024x1024) (φ := .f32) .bf16 (m ((c : Thread nD τ).loc main_arg5)) bitsLt_bf16_f32 := by
  unfold V
  after_reads_simp

end Host

/-- The window means less the token, by group. -/
def dK (a1 : Vec Ideal S16384x2048 .f32) (g : Fin 4) (t : Fin 16384) (k : Fin 256) : EReal :=
  match g with
  | 0 => val_main_v27 (F := Ideal) a1 (ix2 t k)
  | 1 => val_main_v42 (F := Ideal) a1 (ix2 t k)
  | 2 => val_main_v57 (F := Ideal) a1 (ix2 t k)
  | 3 => val_main_v72 (F := Ideal) a1 (ix2 t k)

/-- The arrays of the backward pass, from the programs' arguments. -/
def inp (a0 : Vec Ideal S16384x1024 .f32) (a1 : Vec Ideal S16384x2048 .f32) (a2 : Vec Ideal S4x256x256 .f32) (a3 a4 : Vec Ideal S2x1024 .f32)
    (a5 : Vec Ideal S1024x1024 .f32) : Inp where
  D t c := a0 (ix2 t c)
  Z t c := a1 (ix2 t ⟨1024 + c.val, by have := c.isLt; omega⟩)
  d t c := dK a1 (gOf c) t (rOf c)
  W g k k' := a2 (ix3 g k k')
  b c := a3 (ix2 1 c)
  s c := a4 (ix2 1 c)
  Wo c k := a5 (ix2 c k)

variable (m : (ℓ : Loc nD τ sig) → Buf (Elt Ideal) ℓ) (c : Dev nD)

/-- The arrays the launch finds. -/
def A : Inp := inp (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem idx (t : Fin grid0.N) :
    win0_0.index t = ![31 - t.val, 0] ∧ win0_1.index t = ![31 - t.val, 1] ∧ win0_2.index t = ![31 - t.val, 0] ∧ win0_3.index t = ![0, 0, 0]
    ∧ win0_4.index t = ![1, 0, 0] ∧ win0_5.index t = ![1, 0, 0] ∧ win0_6.index t = ![0, 0] ∧ win0_7.index t = ![31 - t.val, 0]
    ∧ win0_8.index t = ![0, 0] ∧ win0_9.index t = ![0, 0, 0] ∧ win0_10.index t = ![0, 0] :=
  (by decide +kernel : ∀ t : Fin grid0.N, win0_0.index t = ![31 - t.val, 0] ∧ win0_1.index t = ![31 - t.val, 1] ∧ win0_2.index t = ![31 - t.val, 0] ∧ win0_3.index t = ![0, 0, 0]
    ∧ win0_4.index t = ![1, 0, 0] ∧ win0_5.index t = ![1, 0, 0] ∧ win0_6.index t = ![0, 0] ∧ win0_7.index t = ![31 - t.val, 0]
    ∧ win0_8.index t = ![0, 0] ∧ win0_9.index t = ![0, 0, 0] ∧ win0_10.index t = ![0, 0]) t

theorem coord (t : Fin grid0.N) : (grid0.coords t 0).val = t.val :=
  (by decide +kernel : ∀ t : Fin grid0.N, (grid0.coords t 0).val = t.val) t

theorem b0 (t : Fin cfg0.N) (r : Fin 512) (k : Fin 1024) : (iblk m c 0 t : Vec Ideal S512x1024 .f32) (ix2 r k) = (A m c).D (tok t r) k := by
  show iblk m c 0 t (ix2 r k) = (m ((c : Thread nD τ).loc main_arg0)) (ix2 (tok t r) k)
  unfold tok
  blk_ext [iblk, V_main_arg0, idx t]

theorem b1 (t : Fin cfg0.N) (r : Fin 512) (k : Fin 1024) : (iblk m c 1 t : Vec Ideal S512x1024 .f32) (ix2 r k) = (A m c).Z (tok t r) k := by
  show iblk m c 1 t (ix2 r k) = (m ((c : Thread nD τ).loc main_arg1)) (ix2 (tok t r) ⟨1024 + k.val, by have := k.isLt; omega⟩)
  unfold tok
  blk_ext [iblk, V_main_arg1, idx t]

theorem b2 (t : Fin cfg0.N) (r : Fin 512) (k : Fin 1024) : (iblk m c 2 t : Vec Ideal S512x1024 .bf16) (ix2 r k) = (A m c).d (tok t r) k := by
  have e : (iblk m c 2 t : Vec Ideal S512x1024 .bf16) (ix2 r k) = (V m c main_v64 : Vec Ideal S16384x1024 .bf16) (ix2 (tok t r) k) := by
    unfold tok
    blk_ext [iblk, idx t]
  rw [e, V_v64]
  obtain ⟨g, q, rfl⟩ : ∃ g q, k = col g q := ⟨gOf k, rOf k, (col_of k).symm⟩
  show _ = dK _ (gOf (col g q)) (tok t r) (rOf (col g q))
  rw [gOf_col, rOf_col]
  have hq := q.isLt
  pointwise
  fin_cases g
  · have : ((col 0 q : Fin 1024) : ℕ) = q.val := by simp [col]
    simp only [Fin.zero_eta, this, hq, ↓reduceDIte]
    rfl
  · have : ((col 1 q : Fin 1024) : ℕ) = 256 + q.val := by simp [col]
    simp only [Fin.mk_one, this, show ¬ (256 + q.val < 256) by omega, show 256 + q.val - 256 = q.val by omega, hq, ↓reduceDIte]
    rfl
  · have : ((col 2 q : Fin 1024) : ℕ) = 512 + q.val := by simp [col]
    simp only [Fin.reduceFinMk, this, show ¬ (512 + q.val < 256) by omega, show ¬ (512 + q.val - 256 < 256) by omega, show 512 + q.val - 256 - 256 = q.val by omega, hq, ↓reduceDIte]
    rfl
  · have : ((col 3 q : Fin 1024) : ℕ) = 768 + q.val := by simp [col]
    simp only [Fin.reduceFinMk, this, show ¬ (768 + q.val < 256) by omega, show ¬ (768 + q.val - 256 < 256) by omega, show ¬ (768 + q.val - 256 - 256 < 256) by omega, show 768 + q.val - 256 - 256 - 256 = q.val by omega, hq, ↓reduceDIte]
    rfl

theorem b3 (t : Fin cfg0.N) (g : Fin 4) (k k' : Fin 256) : (iblk m c 3 t : Vec Ideal S4x256x256 .bf16) (ix3 g k k') = (A m c).W g k k' := by
  have e : (iblk m c 3 t : Vec Ideal S4x256x256 .bf16) (ix3 g k k') = (V m c main_v67 : Vec Ideal S4x256x256 .bf16) (ix3 g k k') := by
    blk_ext [iblk, idx t]
  rw [e, V_v67]
  rfl

theorem b4 (t : Fin cfg0.N) (k : Fin 1024) : (iblk m c 4 t : Vec Ideal S1x1x1024 .f32) (ix3 0 0 k) = (A m c).b k := by
  have e : (iblk m c 4 t : Vec Ideal S1x1x1024 .f32) (ix3 0 0 k) = (V m c main_v65 : Vec Ideal S2x1x1024 .f32) (ix3 1 0 k) := by
    blk_ext [iblk, idx t]
  rw [e, V_v65]
  pointwise
  rfl

theorem b5 (t : Fin cfg0.N) (k : Fin 1024) : (iblk m c 5 t : Vec Ideal S1x1x1024 .f32) (ix3 0 0 k) = (A m c).s k := by
  have e : (iblk m c 5 t : Vec Ideal S1x1x1024 .f32) (ix3 0 0 k) = (V m c main_v66 : Vec Ideal S2x1x1024 .f32) (ix3 1 0 k) := by
    blk_ext [iblk, idx t]
  rw [e, V_v66]
  pointwise
  rfl

theorem b6 (t : Fin cfg0.N) (k k' : Fin 1024) : (iblk m c 6 t : Vec Ideal S1024x1024 .bf16) (ix2 k k') = (A m c).Wo k k' := by
  have e : (iblk m c 6 t : Vec Ideal S1024x1024 .bf16) (ix2 k k') = (V m c main_v68 : Vec Ideal S1024x1024 .bf16) (ix2 k k') := by
    blk_ext [iblk, idx t]
  rw [e, V_v68]
  rfl

/-- Point `t`'s blocks are tile `31 - t` of the arrays. -/
theorem isBlk (t : Fin cfg0.N) : Rows.IsBlk (A m c) t (grid0.coords t) (iblk m c 0 t) (iblk m c 1 t) (iblk m c 2 t) (iblk m c 3 t)
    (iblk m c 4 t) (iblk m c 5 t) (iblk m c 6 t) where
  hi := coord t
  h0 := b0 m c t
  h1 := b1 m c t
  h2 := b2 m c t
  h3 := b3 m c t
  h4 := b4 m c t
  h5 := b5 m c t
  h6 := b6 m c t

end Cert.Proof.Blocks
-- ==== Proof.Fold.lean ====
/-
  The run over the grid: what the carried scratches hold after each point (the tile's scaled gradient with the rows after
  it, and the parameters' running sums), and the block of the input's gradient that each point writes.
-/
module

public import proofs.«01_k».proof.Proof.Blocks

@[expose] public section

set_option maxRecDepth 16384

noncomputable section

open Idealize.ShloMosaic Idealize.ShloMosaic.TcCoe Idealize.SL.Sem Cert.KernelIdeal Cert.KernelIdeal.Gen Cert.Proof.Blk

namespace Cert.Proof.Fold

/-- The sum over the first `n` tiles. -/
def acc (f : Fin 32 → EReal) (n : ℕ) : EReal := ∑ s ∈ Finset.range n, if h : s < 32 then f ⟨s, h⟩ else 0

theorem acc_zero (f : Fin 32 → EReal) : acc f 0 = 0 := Finset.sum_range_zero _
theorem acc_succ (f : Fin 32 → EReal) (n : Fin 32) : acc f (n.val + 1) = acc f n.val + f n := by
  unfold acc
  rw [Finset.sum_range_succ, dif_pos n.isLt]
theorem acc_all (f : Fin 32 → EReal) : acc f 32 = ∑ s : Fin 32, f s := by
  unfold acc
  rw [Finset.sum_range]
  exact Finset.sum_congr rfl fun s _ => dif_pos s.isLt

/-- One tile's parts of the parameters' gradients. -/
def pdo (A : Inp) (r : Fin 8) (c : Fin 1024) (n : Fin 32) : EReal :=
  ∑ x : Fin 64, A.dov (tok n ⟨x.val * 8 + r.val, by have := x.isLt; have := r.isLt; omega⟩) c
def pdc (A : Inp) (r : Fin 8) (c : Fin 1024) (n : Fin 32) : EReal :=
  ∑ x : Fin 64, A.dy1 (tok n ⟨x.val * 8 + r.val, by have := x.isLt; have := r.isLt; omega⟩) c
    * A.ob (tok n ⟨x.val * 8 + r.val, by have := x.isLt; have := r.isLt; omega⟩) c
def pwo (A : Inp) (c d : Fin 1024) (n : Fin 32) : EReal := ∑ r : Fin 512, A.y2 (tok n r) c * A.D (tok n r) d
def pwg (A : Inp) (g : Fin 4) (k k' : Fin 256) (n : Fin 32) : EReal :=
  ∑ r : Fin 512, A.d (tok n r) (col g k) * A.dov (tok n r) (col g k')

/-- What the carried scratches hold after tile `n`'s point. -/
structure Inv (A : Inp) (n : ℕ) (s0 : Vec Ideal S528x1024 .f32) (s1 : Vec Ideal S16x1024 .f32) (s2 : Vec Ideal S1024x1024 .f32)
    (s3 : Vec Ideal S4x256x256 .f32) : Prop where
  h0 : ∀ r c, s0 (ix2 r c) = A.ee c (512 * (31 - n) + r.val)
  h1 : ∀ (q : Fin 16) (r : Fin 8), q.val = r.val → ∀ c, s1 (ix2 q c) = acc (pdo A r c) (n + 1)
  h1' : ∀ (q : Fin 16) (r : Fin 8), q.val = 8 + r.val → ∀ c, s1 (ix2 q c) = acc (pdc A r c) (n + 1)
  h2 : ∀ c d, s2 (ix2 c d) = acc (pwo A c d) (n + 1)
  h3 : ∀ g k k', s3 (ix3 g k k') = acc (pwg A g k k') (n + 1)

section Step

variable {A : Inp} {n : Fin 32} {i : grid0.Coords}
  {x0 : Vec Ideal S512x1024 .f32} {x1 : Vec Ideal S512x1024 .f32} {x2 : Vec Ideal S512x1024 .bf16} {x3 : Vec Ideal S4x256x256 .bf16}
  {x4 : Vec Ideal S1x1x1024 .f32} {x5 : Vec Ideal S1x1x1024 .f32} {x6 : Vec Ideal S1024x1024 .bf16}
  (H : Rows.IsBlk A n i x0 x1 x2 x3 x4 x5 x6)

theorem halo_first (n : Fin 32) (hn : n.val = 0) : Rows.IsHalo A n (k0_pay12 (F := Ideal)) := by
  intro q c
  unfold Inp.ee
  rw [dif_neg (by omega)]
  unfold_payloads
  pointwise

theorem halo_step (n : Fin 32) (hn : 1 ≤ n.val) (s0 : Vec Ideal S528x1024 .f32) (h0 : ∀ r c, s0 (ix2 r c) = A.ee c (512 * (31 - (n.val - 1)) + r.val)) :
    Rows.IsHalo A n (k0_pay13 (View.ld s0 (Rect.unit ![0, 0] ![16, 1024] inb_S528x1024_S16x1024_0_0))) := by
  intro q c
  unfold_payloads
  pointwise
  refine (h0 _ _).trans ?_
  congr 1
  have := n.isLt
  show 512 * (31 - (n.val - 1)) + q.val = _
  omega

include H

theorem inv_first (hn : n.val = 0) : Inv A n (S0 i x0 x1 x3 x5 x6 (k0_pay12 (F := Ideal))) (S1 x0 x1 x2 x3 x4 x5 x6 (k0_pay11 (F := Ideal)))
    (S2 x0 x1 x2 x3 x4 x5 (k0_pay9 (F := Ideal))) (S3 x0 x1 x2 x5 x6 (k0_pay10 (F := Ideal))) where
  h0 := fun r c => Rows.S0_apply H (halo_first n hn) r c
  h1 := fun q r hq c => by
    rw [Rows.S1_lo H _ q r hq c, acc_succ, hn, acc_zero]
    congr 1
    unfold_payloads
    pointwise
  h1' := fun q r hq c => by
    rw [Rows.S1_hi H _ q r hq c, acc_succ, hn, acc_zero]
    congr 1
    unfold_payloads
    pointwise
  h2 := fun c d => by
    rw [Rows.S2_apply H, acc_succ, hn, acc_zero]
    congr 1
    unfold_payloads
    pointwise
  h3 := fun g k k' => by
    rw [Rows.S3_apply H, acc_succ, hn, acc_zero]
    congr 1
    unfold_payloads
    pointwise

theorem inv_step (hn : 1 ≤ n.val) {s0 : Vec Ideal S528x1024 .f32} {s1 : Vec Ideal S16x1024 .f32} {s2 : Vec Ideal S1024x1024 .f32}
    {s3 : Vec Ideal S4x256x256 .f32} (I : Inv A (n.val - 1) s0 s1 s2 s3) :
    Inv A n (S0 i x0 x1 x3 x5 x6 (k0_pay13 (View.ld s0 (Rect.unit ![0, 0] ![16, 1024] inb_S528x1024_S16x1024_0_0))))
      (S1 x0 x1 x2 x3 x4 x5 x6 s1) (S2 x0 x1 x2 x3 x4 x5 s2) (S3 x0 x1 x2 x5 x6 s3) where
  h0 := fun r c => Rows.S0_apply H (halo_step n hn s0 I.h0) r c
  h1 := fun q r hq c => by
    rw [Rows.S1_lo H _ q r hq c, acc_succ, I.h1 q r hq c, Nat.sub_add_cancel hn]
    rfl
  h1' := fun q r hq c => by
    rw [Rows.S1_hi H _ q r hq c, acc_succ, I.h1' q r hq c, Nat.sub_add_cancel hn]
    rfl
  h2 := fun c d => by
    rw [Rows.S2_apply H, acc_succ, I.h2 c d, Nat.sub_add_cancel hn]
    rfl
  h3 := fun g k k' => by
    rw [Rows.S3_apply H, acc_succ, I.h3 g k k', Nat.sub_add_cancel hn]
    rfl

end Step

variable (m : (ℓ : Loc nD τ sig) → Buf (Elt Ideal) ℓ) (c : Dev nD)

/-- The scratches after point `t`. -/
theorem inv (n : ℕ) : ∀ hn : n < cfg0.N, Inv (Blocks.A m c) n (outsAt0 m c n hn).2.2.2.2.1 (outsAt0 m c n hn).2.2.2.2.2.1
    (outsAt0 m c n hn).2.2.2.2.2.2.1 (outsAt0 m c n hn).2.2.2.2.2.2.2 := by
  induction n with
  | zero =>
    intro hn
    have e := outsAt0_A m c ⟨0, hn⟩ rfl (by simp) (by simp)
    dsimp only at e
    rw [e]
    dsimp only
    rw [sout_A_0, sout_A_1, sout_A_2, sout_A_3]
    exact inv_first (n := ⟨0, hn⟩) (Blocks.isBlk m c ⟨0, hn⟩) rfl
  | succ n ih =>
    intro hn
    have hN : cfg0.N = 32 := rfl
    have I := ih (by omega)
    by_cases h2 : (n + 1) % 32 = 31
    · have e := outsAt0_C m c ⟨n + 1, hn⟩ (by dsimp only; omega) (by dsimp only; omega) h2
      dsimp only at e
      rw [e]
      dsimp only
      rw [sout_C_0, sout_C_1, sout_C_2, sout_C_3]
      exact inv_step (n := ⟨n + 1, hn⟩) (Blocks.isBlk m c ⟨n + 1, hn⟩) (by simp) I
    · have e := outsAt0_B m c ⟨n + 1, hn⟩ (by dsimp only; omega) (by dsimp only; omega) h2
      dsimp only at e
      rw [e]
      dsimp only
      rw [sout_B_0, sout_B_1, sout_B_2, sout_B_3]
      exact inv_step (n := ⟨n + 1, hn⟩) (Blocks.isBlk m c ⟨n + 1, hn⟩) (by simp) I

/-- The block of the input's gradient that point `t` writes. -/
theorem out7 (t : Fin cfg0.N) : ∃ h, Rows.IsHalo (Blocks.A m c) t h ∧ (outsAt0 m c t.val t.isLt).1
    = W7 (grid0.coords t) (iblk m c 0 t) (iblk m c 1 t) (iblk m c 2 t) (iblk m c 3 t) (iblk m c 4 t) (iblk m c 5 t) (iblk m c 6 t) h := by
  have hN : cfg0.N = 32 := rfl
  have ht := t.isLt
  by_cases h0 : t.val = 0
  · refine ⟨k0_pay12 (F := Ideal), halo_first t h0, ?_⟩
    rw [outsAt0_A m c t (by omega) (by omega) (by omega)]
    dsimp only
    rw [out_A_7]
  · have I := inv m c (t.val - 1) (by omega)
    refine ⟨_, halo_step t (by omega) _ I.h0, ?_⟩
    by_cases h2 : t.val % 32 = 31
    · rw [outsAt0_C m c t (by omega) (by omega) h2]
      dsimp only
      rw [out_C_7]
    · rw [outsAt0_B m c t (by omega) (by omega) h2]
      dsimp only
      rw [out_B_7]

/-- The last point writes the running sums out. -/
theorem outLast (t : Fin cfg0.N) (ht : t.val % 32 = 31) :
    (outsAt0 m c t.val t.isLt).2.1 = k0_pay4 (outsAt0 m c t.val t.isLt).2.2.2.2.2.2.1
    ∧ (outsAt0 m c t.val t.isLt).2.2.1 = k0_pay5 (outsAt0 m c t.val t.isLt).2.2.2.2.2.2.2
    ∧ (outsAt0 m c t.val t.isLt).2.2.2.1 = W10 (outsAt0 m c t.val t.isLt).2.2.2.2.2.1 := by
  rw [outsAt0_C m c t (by omega) (by omega) ht]
  dsimp only
  rw [out_C_8, out_C_9, out_C_10, sout_C_1, sout_C_2, sout_C_3]
  exact ⟨rfl, rfl, rfl⟩

end Cert.Proof.Fold
-- ==== Proof.Arrays.lean ====
/-
  What the kernel's four result arrays hold when it ends: the sums over the tiles as sums over all tokens.
-/
module

public import proofs.«01_k».proof.Proof.Fold

@[expose] public section

set_option maxRecDepth 16384

noncomputable section

open Idealize.ShloMosaic Idealize.ShloMosaic.TcCoe Idealize.SL.Sem Cert.KernelIdeal Cert.KernelIdeal.Gen Cert.Proof.Blk

namespace Cert.Proof

/-- A sum over the tiles and their rows is the sum over the tokens. -/
theorem sum_tok (f : Fin 16384 → EReal) : ∑ n : Fin 32, ∑ r : Fin 512, f (tok n r) = ∑ t, f t := by
  rw [← Finset.sum_product']
  refine Finset.sum_bij' (fun p _ => tok p.1 p.2)
    (fun t _ => ((⟨31 - t.val / 512, by have := t.isLt; omega⟩ : Fin 32), (⟨t.val % 512, by omega⟩ : Fin 512))) ?_ ?_ ?_ ?_ ?_
  · intro p _; exact Finset.mem_univ _
  · intro t _; simp
  · rintro ⟨n, r⟩ _
    have := n.isLt; have := r.isLt
    simp only [tok, Prod.mk.injEq, Fin.ext_iff]
    omega
  · intro t _
    have := t.isLt
    simp only [tok, Fin.ext_iff]
    omega
  · intro p _; rfl

/-- A sum over eight residues and the rows of each is the sum over the tile's rows. -/
theorem sum_res (g : Fin 512 → EReal) :
    ∑ r : Fin 8, ∑ x : Fin 64, g ⟨x.val * 8 + r.val, by have := x.isLt; have := r.isLt; omega⟩ = ∑ r, g r := by
  rw [← Finset.sum_product']
  refine Finset.sum_bij' (fun p _ => ⟨p.2.val * 8 + p.1.val, by have := p.1.isLt; have := p.2.isLt; omega⟩)
    (fun t _ => ((⟨t.val % 8, by omega⟩ : Fin 8), (⟨t.val / 8, by have := t.isLt; omega⟩ : Fin 64))) ?_ ?_ ?_ ?_ ?_
  · intro p _; exact Finset.mem_univ _
  · intro t _; simp
  · rintro ⟨n, r⟩ _
    have := n.isLt; have := r.isLt
    simp only [Prod.mk.injEq, Fin.ext_iff]
    omega
  · intro t _
    simp only [Fin.ext_iff]
    omega
  · intro p _; rfl

theorem sum_parts (f : Fin 16384 → EReal) :
    ∑ r : Fin 8, ∑ n : Fin 32, ∑ x : Fin 64, f (tok n ⟨x.val * 8 + r.val, by have := x.isLt; have := r.isLt; omega⟩) = ∑ t, f t := by
  rw [Finset.sum_comm, ← sum_tok]
  exact Finset.sum_congr rfl fun n _ => sum_res fun q => f (tok n q)

namespace Inp

variable (A : Inp)

/-- The gradient at the block's input: the pooled half, then the gate's half. -/
def dp (t : Fin 16384) (j : Fin 2048) : EReal :=
  if h : j.val < 1024 then A.du t ⟨j.val, h⟩ else A.dz t ⟨j.val - 1024, by have := j.isLt; omega⟩
/-- The bias's gradient, then the scale's; the other rows are empty. -/
def dvec (q : Fin 8) (c : Fin 1024) : EReal := if q.val = 0 then A.dbg c else if q.val = 1 then A.dsc c else 0

end Inp

namespace Arrays

variable (m : (ℓ : Loc nD τ sig) → Buf (Elt Ideal) ℓ) (c : Dev nD)

theorem W10_0 (s : Vec Ideal S16x1024 .f32) (q : Fin 8) (hq : q.val = 0) (k : Fin 1024) :
    W10 s (ix2 q k) = ∑ r : Fin 8, s (ix2 (⟨r.val, by have := r.isLt; omega⟩ : Fin 16) k) := by
  unfold W10
  refine (Rows.miss2 _ _ _ q k (by omega)).trans ?_
  refine (Rows.hit2 _ _ _ q k (0 : Fin 1) k (by simp [hq]) (by simp)).trans ?_
  unfold_payloads
  pointwise
theorem W10_1 (s : Vec Ideal S16x1024 .f32) (q : Fin 8) (hq : q.val = 1) (k : Fin 1024) :
    W10 s (ix2 q k) = ∑ r : Fin 8, s (ix2 (⟨8 + r.val, by have := r.isLt; omega⟩ : Fin 16) k) := by
  unfold W10
  refine (Rows.hit2 _ _ _ q k (0 : Fin 1) k (by simp [hq]) (by simp)).trans ?_
  unfold_payloads
  pointwise
theorem W10_2 (s : Vec Ideal S16x1024 .f32) (q : Fin 8) (hq : 2 ≤ q.val) (k : Fin 1024) :
    W10 s (ix2 q k) = 0 := by
  unfold W10
  refine (Rows.miss2 _ _ _ q k (by omega)).trans ?_
  refine (Rows.miss2 _ _ _ q k (by omega)).trans ?_
  refine (Rows.hit2 _ _ _ q k q k (by simp) (by simp)).trans ?_
  unfold_payloads
  pointwise

theorem acc_last (f : Fin 32 → EReal) (n : ℕ) (hn : n = 31) : Fold.acc f (n + 1) = ∑ s : Fin 32, f s := by
  subst hn
  exact Fold.acc_all f

/-- The last point's scratches, summed up. -/
theorem last8 (t : Fin cfg0.N) (ht : t.val = 31) (k d : Fin 1024) :
    (outsAt0 m c t.val t.isLt).2.1 (ix2 k d) = (Blocks.A m c).dwo k d := by
  rw [(Fold.outLast m c t (by omega)).1]
  have I := (Fold.inv m c t.val t.isLt).h2 k d
  generalize hs : (outsAt0 m c t.val t.isLt).2.2.2.2.2.2.1 = s at I ⊢
  unfold k0_pay4
  refine Eq.trans ?_ (I.trans ((acc_last _ _ ht).trans ?_))
  · pointwise
  · exact sum_tok fun t => (Blocks.A m c).y2 t k * (Blocks.A m c).D t d
theorem last9 (t : Fin cfg0.N) (ht : t.val = 31) (g : Fin 4) (k d : Fin 256) :
    (outsAt0 m c t.val t.isLt).2.2.1 (ix3 g k d) = (Blocks.A m c).dwg g k d := by
  rw [(Fold.outLast m c t (by omega)).2.1]
  have I := (Fold.inv m c t.val t.isLt).h3 g k d
  generalize hs : (outsAt0 m c t.val t.isLt).2.2.2.2.2.2.2 = s at I ⊢
  unfold k0_pay5
  refine Eq.trans ?_ (I.trans ((acc_last _ _ ht).trans ?_))
  · pointwise
  · exact sum_tok fun t => (Blocks.A m c).d t (col g k) * (Blocks.A m c).dov t (col g d)
theorem last10 (t : Fin cfg0.N) (ht : t.val = 31) (q : Fin 8) (k : Fin 1024) :
    (outsAt0 m c t.val t.isLt).2.2.2.1 (ix2 q k) = (Blocks.A m c).dvec q k := by
  rw [(Fold.outLast m c t (by omega)).2.2]
  have I := Fold.inv m c t.val t.isLt
  have h1 := I.h1
  have h2 := I.h1'
  unfold Inp.dvec
  split
  · rename_i hq
    rw [W10_0 _ q hq]
    refine (Finset.sum_congr rfl fun r _ => (h1 _ r rfl k).trans (acc_last _ _ ht)).trans ?_
    exact sum_parts fun t => (Blocks.A m c).dov t k
  · split
    · rename_i hq
      rw [W10_1 _ q hq]
      refine (Finset.sum_congr rfl fun r _ => (h2 _ r rfl k).trans (acc_last _ _ ht)).trans ?_
      exact sum_parts fun t => (Blocks.A m c).dy1 t k * (Blocks.A m c).ob t k
    · exact W10_2 _ q (by omega) k

theorem row7 (t : Fin cfg0.N) (r : Fin 512) (k : Fin 2048) :
    (outsAt0 m c t.val t.isLt).1 (ix2 r k) = (Blocks.A m c).dp (tok t r) k := by
  obtain ⟨h, H, e⟩ := Fold.out7 m c t
  rw [e]
  unfold Inp.dp
  split
  · exact Rows.W7_lo (Blocks.isBlk m c t) H r k _ rfl
  · exact Rows.W7_hi (Blocks.isBlk m c t) r k _ (by dsimp only; omega)

/-- The four arrays. -/
theorem arr7 : (dats m 0 c).arrAt 7 cfg0.N = fun j => (Blocks.A m c).dp (j 0) (j 1) := by
  refine (dats m 0 c).arrAt_eq_of_covers 7 _ (by decide +kernel) fun t hf y => ?_
  blk_simp
  rw [after0_7]
  refine Eq.trans (congrArg _ (eq_ix2 y)) ((row7 m c t (y 0) (y 1)).trans ?_)
  have i7 := (Blocks.idx t).2.2.2.2.2.2.2.1
  congr 1
  · apply Fin.ext
    blk_simp [i7]
    simp [tok, Nat.mul_comm]
  · apply Fin.ext
    blk_simp [i7]

theorem arr8 : (dats m 0 c).arrAt 8 cfg0.N = fun j => (Blocks.A m c).dwo (j 0) (j 1) := by
  obtain ⟨t, ht⟩ : ∃ t : Fin cfg0.N, t.val = 31 := ⟨⟨31, by decide⟩, rfl⟩
  refine (dats m 0 c).arrAt_eq_of_after_last 8 t (by rw [show t = (⟨31, by decide⟩ : Fin cfg0.N) from Fin.ext ht]; decide +kernel) _ fun j => ?_
  blk_simp
  rw [after0_8]
  exact Eq.trans (congrArg _ (eq_ix2 j)) (last8 m c t ht (j 0) (j 1))

theorem arr9 : (dats m 0 c).arrAt 9 cfg0.N = fun j => (Blocks.A m c).dwg (j 0) (j 1) (j 2) := by
  obtain ⟨t, ht⟩ : ∃ t : Fin cfg0.N, t.val = 31 := ⟨⟨31, by decide⟩, rfl⟩
  refine (dats m 0 c).arrAt_eq_of_after_last 9 t (by rw [show t = (⟨31, by decide⟩ : Fin cfg0.N) from Fin.ext ht]; decide +kernel) _ fun j => ?_
  blk_simp
  rw [after0_9]
  exact Eq.trans (congrArg _ (eq_ix3 j)) (last9 m c t ht (j 0) (j 1) (j 2))

theorem arr10 : (dats m 0 c).arrAt 10 cfg0.N = fun j => (Blocks.A m c).dvec (j 0) (j 1) := by
  obtain ⟨t, ht⟩ : ∃ t : Fin cfg0.N, t.val = 31 := ⟨⟨31, by decide⟩, rfl⟩
  refine (dats m 0 c).arrAt_eq_of_after_last 10 t (by rw [show t = (⟨31, by decide⟩ : Fin cfg0.N) from Fin.ext ht]; decide +kernel) _ fun j => ?_
  blk_simp
  rw [after0_10]
  exact Eq.trans (congrArg _ (eq_ix2 j)) (last10 m c t ht (j 0) (j 1))

end Arrays

end Cert.Proof
-- ==== Proof.Ref.lean ====
/-
  What the reference computes, element by element, in the terms of the backward pass.
-/
module

public import proofs.«01_k».proof.Proof.Arrays

@[expose] public section

set_option maxRecDepth 16384

noncomputable section

open Idealize.ShloMosaic Cert.ReferenceIdeal Cert.ReferenceIdeal.Gen Cert.ReferenceIdeal.Read

namespace Cert.Proof.Ref

variable (a0 : Vec Ideal S16384x1024 .f32) (a1 : Vec Ideal S16384x2048 .f32) (a2 : Vec Ideal S4x256x256 .f32)
  (a3 a4 : Vec Ideal S2x1024 .f32) (a5 : Vec Ideal S1024x1024 .f32)

theorem dot0 (t : Fin 16384) (k : Fin 256) : val_main_v75 (F := Ideal) a1 a2 (ix2 t k)
    = ∑ j : Fin 256, Blocks.dK a1 0 t j * a2 (ix3 0 j k) := by
  unfold val_main_v75 val_main_v74 val_main_v73 Blocks.dK
  generalize val_main_v27 (F := Ideal) a1 = u
  pointwise

theorem dot1 (t : Fin 16384) (k : Fin 256) : val_main_v78 (F := Ideal) a1 a2 (ix2 t k)
    = ∑ j : Fin 256, Blocks.dK a1 1 t j * a2 (ix3 1 j k) := by
  unfold val_main_v78 val_main_v77 val_main_v76 Blocks.dK
  generalize val_main_v42 (F := Ideal) a1 = u
  pointwise

theorem dot2 (t : Fin 16384) (k : Fin 256) : val_main_v81 (F := Ideal) a1 a2 (ix2 t k)
    = ∑ j : Fin 256, Blocks.dK a1 2 t j * a2 (ix3 2 j k) := by
  unfold val_main_v81 val_main_v80 val_main_v79 Blocks.dK
  generalize val_main_v57 (F := Ideal) a1 = u
  pointwise

theorem dot3 (t : Fin 16384) (k : Fin 256) : val_main_v84 (F := Ideal) a1 a2 (ix2 t k)
    = ∑ j : Fin 256, Blocks.dK a1 3 t j * a2 (ix3 3 j k) := by
  unfold val_main_v84 val_main_v83 val_main_v82 Blocks.dK
  generalize val_main_v72 (F := Ideal) a1 = u
  pointwise

/-- Four arrays side by side, read at a channel. -/
theorem cat4_at (u0 u1 u2 u3 : Vec Ideal S16384x256 .f32) (t : Fin 16384) (c : Fin 1024) :
    concatenate S16384x1024 1 [⟨S16384x256, u0⟩, ⟨S16384x256, u1⟩, ⟨S16384x256, u2⟩, ⟨S16384x256, u3⟩]
        concatenates_S16384x256_S16384x256_S16384x256_S16384x256_S16384x1024_d1 (ix2 t c)
      = if h : c.val < 256 then u0 (ix2 t ⟨c.val, h⟩)
        else if h : c.val - 256 < 256 then u1 (ix2 t ⟨c.val - 256, h⟩)
        else if h : c.val - 256 - 256 < 256 then u2 (ix2 t ⟨c.val - 256 - 256, h⟩)
        else u3 (ix2 t ⟨c.val - 256 - 256 - 256, by have := c.isLt; omega⟩) := by
  pointwise
theorem cat4 (u0 u1 u2 u3 : Vec Ideal S16384x256 .f32) (t : Fin 16384) (g : Fin 4) (k : Fin 256) :
    concatenate S16384x1024 1 [⟨S16384x256, u0⟩, ⟨S16384x256, u1⟩, ⟨S16384x256, u2⟩, ⟨S16384x256, u3⟩]
        concatenates_S16384x256_S16384x256_S16384x256_S16384x256_S16384x1024_d1 (ix2 t (col g k))
      = (match g with | 0 => u0 | 1 => u1 | 2 => u2 | 3 => u3) (ix2 t k) := by
  rw [cat4_at]
  have hk := k.isLt
  fin_cases g
  · rw [dif_pos (by simp [col])]; congr 2; apply Fin.ext; simp [col]
  · rw [dif_neg (by simp [col]), dif_pos (by simp [col])]; congr 2; apply Fin.ext; simp [col]
  · rw [dif_neg (by simp [col]; omega), dif_neg (by simp [col]; omega), dif_pos (by simp [col]; omega)]; congr 2; apply Fin.ext; simp [col]; omega
  · rw [dif_neg (by simp [col]; omega), dif_neg (by simp [col]; omega), dif_neg (by simp [col]; omega)]; congr 2; apply Fin.ext; simp [col]; omega

theorem ob (t : Fin 16384) (c : Fin 1024) : val_main_v88 (F := Ideal) a1 a2 a3 (ix2 t c) = (Blocks.inp a0 a1 a2 a3 a4 a5).ob t c := by
  obtain ⟨g, k, rfl⟩ : ∃ g k, c = col g k := ⟨gOf c, rOf c, (col_of c).symm⟩
  rw [val_main_v88_apply]
  refine congrArg₂ (· + ·) ?_ ?_
  · unfold val_main_v85
    refine (cat4 _ _ _ _ t g k).trans ?_
    rw [gOf_col, rOf_col]
    simp only [Blocks.inp, gOf_col, rOf_col]
    fin_cases g
    · exact dot0 a1 a2 t k
    · exact dot1 a1 a2 t k
    · exact dot2 a1 a2 t k
    · exact dot3 a1 a2 t k
  · unfold val_main_v87 val_main_v86 val_main_v1 val_main_v0 Blocks.inp
    pointwise

theorem y1 (t : Fin 16384) (c : Fin 1024) : val_main_v91 (F := Ideal) a1 a2 a3 a4 (ix2 t c) = (Blocks.inp a0 a1 a2 a3 a4 a5).ob t c * (Blocks.inp a0 a1 a2 a3 a4 a5).s c := by
  rw [val_main_v91_apply, ob a0 a1 a2 a3 a4 a5]
  refine congrArg₂ (· * ·) rfl ?_
  unfold val_main_v90 val_main_v89 val_main_v3 val_main_v2 Blocks.inp
  pointwise

theorem lg (t : Fin 16384) (c : Fin 1024) : val_main_v92_2 (F := Ideal) a1 (ix2 t c) = (Blocks.inp a0 a1 a2 a3 a4 a5).lg t c := by
  unfold val_main_v92_2 val_main_call1_v4 val_main_call1_v3 val_main_call1_v2 val_main_call1_v1 val_main_call1_v0 val_main_call1_cst val_main_call1_cst_0 val_main_v5
  pointwise
  rfl

theorem sz (t : Fin 16384) (c : Fin 1024) : val_main_v92_0 (F := Ideal) a1 (ix2 t c) = (Blocks.inp a0 a1 a2 a3 a4 a5).sz t c := by
  rw [val_main_v92_0_apply, lg a0 a1 a2 a3 a4 a5]
  refine congrArg₂ (· * ·) ?_ rfl
  unfold val_main_v5 Blocks.inp
  pointwise

theorem y2 (t : Fin 16384) (c : Fin 1024) : val_main_v93 (F := Ideal) a1 a2 a3 a4 (ix2 t c) = (Blocks.inp a0 a1 a2 a3 a4 a5).y2 t c := by
  rw [val_main_v93_apply, y1 a0 a1 a2 a3 a4 a5, sz a0 a1 a2 a3 a4 a5]
  rfl

theorem dy2 (t : Fin 16384) (c : Fin 1024) : val_main_v97 (F := Ideal) a0 a5 (ix2 t c) = (Blocks.inp a0 a1 a2 a3 a4 a5).dy2 t c := by
  unfold val_main_v97
  pointwise
  rfl

theorem dy1 (t : Fin 16384) (c : Fin 1024) : val_main_v99 (F := Ideal) a0 a1 a5 (ix2 t c) = (Blocks.inp a0 a1 a2 a3 a4 a5).dy1 t c := by
  rw [val_main_v99_apply, dy2 a0 a1 a2 a3 a4 a5, sz a0 a1 a2 a3 a4 a5]
  rfl

theorem dov (t : Fin 16384) (c : Fin 1024) : val_main_v105 (F := Ideal) a0 a1 a4 a5 (ix2 t c) = (Blocks.inp a0 a1 a2 a3 a4 a5).dov t c := by
  rw [val_main_v105_apply, dy1 a0 a1 a2 a3 a4 a5]
  refine congrArg₂ (· * ·) rfl ?_
  unfold val_main_v104 val_main_v89 val_main_v3 val_main_v2 Blocks.inp
  pointwise

theorem dd0 (t : Fin 16384) (k : Fin 256) : val_main_v133 (F := Ideal) a0 a1 a2 a4 a5 (ix2 t k) = (Blocks.inp a0 a1 a2 a3 a4 a5).dd t (col 0 k) := by
  unfold val_main_v133 val_main_v110 val_main_v74 val_main_v73 Inp.dd
  rw [gOf_col, rOf_col]
  simp only [← dov]
  generalize val_main_v105 (F := Ideal) a0 a1 a4 a5 = u
  pointwise
  simp only [Blocks.inp, col]
  rfl

theorem dd1 (t : Fin 16384) (k : Fin 256) : val_main_v127 (F := Ideal) a0 a1 a2 a4 a5 (ix2 t k) = (Blocks.inp a0 a1 a2 a3 a4 a5).dd t (col 1 k) := by
  unfold val_main_v127 val_main_v111 val_main_v77 val_main_v76 Inp.dd
  rw [gOf_col, rOf_col]
  simp only [← dov]
  generalize val_main_v105 (F := Ideal) a0 a1 a4 a5 = u
  pointwise
  simp only [Blocks.inp, col]
  rfl

theorem dd2 (t : Fin 16384) (k : Fin 256) : val_main_v121 (F := Ideal) a0 a1 a2 a4 a5 (ix2 t k) = (Blocks.inp a0 a1 a2 a3 a4 a5).dd t (col 2 k) := by
  unfold val_main_v121 val_main_v112 val_main_v80 val_main_v79 Inp.dd
  rw [gOf_col, rOf_col]
  simp only [← dov]
  generalize val_main_v105 (F := Ideal) a0 a1 a4 a5 = u
  pointwise
  simp only [Blocks.inp, col]
  rfl

theorem dd3 (t : Fin 16384) (k : Fin 256) : val_main_v116 (F := Ideal) a0 a1 a2 a4 a5 (ix2 t k) = (Blocks.inp a0 a1 a2 a3 a4 a5).dd t (col 3 k) := by
  unfold val_main_v116 val_main_v113 val_main_v83 val_main_v82 Inp.dd
  rw [gOf_col, rOf_col]
  simp only [← dov]
  generalize val_main_v105 (F := Ideal) a0 a1 a4 a5 = u
  pointwise
  simp only [Blocks.inp, col]
  rfl

/-- The output weight's gradient. -/
theorem dwo (c d : Fin 1024) : val_main_v199 (F := Ideal) a0 a1 a2 a3 a4 (ix2 c d) = (Blocks.inp a0 a1 a2 a3 a4 a5).dwo c d := by
  unfold val_main_v199 val_main_v96 val_main_v95 Inp.dwo
  simp only [← y2]
  generalize val_main_v93 (F := Ideal) a1 a2 a3 a4 = u
  pointwise
  exact Finset.sum_congr rfl fun t _ => mul_comm _ _

theorem wg0 (k k' : Fin 256) : val_main_v132 (F := Ideal) a0 a1 a4 a5 (ix2 k k') = (Blocks.inp a0 a1 a2 a3 a4 a5).dwg 0 k k' := by
  unfold val_main_v132 val_main_v131 val_main_v110 Inp.dwg
  simp only [← dov]
  simp only [Blocks.inp, gOf_col, rOf_col, Blocks.dK]
  generalize val_main_v27 (F := Ideal) a1 = u
  generalize val_main_v105 (F := Ideal) a0 a1 a4 a5 = v
  pointwise
  exact Finset.sum_congr rfl fun t _ => (mul_comm _ _).trans (by simp [col])

theorem wg1 (k k' : Fin 256) : val_main_v126 (F := Ideal) a0 a1 a4 a5 (ix2 k k') = (Blocks.inp a0 a1 a2 a3 a4 a5).dwg 1 k k' := by
  unfold val_main_v126 val_main_v125 val_main_v111 Inp.dwg
  simp only [← dov]
  simp only [Blocks.inp, gOf_col, rOf_col, Blocks.dK]
  generalize val_main_v42 (F := Ideal) a1 = u
  generalize val_main_v105 (F := Ideal) a0 a1 a4 a5 = v
  pointwise
  simp only [col]
  exact Finset.sum_congr rfl fun t _ => mul_comm _ _

theorem wg2 (k k' : Fin 256) : val_main_v120 (F := Ideal) a0 a1 a4 a5 (ix2 k k') = (Blocks.inp a0 a1 a2 a3 a4 a5).dwg 2 k k' := by
  unfold val_main_v120 val_main_v119 val_main_v112 Inp.dwg
  simp only [← dov]
  simp only [Blocks.inp, gOf_col, rOf_col, Blocks.dK]
  generalize val_main_v57 (F := Ideal) a1 = u
  generalize val_main_v105 (F := Ideal) a0 a1 a4 a5 = v
  pointwise
  simp only [col]
  exact Finset.sum_congr rfl fun t _ => mul_comm _ _

theorem wg3 (k k' : Fin 256) : val_main_v115 (F := Ideal) a0 a1 a4 a5 (ix2 k k') = (Blocks.inp a0 a1 a2 a3 a4 a5).dwg 3 k k' := by
  unfold val_main_v115 val_main_v114 val_main_v113 Inp.dwg
  simp only [← dov]
  simp only [Blocks.inp, gOf_col, rOf_col, Blocks.dK]
  generalize val_main_v72 (F := Ideal) a1 = u
  generalize val_main_v105 (F := Ideal) a0 a1 a4 a5 = v
  pointwise
  simp only [col]
  exact Finset.sum_congr rfl fun t _ => mul_comm _ _

/-- The grouped weights' gradient. -/
theorem dwg (g : Fin 4) (k k' : Fin 256) : val_main_v200 (F := Ideal) a0 a1 a4 a5 (ix3 g k k') = (Blocks.inp a0 a1 a2 a3 a4 a5).dwg g k k' := by
  have e : (match g with
      | 0 => val_main_v132 (F := Ideal) a0 a1 a4 a5 (ix2 k k')
      | 1 => val_main_v126 (F := Ideal) a0 a1 a4 a5 (ix2 k k')
      | 2 => val_main_v120 (F := Ideal) a0 a1 a4 a5 (ix2 k k')
      | 3 => val_main_v115 (F := Ideal) a0 a1 a4 a5 (ix2 k k')) = (Blocks.inp a0 a1 a2 a3 a4 a5).dwg g k k' := by
    fin_cases g
    · exact wg0 a0 a1 a2 a3 a4 a5 k k'
    · exact wg1 a0 a1 a2 a3 a4 a5 k k'
    · exact wg2 a0 a1 a2 a3 a4 a5 k k'
    · exact wg3 a0 a1 a2 a3 a4 a5 k k'
  rw [← e]
  unfold val_main_v200 val_main_v136 val_main_v130 val_main_v124 val_main_v118 val_main_v123 val_main_v129 val_main_v135 val_main_v117 val_main_v122 val_main_v128 val_main_v134 val_main_cst_17 val_main_cst_18 val_main_cst_19 val_main_cst_20
  generalize val_main_v132 (F := Ideal) a0 a1 a4 a5 = u0
  generalize val_main_v126 (F := Ideal) a0 a1 a4 a5 = u1
  generalize val_main_v120 (F := Ideal) a0 a1 a4 a5 = u2
  generalize val_main_v115 (F := Ideal) a0 a1 a4 a5 = u3
  pointwise
  fin_cases g <;> simp

theorem row0 (c : Fin 1024) : val_main_v194 (F := Ideal) a0 a1 a4 a5 (ix2 0 c) = (Blocks.inp a0 a1 a2 a3 a4 a5).dbg c := by
  unfold val_main_v194 val_main_v109 val_main_v108 val_main_v107 val_main_cst_15 val_main_cst_16 Inp.dbg
  simp only [← dov]
  generalize val_main_v105 (F := Ideal) a0 a1 a4 a5 = u
  pointwise
  exact Fin.sum_univ_one _

theorem row1 (c : Fin 1024) : val_main_v195 (F := Ideal) a0 a1 a2 a3 a5 (ix2 0 c) = (Blocks.inp a0 a1 a2 a3 a4 a5).dsc c := by
  unfold val_main_v195 val_main_v106 val_main_v103 val_main_v102 val_main_v101 val_main_cst_13 val_main_cst_14 Inp.dsc
  have e : ∀ t, val_main_v88 (F := Ideal) a1 a2 a3 (ix2 t c) * val_main_v99 (F := Ideal) a0 a1 a5 (ix2 t c) = (Blocks.inp a0 a1 a2 a3 a4 a5).dy1 t c * (Blocks.inp a0 a1 a2 a3 a4 a5).ob t c :=
    fun t => by rw [ob a0 a1 a2 a3 a4 a5, dy1 a0 a1 a2 a3 a4 a5, mul_comm]
  simp only [← e]
  generalize val_main_v88 (F := Ideal) a1 a2 a3 = u
  generalize val_main_v99 (F := Ideal) a0 a1 a5 = v
  pointwise
  exact Fin.sum_univ_one _

/-- The bias's and the scale's gradients. -/
theorem dvec (q : Fin 8) (c : Fin 1024) : val_main_v197 (F := Ideal) a0 a1 a2 a3 a4 a5 (ix2 q c) = (Blocks.inp a0 a1 a2 a3 a4 a5).dvec q c := by
  unfold val_main_v197 Inp.dvec val_main_v196 val_main_cst_39
  rw [← row0 a0 a1 a2 a3 a4 a5, ← row1 a0 a1 a2 a3 a4 a5]
  generalize val_main_v194 (F := Ideal) a0 a1 a4 a5 = u0
  generalize val_main_v195 (F := Ideal) a0 a1 a2 a3 a5 = u1
  pointwise
  obtain ⟨q, hq⟩ := q
  rcases q with _ | _ | q
  · simp
  · simp
  · simp

end Cert.Proof.Ref

end
-- ==== Proof.Real.lean ====
/-
  Extended reals that are real numbers: closed under the operations of the backward pass; the precondition says that every
  element of the arguments is one.
-/
module

public import proofs.«01_k».proof.Proof.Spec
public import proofs.«01_k».proof.Proof.Gen.Pre_finite
public import Idealize.ShloMosaic.Lib.ReduceAll

@[expose] public section

set_option maxRecDepth 16384

noncomputable section

open Idealize.ShloMosaic

namespace Cert.Proof

/-- The element is a real number. -/
def IsR (x : EReal) : Prop := ∃ r : ℝ, x = (r : EReal)

namespace IsR

variable {x y : EReal}

theorem add (hx : IsR x) (hy : IsR y) : IsR (x + y) := by
  obtain ⟨a, rfl⟩ := hx; obtain ⟨b, rfl⟩ := hy; exact ⟨a + b, (EReal.coe_add a b).symm⟩
theorem sub (hx : IsR x) (hy : IsR y) : IsR (x - y) := by
  obtain ⟨a, rfl⟩ := hx; obtain ⟨b, rfl⟩ := hy; exact ⟨a - b, (EReal.coe_sub a b).symm⟩
theorem mul (hx : IsR x) (hy : IsR y) : IsR (x * y) := by
  obtain ⟨a, rfl⟩ := hx; obtain ⟨b, rfl⟩ := hy; exact ⟨a * b, (EReal.coe_mul a b).symm⟩
theorem zero : IsR 0 := ⟨0, rfl⟩
theorem sum {ι : Type} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))
theorem logistic (hx : IsR x) : IsR (Ideal.logistic x) := by
  obtain ⟨a, rfl⟩ := hx; exact ⟨_, Ideal.logistic_coe a⟩
theorem div_nat (hx : IsR x) (n : ℝ) (hn : n ≠ 0) : IsR (Ideal.div x (n : EReal)) := by
  rw [Ideal.div_coe hn]; exact hx.mul ⟨_, rfl⟩

/-- A difference with itself is zero only for a real number. -/
theorem of_sub (h : x - x = 0) : IsR x := by
  induction x using EReal.rec with
  | bot => exact absurd h (by simp)
  | top => exact absurd h (by simp)
  | coe r => exact ⟨r, rfl⟩

end IsR

instance : Subsingleton (⟨0, ![]⟩ : Shape).Idx := ⟨fun a b => funext fun i => i.elim0⟩

/-- One argument's part of the precondition. -/
theorem isR_of_all {s : Shape} {axes : List (Fin s.rank)} (x : s.Idx → EReal) (b : s.Idx → EReal) (hb : ∀ i, b i = 0)
    (init : (⟨0, ![]⟩ : Shape).Idx → BitVec 1) (h : s.ReducesTo axes (⟨0, ![]⟩ : Shape)) (hu : 0 < (⟨0, ![]⟩ : Shape).numel)
    (j : (⟨0, ![]⟩ : Shape).Idx)
    (e : Host.reduce IntOp.andi (cmpf (F := Ideal) (φ := .f32) .oeq (subf (F := Ideal) (φ := .f32) x x) b) init h hu j = 1#1) (i : s.Idx) : IsR (x i) := by
  have h1 := Host.reduce_andi_all _ init h hu j e i
  have h2 : BitVec.ofBool (decide (x i - x i = b i)) = 1#1 := h1
  rw [hb] at h2
  refine IsR.of_sub ?_
  by_contra hc
  simp [hc] at h2

theorem zero_bcast {s : Shape} (h : (⟨0, ![]⟩ : Shape).BroadcastsInDim s (![] : Fin 0 → Fin s.rank)) (i : s.Idx) :
    broadcastInDim s ![] h (constant (F := Ideal) (⟨0, ![]⟩ : Shape) .f32 0x00000000#32) i = 0 :=
  Ideal.ofBits_zero_f32

open Cert.Pre_finite in
/-- The precondition: every element of every argument is a real number. -/
theorem pre_isR (a0 : FVec Ideal S16384x1024 .f32) (a1 : FVec Ideal S16384x2048 .f32) (a2 : FVec Ideal S4x256x256 .f32)
    (a3 a4 : FVec Ideal S2x1024 .f32) (a5 : FVec Ideal S1024x1024 .f32) (j : S_.Idx)
    (h : Cert.Pre_finite.fn (F := Ideal) a0 a1 a2 a3 a4 a5 j = 1#1) :
    (∀ i, IsR (a0 i)) ∧ (∀ i, IsR (a1 i)) ∧ (∀ i, IsR (a2 i)) ∧ (∀ i, IsR (a3 i)) ∧ (∀ i, IsR (a4 i)) ∧ (∀ i, IsR (a5 i)) := by
  unfold Cert.Pre_finite.fn Cert.Pre_finite.fn_part1 at h
  simp only [andi_apply] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨isR_of_all a0 _ (zero_bcast _) _ _ _ j h0, isR_of_all a1 _ (zero_bcast _) _ _ _ j h1, isR_of_all a2 _ (zero_bcast _) _ _ _ j h2,
    isR_of_all a3 _ (zero_bcast _) _ _ _ j h3, isR_of_all a4 _ (zero_bcast _) _ _ _ j h4, isR_of_all a5 _ (zero_bcast _) _ _ _ j h5⟩

end Cert.Proof

end
-- ==== Proof.Win.lean ====
/-
  The reference's running sum from the last token: a window as long as the axis, padded behind, is the sum of the rows from
  a token on; and the difference such a sum makes of a sequence and its shift is the sum of a short window.
-/
module

public import proofs.«01_k».proof.Proof.Real

@[expose] public section

set_option maxRecDepth 16384

noncomputable section

open Idealize.ShloMosaic

namespace Cert.Proof

theorem foldl_add {α : Type} (L : List α) (g : α → EReal) (v : EReal) : L.foldl (fun r n => r + g n) v = v + (L.map g).sum := by
  induction L generalizing v with
  | nil => simp
  | cons a L ih => rw [List.foldl_cons, ih, List.map_cons, List.sum_cons, add_assoc]

/-- The host's window sum over the rest of the first axis. -/
theorem revsum {N M : ℕ} (x : (⟨2, ![N, M]⟩ : Shape).Idx → EReal) (init : (⟨0, ![]⟩ : Shape).Idx → EReal)
    (h : (⟨2, ![N, M]⟩ : Shape).ReduceWindows ![N, 1] ![1, 1] ![0, 0] ![N - 1, 0] ⟨2, ![N, M]⟩) (hu : 0 < (⟨0, ![]⟩ : Shape).numel)
    (h0 : ∀ i, init i = 0) (t : Fin N) (c : Fin M) :
    Host.reduceWindowAdd (F := Ideal) (φ := .f32) ![N, 1] ![1, 1] ![0, 0] ![N - 1, 0] x init h hu (ix2 t c)
      = ∑ s ∈ Finset.range N, if hs : t.val + s < N then x (ix2 ⟨t.val + s, hs⟩ c) else 0 := by
  unfold Host.reduceWindowAdd
  rw [Ideal.hostReduceWindowAdd_def]
  unfold Ideal.hostReduceWindowAdd Host.reduceWindow
  simp only [h0]
  rw [foldl_add, zero_add, ← List.ofFn_eq_map, List.sum_ofFn]
  let G : (⟨2, ![N, 1]⟩ : Shape).Idx → EReal := fun i => if hs : t.val + (i 0).val < N then x (ix2 ⟨t.val + (i 0).val, hs⟩ c) else 0
  have key : ∀ i : (⟨2, ![N, 1]⟩ : Shape).Idx, (if hin : ∀ a : Fin 2, (![0, 0] : Fin 2 → ℕ) a ≤ ((ix2 t c : (⟨2, ![N, M]⟩ : Shape).Idx) (a.cast h.1.symm)).val * (![1, 1] : Fin 2 → ℕ) a + (i a).val ∧ ((ix2 t c : (⟨2, ![N, M]⟩ : Shape).Idx) (a.cast h.1.symm)).val * (![1, 1] : Fin 2 → ℕ) a + (i a).val - (![0, 0] : Fin 2 → ℕ) a < (⟨2, ![N, M]⟩ : Shape).size a then x (fun a => ⟨_, (hin a).2⟩) else 0) = G i := by
    intro i
    have hi : (i 1).val = 0 := by have := (i 1).isLt; simp at this; omega
    have hc := c.isLt
    by_cases hs : t.val + (i 0).val < N
    · rw [dif_pos (fun a => by
        match a with
        | ⟨0, _⟩ => show 0 ≤ t.val * 1 + (i 0).val ∧ t.val * 1 + (i 0).val - 0 < N; omega
        | ⟨1, _⟩ => show 0 ≤ c.val * 1 + (i 1).val ∧ c.val * 1 + (i 1).val - 0 < M; omega)]
      simp only [G]
      rw [dif_pos hs]
      congr 1
      funext a
      apply Fin.ext
      match a with
      | ⟨0, _⟩ => show t.val * 1 + (i 0).val - 0 = t.val + (i 0).val; omega
      | ⟨1, _⟩ => show c.val * 1 + (i 1).val - 0 = c.val; omega
    · rw [dif_neg (fun hin => hs (by
        have h2 : t.val * 1 + (i 0).val - 0 < N := (hin 0).2
        omega))]
      simp only [G]
      rw [dif_neg hs]
  refine (Finset.sum_congr rfl fun n _ => key ((⟨2, ![N, 1]⟩ : Shape).rowMajor.symm n)).trans ?_
  rw [Equiv.sum_comp (⟨2, ![N, 1]⟩ : Shape).rowMajor.symm G, sum_idx2, Finset.sum_range]
  refine Finset.sum_congr rfl fun a _ => ?_
  rw [Fin.sum_univ_one]
  rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sequence of real numbers and its shift by `w`, both zero past the end: the differences summed from `t` on are the
    window of `w` at `t`. -/
theorem shift_sum (q : ℕ → EReal) (hq : ∀ p, IsR (q p)) (N w t : ℕ) (h0 : ∀ p, N ≤ p → q p = 0) :
    ∑ s ∈ Finset.range N, (-(q (t + s + w)) + q (t + s)) = ∑ j ∈ Finset.range w, q (t + j) := by
  choose r hr using hq
  have h0' : ∀ p, N ≤ p → r p = 0 := fun p hp => by
    have := h0 p hp
    rw [hr] at this
    exact_mod_cast this
  simp only [hr]
  have e : ∑ s ∈ Finset.range N, (-(r (t + s + w)) + r (t + s)) = ∑ j ∈ Finset.range w, r (t + j) := by
    rw [Finset.sum_add_distrib, Finset.sum_neg_distrib]
    have a := Finset.sum_range_add (fun s => r (t + s)) w N
    have b := Finset.sum_range_add (fun s => r (t + s)) N w
    rw [Nat.add_comm N w] at b
    have z : ∑ x ∈ Finset.range w, r (t + (N + x)) = 0 := Finset.sum_eq_zero fun x _ => h0' _ (by omega)
    have c : ∑ s ∈ Finset.range N, r (t + s + w) = ∑ x ∈ Finset.range N, r (t + (w + x)) :=
      Finset.sum_congr rfl fun s _ => by congr 1; omega
    rw [c]
    linarith
  have e' := congrArg (fun x : ℝ => (x : EReal)) e
  simpa only [coe_sum, EReal.coe_add, EReal.coe_neg] using e'

end Cert.Proof

end
-- ==== Proof.RefDp.lean ====
/-
  The reference's gradient at the block's input: real everywhere under the precondition, so that its running sums' differences
  are the short windows' sums and the gate's derivative is one product.
-/
module

public import proofs.«01_k».proof.Proof.Ref
public import proofs.«01_k».proof.Proof.Win

@[expose] public section

set_option maxRecDepth 16384

noncomputable section

open Idealize.ShloMosaic Cert.ReferenceIdeal Cert.ReferenceIdeal.Gen Cert.ReferenceIdeal.Read

namespace Cert.Proof.RefDp

/-- The count's word, as the real it is converted to. -/
theorem cntw (w : ℕ) (hw : w < 100) (t : Fin 16384) :
    (FloatOps.sitofp FTy.f32 (IntOp.minsi (IntOp.addi (BitVec.ofNat 32 t.val) 1#32) (BitVec.ofNat 32 w)) : Ideal .f32)
      = (((min (t.val + 1) w : ℕ) : ℝ) : EReal) := by
  have ht := t.isLt
  have e : (IntOp.addi (BitVec.ofNat 32 t.val) 1#32 : BitVec 32) = BitVec.ofNat 32 (t.val + 1) := by
    apply BitVec.eq_of_toNat_eq
    simp only [IntOp.addi, BitVec.toNat_add, BitVec.toNat_ofNat]
    omega
  show (((IntOp.minsi _ _ : BitVec 32).toInt : ℝ) : EReal) = _
  rw [e, Rows.minw _ w (by omega) hw]
  simp

theorem cnt_ne (g : Fin 4) (p : ℕ) : ((cnt g p : ℕ) : ℝ) ≠ 0 := by
  have : 0 < cnt g p := by unfold cnt wid; positivity
  exact_mod_cast this.ne'

/-- The windows' gradient as a quotient. -/
theorem ee_eq (A : Inp) (c : Fin 1024) (t : Fin 16384) :
    A.ee c t.val = Ideal.div (A.dd t c) ((cnt (gOf c) t.val : ℝ) : EReal) := by
  unfold Inp.ee
  rw [dif_pos t.isLt, Ideal.div_coe (cnt_ne _ _), Ideal.div_coe (cnt_ne _ _), one_mul]

theorem ee_out (A : Inp) (c : Fin 1024) (p : ℕ) (hp : 16384 ≤ p) : A.ee c p = 0 := by
  unfold Inp.ee
  rw [dif_neg (by omega)]

variable (a0 : Vec Ideal S16384x1024 .f32) (a1 : Vec Ideal S16384x2048 .f32) (a2 : Vec Ideal S4x256x256 .f32)
  (a3 a4 : Vec Ideal S2x1024 .f32) (a5 : Vec Ideal S1024x1024 .f32)

theorem q0 (t : Fin 16384) (k : Fin 256) : val_main_v178 (F := Ideal) a0 a1 a2 a4 a5 (ix2 t k) = (Blocks.inp a0 a1 a2 a3 a4 a5).ee (col 0 k) t.val := by
  rw [ee_eq, gOf_col, ← Ref.dd0 a0 a1 a2 a3 a4 a5]
  unfold val_main_v178 val_main_v177 val_main_v22 val_main_v21 val_main_v20 val_main_v19 val_main_c_3 val_main_v12 val_main_v11 val_main_v10 val_main_c
  generalize val_main_v133 (F := Ideal) a0 a1 a2 a4 a5 = u
  pointwise
  exact congrArg (Ideal.div _) (cntw 2 (by norm_num) t)

/-- What the running sum adds at a token, in group 0: the token's own window, less the one 2 tokens on. -/
theorem s0 (t : Fin 16384) (p : Fin 16385) (hp : p.val = t.val + 1) (k : Fin 256) : val_main_v184 (F := Ideal) a0 a1 a2 a4 a5 (ix2 p k)
    = -((Blocks.inp a0 a1 a2 a3 a4 a5).ee (col 0 k) (t.val + 2)) + (Blocks.inp a0 a1 a2 a3 a4 a5).ee (col 0 k) t.val := by
  have ht := t.isLt
  obtain ⟨p, hp'⟩ := p
  simp only at hp
  subst hp
  unfold val_main_v184 val_main_v182 val_main_v183 val_main_v181 val_main_v179 val_main_cst_34 val_main_cst_35
  have e := q0 a0 a1 a2 a3 a4 a5
  generalize val_main_v178 (F := Ideal) a0 a1 a2 a4 a5 = u at e ⊢
  pointwise
  refine congrArg₂ (· + ·) ?_ ?_
  · by_cases h : t.val + 2 < 16384
    · rw [dif_pos (by omega), e]
      congr 2
      simp only
      omega
    · rw [dif_neg (by omega), ee_out _ _ _ (by omega), neg_zero]
  · rw [dif_pos (by omega), e]
    rfl

theorem q1 (t : Fin 16384) (k : Fin 256) : val_main_v165 (F := Ideal) a0 a1 a2 a4 a5 (ix2 t k) = (Blocks.inp a0 a1 a2 a3 a4 a5).ee (col 1 k) t.val := by
  rw [ee_eq, gOf_col, ← Ref.dd1 a0 a1 a2 a3 a4 a5]
  unfold val_main_v165 val_main_v164 val_main_v37 val_main_v36 val_main_v35 val_main_v34 val_main_c_6 val_main_v12 val_main_v11 val_main_v10 val_main_c
  generalize val_main_v127 (F := Ideal) a0 a1 a2 a4 a5 = u
  pointwise
  exact congrArg (Ideal.div _) (cntw 4 (by norm_num) t)

/-- What the running sum adds at a token, in group 1: the token's own window, less the one 4 tokens on. -/
theorem s1 (t : Fin 16384) (p : Fin 16385) (hp : p.val = t.val + 1) (k : Fin 256) : val_main_v171 (F := Ideal) a0 a1 a2 a4 a5 (ix2 p k)
    = -((Blocks.inp a0 a1 a2 a3 a4 a5).ee (col 1 k) (t.val + 4)) + (Blocks.inp a0 a1 a2 a3 a4 a5).ee (col 1 k) t.val := by
  have ht := t.isLt
  obtain ⟨p, hp'⟩ := p
  simp only at hp
  subst hp
  unfold val_main_v171 val_main_v169 val_main_v170 val_main_v168 val_main_v166 val_main_cst_30 val_main_cst_31
  have e := q1 a0 a1 a2 a3 a4 a5
  generalize val_main_v165 (F := Ideal) a0 a1 a2 a4 a5 = u at e ⊢
  pointwise
  refine congrArg₂ (· + ·) ?_ ?_
  · by_cases h : t.val + 4 < 16384
    · rw [dif_pos (by omega), e]
      congr 2
      simp only
      omega
    · rw [dif_neg (by omega), ee_out _ _ _ (by omega), neg_zero]
  · rw [dif_pos (by omega), e]
    rfl

theorem q2 (t : Fin 16384) (k : Fin 256) : val_main_v152 (F := Ideal) a0 a1 a2 a4 a5 (ix2 t k) = (Blocks.inp a0 a1 a2 a3 a4 a5).ee (col 2 k) t.val := by
  rw [ee_eq, gOf_col, ← Ref.dd2 a0 a1 a2 a3 a4 a5]
  unfold val_main_v152 val_main_v151 val_main_v52 val_main_v51 val_main_v50 val_main_v49 val_main_c_9 val_main_v12 val_main_v11 val_main_v10 val_main_c
  generalize val_main_v121 (F := Ideal) a0 a1 a2 a4 a5 = u
  pointwise
  exact congrArg (Ideal.div _) (cntw 8 (by norm_num) t)

/-- What the running sum adds at a token, in group 2: the token's own window, less the one 8 tokens on. -/
theorem s2 (t : Fin 16384) (p : Fin 16385) (hp : p.val = t.val + 1) (k : Fin 256) : val_main_v158 (F := Ideal) a0 a1 a2 a4 a5 (ix2 p k)
    = -((Blocks.inp a0 a1 a2 a3 a4 a5).ee (col 2 k) (t.val + 8)) + (Blocks.inp a0 a1 a2 a3 a4 a5).ee (col 2 k) t.val := by
  have ht := t.isLt
  obtain ⟨p, hp'⟩ := p
  simp only at hp
  subst hp
  unfold val_main_v158 val_main_v156 val_main_v157 val_main_v155 val_main_v153 val_main_cst_26 val_main_cst_27
  have e := q2 a0 a1 a2 a3 a4 a5
  generalize val_main_v152 (F := Ideal) a0 a1 a2 a4 a5 = u at e ⊢
  pointwise
  refine congrArg₂ (· + ·) ?_ ?_
  · by_cases h : t.val + 8 < 16384
    · rw [dif_pos (by omega), e]
      congr 2
      simp only
      omega
    · rw [dif_neg (by omega), ee_out _ _ _ (by omega), neg_zero]
  · rw [dif_pos (by omega), e]
    rfl

theorem q3 (t : Fin 16384) (k : Fin 256) : val_main_v140 (F := Ideal) a0 a1 a2 a4 a5 (ix2 t k) = (Blocks.inp a0 a1 a2 a3 a4 a5).ee (col 3 k) t.val := by
  rw [ee_eq, gOf_col, ← Ref.dd3 a0 a1 a2 a3 a4 a5]
  unfold val_main_v140 val_main_v139 val_main_v67 val_main_v66 val_main_v65 val_main_v64 val_main_c_12 val_main_v12 val_main_v11 val_main_v10 val_main_c
  generalize val_main_v116 (F := Ideal) a0 a1 a2 a4 a5 = u
  pointwise
  exact congrArg (Ideal.div _) (cntw 16 (by norm_num) t)

/-- What the running sum adds at a token, in group 3: the token's own window, less the one 16 tokens on. -/
theorem s3 (t : Fin 16384) (p : Fin 16385) (hp : p.val = t.val + 1) (k : Fin 256) : val_main_v146 (F := Ideal) a0 a1 a2 a4 a5 (ix2 p k)
    = -((Blocks.inp a0 a1 a2 a3 a4 a5).ee (col 3 k) (t.val + 16)) + (Blocks.inp a0 a1 a2 a3 a4 a5).ee (col 3 k) t.val := by
  have ht := t.isLt
  obtain ⟨p, hp'⟩ := p
  simp only at hp
  subst hp
  unfold val_main_v146 val_main_v144 val_main_v145 val_main_v143 val_main_v141 val_main_cst_22 val_main_cst_23
  have e := q3 a0 a1 a2 a3 a4 a5
  generalize val_main_v140 (F := Ideal) a0 a1 a2 a4 a5 = u at e ⊢
  pointwise
  refine congrArg₂ (· + ·) ?_ ?_
  · by_cases h : t.val + 16 < 16384
    · rw [dif_pos (by omega), e]
      congr 2
      simp only
      omega
    · rw [dif_neg (by omega), ee_out _ _ _ (by omega), neg_zero]
  · rw [dif_pos (by omega), e]
    rfl

/-- The padded arrays' sum at a channel has one term. -/
theorem lad (f0 f1 f2 f3 : Fin 256 → EReal) (c : Fin 1024) (g : Fin 4) (k : Fin 256) (hc : c.val = 256 * g.val + k.val) :
    ((((if h : 768 ≤ c.val ∧ c.val - 768 < 256 then f3 ⟨c.val - 768, h.2⟩ else 0)
        + if h : 512 ≤ c.val ∧ c.val - 512 < 256 then f2 ⟨c.val - 512, h.2⟩ else 0)
        + if h : 256 ≤ c.val ∧ c.val - 256 < 256 then f1 ⟨c.val - 256, h.2⟩ else 0)
        + if h : c.val < 256 then f0 ⟨c.val, h⟩ else 0)
      = (match g with | 0 => f0 | 1 => f1 | 2 => f2 | 3 => f3) k := by
  have hk := k.isLt
  obtain ⟨c, hc1⟩ := c
  simp only at hc
  subst hc
  fin_cases g
  · rw [dif_neg (by simp <;> omega), dif_neg (by simp <;> omega), dif_neg (by simp <;> omega), dif_pos (by simp <;> omega), zero_add, zero_add, zero_add]
    congr 1; apply Fin.ext; simp
  · rw [dif_neg (by simp <;> omega), dif_neg (by simp <;> omega), dif_pos (by simp <;> omega), dif_neg (by simp <;> omega), zero_add, zero_add, add_zero]
    congr 1; apply Fin.ext; simp
  · rw [dif_neg (by simp <;> omega), dif_pos (by simp <;> omega), dif_neg (by simp <;> omega), dif_neg (by simp <;> omega), zero_add, add_zero, add_zero]
    congr 1; apply Fin.ext; simp
  · rw [dif_pos (by simp <;> omega), dif_neg (by simp <;> omega), dif_neg (by simp <;> omega), dif_neg (by simp <;> omega), add_zero, add_zero, add_zero]
    congr 1; apply Fin.ext; simp

/-- Four arrays padded to their groups' channels and added. -/
theorem pads1 (u0 u1 u2 u3 : Vec Ideal S16385x256 .f32) (z0 z1 z2 z3 : Vec Ideal S_ .f32) (h0 : ∀ i, z0 i = 0) (h1 : ∀ i, z1 i = 0) (h2 : ∀ i, z2 i = 0) (h3 : ∀ i, z3 i = 0)
    (p : Fin 16385) (g : Fin 4) (k : Fin 256) :
    addf (F := Ideal) (φ := .f32) (addf (addf (pad S16385x1024 ![0, 768] ![0, 0] ![0, 0] u3 z3 pads_S16385x256_S16385x1024_000_76800 h_S_)
      (pad S16385x1024 ![0, 512] ![0, 256] ![0, 0] u2 z2 pads_S16385x256_S16385x1024_000_5122560 h_S_))
      (pad S16385x1024 ![0, 256] ![0, 512] ![0, 0] u1 z1 pads_S16385x256_S16385x1024_000_2565120 h_S_))
      (pad S16385x1024 ![0, 0] ![0, 768] ![0, 0] u0 z0 pads_S16385x256_S16385x1024_000_07680 h_S_) (ix2 p (col g k))
      = (match g with | 0 => u0 | 1 => u1 | 2 => u2 | 3 => u3) (ix2 p k) := by
  generalize hc : col g k = c
  have hc' := congrArg Fin.val hc
  pointwise
  simp only [h0, h1, h2, h3]
  refine (lad (fun k => u0 (ix2 p k)) (fun k => u1 (ix2 p k)) (fun k => u2 (ix2 p k)) (fun k => u3 (ix2 p k)) c g k (by rw [← hc]; rfl)).trans ?_
  fin_cases g <;> rfl

/-- Four arrays padded to their groups' channels and added. -/
theorem pads0 (u0 u1 u2 u3 : Vec Ideal S16384x256 .f32) (z0 z1 z2 z3 : Vec Ideal S_ .f32) (h0 : ∀ i, z0 i = 0) (h1 : ∀ i, z1 i = 0) (h2 : ∀ i, z2 i = 0) (h3 : ∀ i, z3 i = 0)
    (p : Fin 16384) (g : Fin 4) (k : Fin 256) :
    addf (F := Ideal) (φ := .f32) (addf (addf (pad S16384x1024 ![0, 768] ![0, 0] ![0, 0] u3 z3 pads_S16384x256_S16384x1024_000_76800 h_S_)
      (pad S16384x1024 ![0, 512] ![0, 256] ![0, 0] u2 z2 pads_S16384x256_S16384x1024_000_5122560 h_S_))
      (pad S16384x1024 ![0, 256] ![0, 512] ![0, 0] u1 z1 pads_S16384x256_S16384x1024_000_2565120 h_S_))
      (pad S16384x1024 ![0, 0] ![0, 768] ![0, 0] u0 z0 pads_S16384x256_S16384x1024_000_07680 h_S_) (ix2 p (col g k))
      = (match g with | 0 => u0 | 1 => u1 | 2 => u2 | 3 => u3) (ix2 p k) := by
  generalize hc : col g k = c
  have hc' := congrArg Fin.val hc
  pointwise
  simp only [h0, h1, h2, h3]
  refine (lad (fun k => u0 (ix2 p k)) (fun k => u1 (ix2 p k)) (fun k => u2 (ix2 p k)) (fun k => u3 (ix2 p k)) c g k (by rw [← hc]; rfl)).trans ?_
  fin_cases g <;> rfl

/-- The sequence that the reference sums from a token to the last. -/
theorem v188 (t : Fin 16384) (c : Fin 1024) : val_main_v188 (F := Ideal) a0 a1 a2 a4 a5 (ix2 t c)
    = -((Blocks.inp a0 a1 a2 a3 a4 a5).ee c (t.val + wid (gOf c))) + (Blocks.inp a0 a1 a2 a3 a4 a5).ee c t.val := by
  obtain ⟨g, k, rfl⟩ : ∃ g k, c = col g k := ⟨gOf c, rOf c, (col_of c).symm⟩
  have e : val_main_v188 (F := Ideal) a0 a1 a2 a4 a5 (ix2 t (col g k))
      = val_main_v186 (F := Ideal) a0 a1 a2 a4 a5 (ix2 (⟨t.val + 1, by have := t.isLt; omega⟩ : Fin 16385) (col g k)) := by
    unfold val_main_v188
    generalize val_main_v186 (F := Ideal) a0 a1 a2 a4 a5 = u
    generalize col g k = c
    pointwise
    congr 2
    apply Fin.ext
    simp only
    omega
  rw [e]
  unfold val_main_v186 val_main_v185 val_main_v173 val_main_v172 val_main_v160 val_main_v159 val_main_v147
  refine (pads1 _ _ _ _ _ _ _ _ (fun _ => Ideal.ofBits_zero_f32) (fun _ => Ideal.ofBits_zero_f32) (fun _ => Ideal.ofBits_zero_f32) (fun _ => Ideal.ofBits_zero_f32) _ g k).trans ?_
  rw [gOf_col]
  fin_cases g
  · exact s0 a0 a1 a2 a3 a4 a5 t _ rfl k
  · exact s1 a0 a1 a2 a3 a4 a5 t _ rfl k
  · exact s2 a0 a1 a2 a3 a4 a5 t _ rfl k
  · exact s3 a0 a1 a2 a3 a4 a5 t _ rfl k

/-- The tokens' own part. -/
theorem v176 (t : Fin 16384) (c : Fin 1024) : val_main_v176 (F := Ideal) a0 a1 a2 a4 a5 (ix2 t c) = -((Blocks.inp a0 a1 a2 a3 a4 a5).dd t c) := by
  obtain ⟨g, k, rfl⟩ : ∃ g k, c = col g k := ⟨gOf c, rOf c, (col_of c).symm⟩
  unfold val_main_v176 val_main_v175 val_main_v163 val_main_v162 val_main_v150 val_main_v149 val_main_v138
  refine (pads0 _ _ _ _ _ _ _ _ (fun _ => Ideal.ofBits_zero_f32) (fun _ => Ideal.ofBits_zero_f32) (fun _ => Ideal.ofBits_zero_f32) (fun _ => Ideal.ofBits_zero_f32) _ g k).trans ?_
  fin_cases g
  · exact congrArg Neg.neg (Ref.dd0 a0 a1 a2 a3 a4 a5 t k)
  · exact congrArg Neg.neg (Ref.dd1 a0 a1 a2 a3 a4 a5 t k)
  · exact congrArg Neg.neg (Ref.dd2 a0 a1 a2 a3 a4 a5 t k)
  · exact congrArg Neg.neg (Ref.dd3 a0 a1 a2 a3 a4 a5 t k)

/-- The pooled half of the input's gradient. -/
theorem du (he : ∀ c p, IsR ((Blocks.inp a0 a1 a2 a3 a4 a5).ee c p)) (t : Fin 16384) (c : Fin 1024) :
    val_main_v190 (F := Ideal) a0 a1 a2 a4 a5 (ix2 t c) = (Blocks.inp a0 a1 a2 a3 a4 a5).du t c := by
  have e : val_main_v189 (F := Ideal) a0 a1 a2 a4 a5 (ix2 t c) = ∑ j ∈ Finset.range (wid (gOf c)), (Blocks.inp a0 a1 a2 a3 a4 a5).ee c (t.val + j) := by
    rw [← shift_sum (fun p => (Blocks.inp a0 a1 a2 a3 a4 a5).ee c p) (he c) 16384 (wid (gOf c)) t.val (fun p hp => ee_out _ c p hp)]
    unfold val_main_v189
    refine (revsum (N := 16384) (M := 1024) _ _ _ _ (fun _ => Ideal.ofBits_zero_f32) t c).trans ?_
    refine Finset.sum_congr rfl fun s _ => ?_
    split
    · exact v188 a0 a1 a2 a3 a4 a5 _ c
    · rw [ee_out _ _ _ (by omega), ee_out _ _ _ (by omega)]; simp
  rw [val_main_v190_apply, v176 a0 a1 a2 a3 a4 a5, e]
  unfold Inp.du
  rw [sub_eq_add_neg]
  exact add_comm _ _

/-- The gate's half. -/
theorem dz (hx : ∀ t c, IsR ((Blocks.inp a0 a1 a2 a3 a4 a5).dy2 t c * ((Blocks.inp a0 a1 a2 a3 a4 a5).ob t c * (Blocks.inp a0 a1 a2 a3 a4 a5).s c))) (hz : ∀ t c, IsR ((Blocks.inp a0 a1 a2 a3 a4 a5).Z t c)) (t : Fin 16384) (c : Fin 1024) :
    val_main_v100 (F := Ideal) a0 a1 a2 a3 a4 a5 (ix2 t c) = (Blocks.inp a0 a1 a2 a3 a4 a5).dz t c := by
  have ez : val_main_v5 (F := Ideal) a1 (ix2 t c) = (Blocks.inp a0 a1 a2 a3 a4 a5).Z t c := by
    unfold val_main_v5 Blocks.inp
    pointwise
  have e7 : val_main_call1_v7 (F := Ideal) a1 (ix2 t c) = 1 - (Blocks.inp a0 a1 a2 a3 a4 a5).lg t c := by
    rw [val_main_call1_v7_apply, Ref.lg a0 a1 a2 a3 a4 a5]
    refine congrArg₂ (· - ·) ?_ rfl
    unfold val_main_call1_v6 val_main_call1_cst_1
    pointwise
  have e98 : val_main_v98 (F := Ideal) a0 a1 a2 a3 a4 a5 (ix2 t c) = (Blocks.inp a0 a1 a2 a3 a4 a5).dy2 t c * ((Blocks.inp a0 a1 a2 a3 a4 a5).ob t c * (Blocks.inp a0 a1 a2 a3 a4 a5).s c) := by
    rw [val_main_v98_apply, Ref.y1 a0 a1 a2 a3 a4 a5, Ref.dy2 a0 a1 a2 a3 a4 a5]
    exact mul_comm _ _
  rw [val_main_v100_apply, val_main_call2_v1_apply, val_main_call2_v2_apply, val_main_call2_v0_apply, val_main_v92_1_apply, e7, e98, ez, Ref.lg a0 a1 a2 a3 a4 a5]
  unfold Inp.dz
  obtain ⟨x, hx⟩ := hx t c
  obtain ⟨z, hz⟩ := hz t c
  obtain ⟨l, hl⟩ : IsR ((Blocks.inp a0 a1 a2 a3 a4 a5).lg t c) := IsR.logistic ⟨z, hz⟩
  rw [hx, hz, hl]
  show ((x : EReal) * l) + ((z : EReal) * x) * ((l : EReal) * (1 - l)) = x * (l * (1 + z * (1 - l)))
  norm_cast
  ring

/-- The input's gradient. -/
theorem dp (he : ∀ c p, IsR ((Blocks.inp a0 a1 a2 a3 a4 a5).ee c p)) (hx : ∀ t c, IsR ((Blocks.inp a0 a1 a2 a3 a4 a5).dy2 t c * ((Blocks.inp a0 a1 a2 a3 a4 a5).ob t c * (Blocks.inp a0 a1 a2 a3 a4 a5).s c))) (hz : ∀ t c, IsR ((Blocks.inp a0 a1 a2 a3 a4 a5).Z t c))
    (t : Fin 16384) (j : Fin 2048) : val_main_v198 (F := Ideal) a0 a1 a2 a3 a4 a5 (ix2 t j) = (Blocks.inp a0 a1 a2 a3 a4 a5).dp t j := by
  unfold val_main_v198 val_main_v193 val_main_v192 val_main_v191 val_main_cst_37 val_main_cst_38 Inp.dp
  simp only [← du a0 a1 a2 a3 a4 a5 he, ← dz a0 a1 a2 a3 a4 a5 hx hz]
  generalize val_main_v190 (F := Ideal) a0 a1 a2 a4 a5 = u
  generalize val_main_v100 (F := Ideal) a0 a1 a2 a3 a4 a5 = v
  have hj := j.isLt
  pointwise
  by_cases h : j.val < 1024
  · rw [dif_pos h, dif_pos h, dif_neg (by omega), zero_add]
  · rw [dif_neg h, dif_neg h, dif_pos (by omega), add_zero]

end Cert.Proof.RefDp

end
-- ==== Proof.RefR.lean ====
/-
  Under the precondition every quantity of the backward pass is a real number.
-/
module

public import proofs.«01_k».proof.Proof.RefDp

@[expose] public section

set_option maxRecDepth 16384

noncomputable section

open Idealize.ShloMosaic Cert.ReferenceIdeal Cert.ReferenceIdeal.Gen Cert.ReferenceIdeal.Read

namespace Cert.Proof.RefR

theorem foldl_isR {α : Type} (L : List α) (g : α → EReal) (hg : ∀ a, IsR (g a)) (v : EReal) (hv : IsR v) : IsR (L.foldl (fun r n => r + g n) v) := by
  induction L generalizing v with
  | nil => exact hv
  | cons a L ih => exact ih _ (hv.add (hg a))

/-- A running sum of real numbers is real. -/
theorem runsum_isR {s t : Shape} (window strides lo hi : Fin s.rank → ℕ) (x : s.Idx → EReal) (init : (⟨0, ![]⟩ : Shape).Idx → EReal)
    (h : s.ReduceWindows window strides lo hi t) (hu : 0 < (⟨0, ![]⟩ : Shape).numel) (h0 : ∀ i, init i = 0) (hx : ∀ i, IsR (x i)) (j : t.Idx) :
    IsR (Host.reduceWindowAdd (F := Ideal) (φ := .f32) window strides lo hi x init h hu j) := by
  unfold Host.reduceWindowAdd
  rw [Ideal.hostReduceWindowAdd_def]
  unfold Ideal.hostReduceWindowAdd Host.reduceWindow
  refine foldl_isR _ _ (fun n => ?_) _ (by rw [h0]; exact IsR.zero)
  dsimp only
  split
  · exact hx _
  · rw [h0]; exact IsR.zero

variable (a0 : Vec Ideal S16384x1024 .f32) (a1 : Vec Ideal S16384x2048 .f32) (a2 : Vec Ideal S4x256x256 .f32)
  (a3 a4 : Vec Ideal S2x1024 .f32) (a5 : Vec Ideal S1024x1024 .f32)

theorem cs_isR (h1 : ∀ i, IsR (a1 i)) (i : S16384x1024.Idx) : IsR (val_main_v7 (F := Ideal) a1 i) := by
  unfold val_main_v7
  refine runsum_isR _ _ _ _ _ _ _ _ (fun _ => Ideal.ofBits_zero_f32) (fun i => ?_) i
  rw [val_main_v4_apply]
  exact h1 _

theorem cs0_isR (h1 : ∀ i, IsR (a1 i)) (p : Fin 16385) (c : Fin 1024) : IsR (val_main_v8 (F := Ideal) a1 (ix2 p c)) := by
  have e := cs_isR a1 h1
  unfold val_main_v8 val_main_v6 val_main_cst
  generalize val_main_v7 (F := Ideal) a1 = u at e ⊢
  pointwise
  split
  · exact IsR.zero
  · exact e _

theorem d0_isR (h1 : ∀ i, IsR (a1 i)) (t : Fin 16384) (k : Fin 256) : IsR (val_main_v27 (F := Ideal) a1 (ix2 t k)) := by
  have e := cs0_isR a1 h1
  unfold val_main_v27 val_main_v25 val_main_v24 val_main_v22 val_main_v21 val_main_v20 val_main_v19 val_main_c_3 val_main_v26 val_main_v23 val_main_v17 val_main_v16 val_main_v15 val_main_cst_1 val_main_v14 val_main_v13 val_main_v12 val_main_v11 val_main_v10 val_main_c val_main_v4
  generalize val_main_v8 (F := Ideal) a1 = u at e ⊢
  pointwise
  refine IsR.sub ?_ (h1 _)
  have hc := RefDp.cntw 2 (by norm_num) t
  have hn : ((min (t.val + 1) 2 : ℕ) : ℝ) ≠ 0 := by
    have : 0 < min (t.val + 1) 2 := by omega
    exact_mod_cast this.ne'
  refine (congrArg IsR (congrArg (Ideal.div _) hc)).mpr (IsR.div_nat (IsR.sub (e _ _) ?_) _ hn)
  split
  · exact IsR.zero
  · exact e _ _

theorem d1_isR (h1 : ∀ i, IsR (a1 i)) (t : Fin 16384) (k : Fin 256) : IsR (val_main_v42 (F := Ideal) a1 (ix2 t k)) := by
  have e := cs0_isR a1 h1
  unfold val_main_v42 val_main_v40 val_main_v39 val_main_v37 val_main_v36 val_main_v35 val_main_v34 val_main_c_6 val_main_v41 val_main_v38 val_main_v32 val_main_v31 val_main_v30 val_main_cst_4 val_main_v29 val_main_v28 val_main_v12 val_main_v11 val_main_v10 val_main_c val_main_v4
  generalize val_main_v8 (F := Ideal) a1 = u at e ⊢
  pointwise
  refine IsR.sub ?_ (h1 _)
  have hc := RefDp.cntw 4 (by norm_num) t
  have hn : ((min (t.val + 1) 4 : ℕ) : ℝ) ≠ 0 := by
    have : 0 < min (t.val + 1) 4 := by omega
    exact_mod_cast this.ne'
  refine (congrArg IsR (congrArg (Ideal.div _) hc)).mpr (IsR.div_nat (IsR.sub (e _ _) ?_) _ hn)
  split
  · exact IsR.zero
  · exact e _ _

theorem d2_isR (h1 : ∀ i, IsR (a1 i)) (t : Fin 16384) (k : Fin 256) : IsR (val_main_v57 (F := Ideal) a1 (ix2 t k)) := by
  have e := cs0_isR a1 h1
  unfold val_main_v57 val_main_v55 val_main_v54 val_main_v52 val_main_v51 val_main_v50 val_main_v49 val_main_c_9 val_main_v56 val_main_v53 val_main_v47 val_main_v46 val_main_v45 val_main_cst_7 val_main_v44 val_main_v43 val_main_v12 val_main_v11 val_main_v10 val_main_c val_main_v4
  generalize val_main_v8 (F := Ideal) a1 = u at e ⊢
  pointwise
  refine IsR.sub ?_ (h1 _)
  have hc := RefDp.cntw 8 (by norm_num) t
  have hn : ((min (t.val + 1) 8 : ℕ) : ℝ) ≠ 0 := by
    have : 0 < min (t.val + 1) 8 := by omega
    exact_mod_cast this.ne'
  refine (congrArg IsR (congrArg (Ideal.div _) hc)).mpr (IsR.div_nat (IsR.sub (e _ _) ?_) _ hn)
  split
  · exact IsR.zero
  · exact e _ _

theorem d3_isR (h1 : ∀ i, IsR (a1 i)) (t : Fin 16384) (k : Fin 256) : IsR (val_main_v72 (F := Ideal) a1 (ix2 t k)) := by
  have e := cs0_isR a1 h1
  unfold val_main_v72 val_main_v70 val_main_v69 val_main_v67 val_main_v66 val_main_v65 val_main_v64 val_main_c_12 val_main_v71 val_main_v68 val_main_v62 val_main_v61 val_main_v60 val_main_cst_10 val_main_v59 val_main_v58 val_main_v12 val_main_v11 val_main_v10 val_main_c val_main_v4
  generalize val_main_v8 (F := Ideal) a1 = u at e ⊢
  pointwise
  refine IsR.sub ?_ (h1 _)
  have hc := RefDp.cntw 16 (by norm_num) t
  have hn : ((min (t.val + 1) 16 : ℕ) : ℝ) ≠ 0 := by
    have : 0 < min (t.val + 1) 16 := by omega
    exact_mod_cast this.ne'
  refine (congrArg IsR (congrArg (Ideal.div _) hc)).mpr (IsR.div_nat (IsR.sub (e _ _) ?_) _ hn)
  split
  · exact IsR.zero
  · exact e _ _

section

variable (h0 : ∀ i, IsR (a0 i)) (h1 : ∀ i, IsR (a1 i)) (h2 : ∀ i, IsR (a2 i)) (h3 : ∀ i, IsR (a3 i)) (h4 : ∀ i, IsR (a4 i)) (h5 : ∀ i, IsR (a5 i))
include h0 h1 h2 h3 h4 h5

theorem Z (t : Fin 16384) (c : Fin 1024) : IsR ((Blocks.inp a0 a1 a2 a3 a4 a5).Z t c) := h1 _
theorem s (c : Fin 1024) : IsR ((Blocks.inp a0 a1 a2 a3 a4 a5).s c) := h4 _
theorem dK (g : Fin 4) (t : Fin 16384) (k : Fin 256) : IsR (Blocks.dK a1 g t k) := by
  fin_cases g
  · exact d0_isR a1 h1 t k
  · exact d1_isR a1 h1 t k
  · exact d2_isR a1 h1 t k
  · exact d3_isR a1 h1 t k
theorem ob (t : Fin 16384) (c : Fin 1024) : IsR ((Blocks.inp a0 a1 a2 a3 a4 a5).ob t c) :=
  IsR.add (IsR.sum _ _ fun k _ => IsR.mul (dK a0 a1 a2 a3 a4 a5 h0 h1 h2 h3 h4 h5 _ t _) (h2 _)) (h3 _)
theorem dy2 (t : Fin 16384) (c : Fin 1024) : IsR ((Blocks.inp a0 a1 a2 a3 a4 a5).dy2 t c) := IsR.sum _ _ fun k _ => IsR.mul (h0 _) (h5 _)
theorem dov (t : Fin 16384) (c : Fin 1024) : IsR ((Blocks.inp a0 a1 a2 a3 a4 a5).dov t c) :=
  IsR.mul (IsR.mul (dy2 a0 a1 a2 a3 a4 a5 h0 h1 h2 h3 h4 h5 t c) (IsR.mul (h1 _) (IsR.logistic (h1 _)))) (h4 _)
theorem dd (t : Fin 16384) (c : Fin 1024) : IsR ((Blocks.inp a0 a1 a2 a3 a4 a5).dd t c) :=
  IsR.sum _ _ fun k _ => IsR.mul (dov a0 a1 a2 a3 a4 a5 h0 h1 h2 h3 h4 h5 t _) (h2 _)
theorem ee (c : Fin 1024) (p : ℕ) : IsR ((Blocks.inp a0 a1 a2 a3 a4 a5).ee c p) := by
  by_cases hp : p < 16384
  · rw [RefDp.ee_eq (Blocks.inp a0 a1 a2 a3 a4 a5) c ⟨p, hp⟩]
    exact IsR.div_nat (dd a0 a1 a2 a3 a4 a5 h0 h1 h2 h3 h4 h5 _ c) _ (RefDp.cnt_ne _ _)
  · rw [RefDp.ee_out _ _ _ (by omega)]
    exact IsR.zero

/-- The input's gradient, under the precondition. -/
theorem dp (t : Fin 16384) (j : Fin 2048) : val_main_v198 (F := Ideal) a0 a1 a2 a3 a4 a5 (ix2 t j) = (Blocks.inp a0 a1 a2 a3 a4 a5).dp t j :=
  RefDp.dp a0 a1 a2 a3 a4 a5 (ee a0 a1 a2 a3 a4 a5 h0 h1 h2 h3 h4 h5)
    (fun t c => IsR.mul (dy2 a0 a1 a2 a3 a4 a5 h0 h1 h2 h3 h4 h5 t c)
      (IsR.mul (ob a0 a1 a2 a3 a4 a5 h0 h1 h2 h3 h4 h5 t c) (h4 _)))
    (fun t c => h1 _) t j

end

end Cert.Proof.RefR

end
-- ==== Proof.Join.lean ====
/-
  The kernel's results are the reference's, and what each program ends with.
-/
module

public import proofs.«01_k».proof.Defs
public import proofs.«01_k».proof.Proof.Arrays
public import proofs.«01_k».proof.Proof.RefR
public import proofs.«01_k».proof.Proof.Gen.Pre_finite
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof

theorem quiescent_ref : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem quiescent_ref_pre : Cert.quiescent_ReferenceIdeal_pre_finite := fun m ρ _ => quiescent_ref m ρ trivial

/-- The reference's four results are the kernel's arrays. -/
theorem results (a0 : Vec Ideal Cert.ReferenceIdeal.S16384x1024 .f32) (a1 : Vec Ideal Cert.ReferenceIdeal.S16384x2048 .f32)
    (a2 : Vec Ideal Cert.ReferenceIdeal.S4x256x256 .f32) (a3 a4 : Vec Ideal Cert.ReferenceIdeal.S2x1024 .f32)
    (a5 : Vec Ideal Cert.ReferenceIdeal.S1024x1024 .f32) (h : Cert.Pre_finite.fn (F := Ideal) a0 a1 a2 a3 a4 a5 = fun _ => 1#1) :
    (Cert.ReferenceIdeal.Read.val_main_v198 (F := Ideal) a0 a1 a2 a3 a4 a5 = fun j => (Blocks.inp a0 a1 a2 a3 a4 a5).dp (j 0) (j 1))
    ∧ (Cert.ReferenceIdeal.Read.val_main_v199 (F := Ideal) a0 a1 a2 a3 a4 = fun j => (Blocks.inp a0 a1 a2 a3 a4 a5).dwo (j 0) (j 1))
    ∧ (Cert.ReferenceIdeal.Read.val_main_v200 (F := Ideal) a0 a1 a4 a5 = fun j => (Blocks.inp a0 a1 a2 a3 a4 a5).dwg (j 0) (j 1) (j 2))
    ∧ (Cert.ReferenceIdeal.Read.val_main_v197 (F := Ideal) a0 a1 a2 a3 a4 a5 = fun j => (Blocks.inp a0 a1 a2 a3 a4 a5).dvec (j 0) (j 1)) := by
  obtain ⟨h0, h1, h2, h3, h4, h5⟩ := pre_isR a0 a1 a2 a3 a4 a5 (fun i => i.elim0) (congrFun h _)
  refine ⟨funext fun j => ?_, funext fun j => ?_, funext fun j => ?_, funext fun j => ?_⟩
  · exact (congrArg _ (eq_ix2 j)).trans (RefR.dp a0 a1 a2 a3 a4 a5 h0 h1 h2 h3 h4 h5 (j 0) (j 1))
  · exact (congrArg _ (eq_ix2 j)).trans (Ref.dwo a0 a1 a2 a3 a4 a5 (j 0) (j 1))
  · exact (congrArg _ (eq_ix3 j)).trans (Ref.dwg a0 a1 a2 a3 a4 a5 (j 0) (j 1) (j 2))
  · exact (congrArg _ (eq_ix2 j)).trans (Ref.dvec a0 a1 a2 a3 a4 a5 (j 0) (j 1))

/-- What the reference's launch finds is what the kernel is given. -/
theorem at_launch (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    launchContents m' c (Proc.devRef .tc Cert.ReferenceIdeal.main_arg0) = m ((c.tc : Thread Cert.KernelIdeal.nD Cert.KernelIdeal.τ).loc Cert.KernelIdeal.main_arg0)
      ∧ launchContents m' c (Proc.devRef .tc Cert.ReferenceIdeal.main_arg1) = m ((c.tc : Thread Cert.KernelIdeal.nD Cert.KernelIdeal.τ).loc Cert.KernelIdeal.main_arg1)
      ∧ launchContents m' c (Proc.devRef .tc Cert.ReferenceIdeal.main_arg2) = m ((c.tc : Thread Cert.KernelIdeal.nD Cert.KernelIdeal.τ).loc Cert.KernelIdeal.main_arg2)
      ∧ launchContents m' c (Proc.devRef .tc Cert.ReferenceIdeal.main_arg3) = m ((c.tc : Thread Cert.KernelIdeal.nD Cert.KernelIdeal.τ).loc Cert.KernelIdeal.main_arg3)
      ∧ launchContents m' c (Proc.devRef .tc Cert.ReferenceIdeal.main_arg4) = m ((c.tc : Thread Cert.KernelIdeal.nD Cert.KernelIdeal.τ).loc Cert.KernelIdeal.main_arg4)
      ∧ launchContents m' c (Proc.devRef .tc Cert.ReferenceIdeal.main_arg5) = m ((c.tc : Thread Cert.KernelIdeal.nD Cert.KernelIdeal.τ).loc Cert.KernelIdeal.main_arg5) := h

theorem algebraic : Cert.algebraic_KernelIdeal_ReferenceIdeal_pre_finite := fun m g m' g' hp ha => by
  refine ⟨fun c => fun j => (Blocks.A m c).dp (j 0) (j 1), fun c => fun j => (Blocks.A m c).dwo (j 0) (j 1),
    fun c => fun j => (Blocks.A m c).dwg (j 0) (j 1) (j 2), fun c => fun j => (Blocks.A m c).dvec (j 0) (j 1), ?_, ?_⟩
  · refine (θ_run Cert.KernelIdeal.defs _ _).mono (fun r h c => ?_) (Cert.KernelIdeal.Value.run_blocks (F := Ideal) m g)
    obtain ⟨e0, e1, e2, e3, k⟩ := h c
    exact ⟨e0.trans (Arrays.arr7 m c), e1.trans (Arrays.arr8 m c), e2.trans (Arrays.arr9 m c), e3.trans (Arrays.arr10 m c), k⟩
  · refine (θ_run Cert.ReferenceIdeal.defs _ _).mono (fun r h c => ?_) (Cert.ReferenceIdeal.Value.run (F := Ideal) m' g')
    obtain ⟨e0, e1, e2, e3, k⟩ := h c
    obtain ⟨q0, q1, q2, q3, q4, q5⟩ := at_launch m m' c (ha c)
    obtain ⟨r0, r1, r2, r3⟩ := results _ _ _ _ _ _ (hp c)
    refine ⟨e0.trans ((Cert.ReferenceIdeal.Read.val_main_v198_eq _).trans ?_), e1.trans ((Cert.ReferenceIdeal.Read.val_main_v199_eq _).trans ?_),
      e2.trans ((Cert.ReferenceIdeal.Read.val_main_v200_eq _).trans ?_), e3.trans ((Cert.ReferenceIdeal.Read.val_main_v197_eq _).trans ?_), k⟩
    · rw [q0, q1, q2, q3, q4, q5]; exact r0
    · rw [q0, q1, q2, q3, q4]; exact r1
    · rw [q0, q1, q4, q5]; exact r2
    · rw [q0, q1, q2, q3, q4, q5]; exact r3

end Cert.Proof

end
-- ==== Proof.In2Blk.lean ====
/-
  The backward call of the convolution block's second projection: what one grid point leaves in its buffers, as closed terms over the point's
  input blocks and over what the point before left.
-/
module

public import proofs.«01_k».proof.Proof.Gen.Kernel2Ideal.Value
public import proofs.«01_k».proof.Proof.Blk

@[expose] public section

set_option maxRecDepth 16384

noncomputable section

open Idealize.ShloMosaic Idealize.ShloMosaic.TcCoe Idealize.SL.Sem Cert.Kernel2Ideal Cert.Kernel2Ideal.Gen

namespace Cert.Proof.In2

variable {F : FTy → Type} [FloatOps F]

/-- Loads and stores of whole buffers. -/
theorem ldP (X : Vec F S512x3072 .bf16) :
    View.ld X (Rect.unit ![0, 0] ![512, 3072] inb_S512x3072_S512x3072_0_0) = X := View.ld_unit_zero Blk.z2 _ X
theorem ldX (X : Vec F S512x1024 .f32) :
    View.ld X (Rect.unit ![0, 0] ![512, 1024] inb_S512x1024_S512x1024_0_0) = X := View.ld_unit_zero Blk.z2 _ X
theorem ldG (X : Vec F S1x1x1024 .f32) :
    View.ld X (Rect.unit ![0, 0, 0] ![1, 1, 1024] inb_S1x1x1024_S1x1x1024_0_0_0) = X := View.ld_unit_zero Blk.z3 _ X
theorem ldW {e : EltTy} (X : Vec F S1024x3072 e) :
    View.ld X (Rect.unit ![0, 0] ![1024, 3072] inb_S1024x3072_S1024x3072_0_0) = X := View.ld_unit_zero Blk.z2 _ X
theorem ldA (X : Vec F S8x1024 .f32) :
    View.ld X (Rect.unit ![0, 0] ![8, 1024] inb_S8x1024_S8x1024_0_0) = X := View.ld_unit_zero Blk.z2 _ X
theorem cX (w : Vec F S512x1024 .f32) (L : List (View.Piece (Elt F) S512x1024 .f32)) :
    View.canon (⟨Rect.unit ![0, 0] ![512, 1024] inb_S512x1024_S512x1024_0_0, w⟩ :: L) = w := View.canon_cons_unit_zero Blk.z2 _ w L
theorem cW {e : EltTy} (w : Vec F S1024x3072 e) (L : List (View.Piece (Elt F) S1024x3072 e)) :
    View.canon (⟨Rect.unit ![0, 0] ![1024, 3072] inb_S1024x3072_S1024x3072_0_0, w⟩ :: L) = w := View.canon_cons_unit_zero Blk.z2 _ w L
theorem cA (w : Vec F S8x1024 .f32) (L : List (View.Piece (Elt F) S8x1024 .f32)) :
    View.canon (⟨Rect.unit ![0, 0] ![8, 1024] inb_S8x1024_S8x1024_0_0, w⟩ :: L) = w := View.canon_cons_unit_zero Blk.z2 _ w L

section Terms

variable (x0 : Vec F S512x3072 .bf16) (x1 : Vec F S512x1024 .f32) (x2 : Vec F S512x1024 .f32) (x3 : Vec F S1x1x1024 .f32) (x4 : Vec F S1024x3072 .bf16) (q0 : Vec F S8x1024 .f32) (q1 : Vec F S1024x3072 .f32)

/-- The block of the input's gradient, and the two running sums after the point. -/
def W5 : Vec F S512x1024 .f32 := k0_pay2 (k0_pay8 x1) (k0_pay9 x1) (k0_pay11 x0 x4) x3 x2
def S0 : Vec F S8x1024 .f32 := k0_pay1 q0 (k0_pay13 x1 x0 x4)
def S1 : Vec F S1024x3072 .f32 := k0_pay12 x1 x0 q1 x3
/-- The scale's gradient as the last point writes it: the running sum's rows added up, in the first row. -/
def W7 (q : Vec F S8x1024 .f32) : Vec F S8x1024 .f32 :=
  View.canon [⟨Rect.unit ![0, 0] ![1, 1024] inb_S8x1024_S1x1024_0_0, k0_pay5 q⟩,
    ⟨Rect.unit ![0, 0] ![8, 1024] inb_S8x1024_S8x1024_0_0, k0_pay4 (F := F)⟩]

end Terms

section Points

variable (c : Dev nD) (i : grid0.Coords) (arg1 : Memref sig .tc .vmem S512x3072 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x3072 .bf16) (harg5 : arg5.IsWhole) (arg6 : Memref sig .tc .vmem S512x1024 .f32) (harg6 : arg6.IsWhole) (arg7 : Memref sig .tc .vmem S1024x3072 .bf16) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1024x3072 .f32) (harg10 : arg10.IsWhole)
  (x0 : Vec F S512x3072 .bf16) (x1 : Vec F S512x1024 .f32) (x2 : Vec F S512x1024 .f32) (x3 : Vec F S1x1x1024 .f32) (x4 : Vec F S1024x3072 .bf16) (xs0 : Vec F S8x1024 .f32) (xs1 : Vec F S1024x3072 .f32)

theorem out_A_5 (hc0 : cond0_0 i) (hc1 : ¬cond0_1 i) : out0_A_5 c i arg1 harg1 arg2 harg2 arg3 harg3 arg4 harg4 arg5 harg5 arg6 harg6 arg7 harg7 arg8 harg8 arg9 harg9 arg10 harg10 hc0 hc1 x0 x1 x2 x3 x4 = W5 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_0 (hc0 : cond0_0 i) (hc1 : ¬cond0_1 i) : sout0_A_0 c i arg1 harg1 arg2 harg2 arg3 harg3 arg4 harg4 arg5 harg5 arg6 harg6 arg7 harg7 arg8 harg8 arg9 harg9 arg10 harg10 hc0 hc1 x0 x1 x2 x3 x4 = S0 x0 x1 x4 (k0_pay7 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_1 (hc0 : cond0_0 i) (hc1 : ¬cond0_1 i) : sout0_A_1 c i arg1 harg1 arg2 harg2 arg3 harg3 arg4 harg4 arg5 harg5 arg6 harg6 arg7 harg7 arg8 harg8 arg9 harg9 arg10 harg10 hc0 hc1 x0 x1 x2 x3 x4 = S1 x0 x1 x3 (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_B_5 (hc0 : ¬cond0_0 i) (hc1 : ¬cond0_1 i) : out0_B_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_0 (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_1 (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_5 (hc0 : ¬cond0_0 i) (hc1 : cond0_1 i) : out0_C_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_6 (hc0 : ¬cond0_0 i) (hc1 : cond0_1 i) : out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay3 (S1 x0 x1 x3 xs1) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_7 (hc0 : ¬cond0_0 i) (hc1 : cond0_1 i) : out0_C_7 c i arg1 harg1 arg2 harg2 arg3 harg3 arg4 harg4 arg5 harg5 arg6 harg6 arg7 harg7 arg8 harg8 arg9 harg9 arg10 harg10 hc0 hc1 x0 x1 x2 x3 x4 xs0 xs1 = W7 (S0 x0 x1 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_0 (hc0 : ¬cond0_0 i) (hc1 : cond0_1 i) : sout0_C_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_1 (hc0 : ¬cond0_0 i) (hc1 : cond0_1 i) : sout0_C_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

end Points

end Cert.Proof.In2
-- ==== Proof.InSpec.lean ====
/-
  The backward pass of one rmsnorm and projection, `p = rmsnorm(h) · w`, as plain sums over tokens and channels, and the two
  forms of the gradient at `h`: the kernel's centred form and the one that differentiating the norm gives.
-/
module

public import Idealize.ShloMosaic.Lib.Pointwise
public import Mathlib.Data.EReal.Operations
public import Mathlib.Data.EReal.Inv

@[expose] public section

set_option maxRecDepth 16384

noncomputable section

open Idealize.ShloMosaic

namespace Cert.Proof.In

/-- The width of a row, the norm's small addend, and minus one half, as the programs write them. -/
def width : EReal := Ideal.ofBits .f32 0x44800000#32
def eps : EReal := Ideal.ofBits .f32 0x358637BD#32
def mhalf : EReal := Ideal.ofBits .f32 0xBF000000#32

theorem width_eq : width = ((1024 : ℝ) : EReal) := by
  unfold width
  simp [Ideal.ofBits, Ideal.ieee, -EReal.coe_mul]
  norm_num
theorem mhalf_eq : mhalf = ((-(1 / 2) : ℝ) : EReal) := by
  unfold mhalf
  simp [Ideal.ofBits, Ideal.ieee, -EReal.coe_mul]
  norm_num
theorem eps_pos : ∃ e : ℝ, 0 < e ∧ eps = (e : EReal) := by
  refine ⟨(1 + 407485 / 2 ^ 23) * 2 ^ (-20 : ℤ), by positivity, ?_⟩
  unfold eps
  simp [Ideal.ofBits, Ideal.ieee, -EReal.coe_mul]
  norm_num

/-- One norm and projection: the projection's gradient, the norm's input, the gradient that passes beside it, the norm's
    scale and the projection's weights. -/
structure Inp (n : ℕ) where
  P : Fin 16384 → Fin n → EReal
  X : Fin 16384 → Fin 1024 → EReal
  D : Fin 16384 → Fin 1024 → EReal
  g : Fin 1024 → EReal
  W : Fin 1024 → Fin n → EReal

/-- Token `r` of tile `n`. -/
def tok (n : Fin 32) (r : Fin 512) : Fin 16384 := ⟨512 * n.val + r.val, by have := n.isLt; have := r.isLt; omega⟩

namespace Inp

variable {n : ℕ} (A : Inp n)

/-- A row's mean square plus the small addend, its inverse root, and the normalised row. -/
def ms (t : Fin 16384) : EReal := Ideal.div (∑ k, A.X t k * A.X t k) width + eps
def r (t : Fin 16384) : EReal := Ideal.rsqrt (A.ms t)
def nrm (t : Fin 16384) (k : Fin 1024) : EReal := A.X t k * A.r t
/-- The gradient at the scaled row, and behind the scale. -/
def dhn (t : Fin 16384) (k : Fin 1024) : EReal := ∑ j, A.P t j * A.W k j
def dq (t : Fin 16384) (k : Fin 1024) : EReal := A.dhn t k * A.g k
/-- The gradient at the input. -/
def dh (t : Fin 16384) (k : Fin 1024) : EReal :=
  A.D t k + A.r t * (A.dq t k - A.nrm t k * Ideal.div (∑ k', A.dq t k' * A.nrm t k') width)
/-- The gradients at the weights and at the scale; the scale's is the first of eight rows, the others are empty. -/
def dw (k : Fin 1024) (j : Fin n) : EReal := ∑ t, A.nrm t k * A.g k * A.P t j
def dg (q : Fin 8) (k : Fin 1024) : EReal := if q.val = 0 then ∑ t, A.dhn t k * A.nrm t k else 0

end Inp

/-- A product with a finite number that is not negative passes through a sum. -/
theorem mul_sum' {ι : Type} (s : Finset ι) (f : ι → EReal) (a : EReal) (h0 : 0 ≤ a) (h1 : a ≠ ⊤) :
    a * ∑ k ∈ s, f k = ∑ k ∈ s, a * f k := by
  classical
  induction s using Finset.induction_on with
  | empty => simp
  | insert x s hx ih => rw [Finset.sum_insert hx, Finset.sum_insert hx, EReal.left_distrib_of_nonneg_of_ne_top h0 h1, ih]

/-- A square is not negative. -/
theorem sq_nonneg' (x : EReal) : 0 ≤ x * x := by
  rcases le_total 0 x with h | h
  · exact mul_nonneg h h
  · have h' : 0 ≤ -x := by simpa using EReal.neg_le_neg_iff.mpr h
    have := mul_nonneg h' h'
    simpa using this

/-- Twice a half. -/
theorem add_self' (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul]; congr 1; ring

/-- The two forms of the norm's gradient, over a positive finite mean square or an infinite one: `S` is the row's sum of
    `x · q`, `x`, `q` and `d` one element of it. -/
theorem grad (v S x q d : EReal) (hv : (∃ w : ℝ, 0 < w ∧ v = (w : EReal)) ∨ v = ⊤) :
    (d + q * Ideal.rsqrt v + x * Ideal.div (S * (mhalf * Ideal.div (Ideal.rsqrt v) v)) width)
        + Ideal.div (S * (mhalf * Ideal.div (Ideal.rsqrt v) v)) width * x
      = d + Ideal.rsqrt v * (q - x * Ideal.rsqrt v * Ideal.div (Ideal.rsqrt v * S) width) := by
  rw [width_eq, mhalf_eq]
  rcases hv with ⟨w, hw, rfl⟩ | rfl
  · have hs : 0 < Real.sqrt w := Real.sqrt_pos.mpr hw
    rw [Ideal.rsqrt_coe, if_neg (by linarith), if_neg hw.ne', Ideal.div_coe hw.ne', Ideal.div_coe (by norm_num), Ideal.div_coe (by norm_num)]
    obtain ⟨ρ, hρ, e⟩ : ∃ ρ : ℝ, 0 < ρ ∧ (Real.sqrt w)⁻¹ = ρ := ⟨_, inv_pos.mpr hs, rfl⟩
    have e2 : 1 / w = ρ * ρ := by
      rw [← e, ← mul_inv, Real.mul_self_sqrt hw.le, one_div]
    rw [e, e2]
    have h0 : (0 : EReal) ≤ (ρ : EReal) := by exact_mod_cast hρ.le
    rw [sub_eq_add_neg, EReal.left_distrib_of_nonneg_of_ne_top h0 (EReal.coe_ne_top _), ← add_assoc, add_assoc (d + _), mul_comm q]
    congr 1
    have mn : ∀ a b : EReal, -(a * b) = a * -b := fun a b => by rw [mul_comm a b, ← EReal.neg_mul, mul_comm]
    rw [mul_comm _ x, add_self', ← EReal.neg_mul, mn]
    have c1 : (((-(1 / 2) : ℝ) : EReal) * ((ρ : EReal) * ((ρ * ρ : ℝ) : EReal))) = ((-(1 / 2) * (ρ * (ρ * ρ)) : ℝ) : EReal) := by
      norm_cast
    rw [c1]
    have l : ((2 : ℝ) : EReal) * (x * (S * ((-(1 / 2) * (ρ * (ρ * ρ)) : ℝ) : EReal) * ((1 / 1024 : ℝ) : EReal)))
        = x * S * ((2 * (-(1 / 2) * (ρ * (ρ * ρ))) * (1 / 1024) : ℝ) : EReal) := by
      push_cast
      ac_rfl
    have l' : (ρ : EReal) * (x * -(ρ : EReal) * ((ρ : EReal) * S * ((1 / 1024 : ℝ) : EReal)))
        = x * S * ((ρ * -ρ * ρ * (1 / 1024) : ℝ) : EReal) := by
      push_cast
      ac_rfl
    rw [l, l']
    congr 2
    ring
  · simp [Ideal.div]

theorem ms_pos {n : ℕ} (A : Inp n) (t : Fin 16384) : (∃ w : ℝ, 0 < w ∧ A.ms t = (w : EReal)) ∨ A.ms t = ⊤ := by
  obtain ⟨e, he, hε⟩ := eps_pos
  have hp : 0 < A.ms t := by
    unfold Inp.ms
    rw [hε, width_eq, Ideal.div_coe (by norm_num)]
    have h1 : 0 ≤ (∑ k, A.X t k * A.X t k) * ((1 / 1024 : ℝ) : EReal) :=
      mul_nonneg (Finset.sum_nonneg fun k _ => sq_nonneg' _) (by exact_mod_cast (by norm_num : (0 : ℝ) ≤ 1 / 1024))
    have h2 : (0 : EReal) < (e : EReal) := by exact_mod_cast he
    exact lt_of_lt_of_le h2 (by simpa using add_le_add_left h1 (e : EReal))
  revert hp
  generalize A.ms t = v
  intro hp
  induction v with
  | bot => simp at hp
  | top => exact Or.inr rfl
  | coe w => exact Or.inl ⟨w, by exact_mod_cast hp, rfl⟩

theorem r_nonneg {n : ℕ} (A : Inp n) (t : Fin 16384) : 0 ≤ A.r t ∧ A.r t ≠ ⊤ := by
  unfold Inp.r
  rcases ms_pos A t with ⟨w, hw, e⟩ | e
  · rw [e, Ideal.rsqrt_coe, if_neg (by linarith), if_neg hw.ne']
    exact ⟨by exact_mod_cast inv_nonneg.mpr (Real.sqrt_nonneg w), EReal.coe_ne_top _⟩
  · rw [e, Ideal.rsqrt_top]
    exact ⟨le_refl _, EReal.zero_ne_top⟩

/-- Differentiating the norm gives the kernel's form. -/
theorem dh_eq {n : ℕ} (A : Inp n) (t : Fin 16384) (k : Fin 1024) :
    (A.D t k + A.dq t k * A.r t + A.X t k * Ideal.div ((∑ k', A.X t k' * A.dq t k') * (mhalf * Ideal.div (A.r t) (A.ms t))) width)
        + Ideal.div ((∑ k', A.X t k' * A.dq t k') * (mhalf * Ideal.div (A.r t) (A.ms t))) width * A.X t k
      = A.dh t k := by
  have e : ∑ k', A.dq t k' * A.nrm t k' = A.r t * ∑ k', A.X t k' * A.dq t k' := by
    rw [mul_sum' _ _ _ (r_nonneg A t).1 (r_nonneg A t).2]
    exact Finset.sum_congr rfl fun k' _ => by unfold Inp.nrm; ac_rfl
  unfold Inp.dh
  rw [e]
  exact grad (A.ms t) _ _ _ _ (ms_pos A t)

/-- The sum over the first `n` tiles. -/
def acc (f : Fin 32 → EReal) (n : ℕ) : EReal := ∑ s ∈ Finset.range n, if h : s < 32 then f ⟨s, h⟩ else 0

theorem acc_zero (f : Fin 32 → EReal) : acc f 0 = 0 := Finset.sum_range_zero _
theorem acc_succ (f : Fin 32 → EReal) (n : Fin 32) : acc f (n.val + 1) = acc f n.val + f n := by
  unfold acc
  rw [Finset.sum_range_succ, dif_pos n.isLt]
theorem acc_last (f : Fin 32 → EReal) (n : ℕ) (hn : n = 31) : acc f (n + 1) = ∑ s : Fin 32, f s := by
  subst hn
  unfold acc
  rw [Finset.sum_range]
  exact Finset.sum_congr rfl fun s _ => dif_pos s.isLt

/-- A sum over the tiles and their rows is the sum over the tokens. -/
theorem sum_tok (f : Fin 16384 → EReal) : ∑ n : Fin 32, ∑ r : Fin 512, f (tok n r) = ∑ t, f t := by
  rw [← Finset.sum_product']
  refine Finset.sum_bij' (fun p _ => tok p.1 p.2)
    (fun t _ => ((⟨t.val / 512, by have := t.isLt; omega⟩ : Fin 32), (⟨t.val % 512, by omega⟩ : Fin 512))) ?_ ?_ ?_ ?_ ?_
  · intro p _; exact Finset.mem_univ _
  · intro t _; simp
  · rintro ⟨n, r⟩ _
    have := n.isLt; have := r.isLt
    simp only [tok, Prod.mk.injEq, Fin.ext_iff]
    omega
  · intro t _
    have := t.isLt
    simp only [tok, Fin.ext_iff]
    omega
  · intro p _; rfl

/-- A sum over eight residues and the rows of each is the sum over the tile's rows. -/
theorem sum_res (g : Fin 512 → EReal) :
    ∑ r : Fin 8, ∑ x : Fin 64, g ⟨x.val * 8 + r.val, by have := x.isLt; have := r.isLt; omega⟩ = ∑ r, g r := by
  rw [← Finset.sum_product']
  refine Finset.sum_bij' (fun p _ => ⟨p.2.val * 8 + p.1.val, by have := p.1.isLt; have := p.2.isLt; omega⟩)
    (fun t _ => ((⟨t.val % 8, by omega⟩ : Fin 8), (⟨t.val / 8, by have := t.isLt; omega⟩ : Fin 64))) ?_ ?_ ?_ ?_ ?_
  · intro p _; exact Finset.mem_univ _
  · intro t _; simp
  · rintro ⟨n, r⟩ _
    have := n.isLt; have := r.isLt
    simp only [Prod.mk.injEq, Fin.ext_iff]
    omega
  · intro t _
    simp only [Fin.ext_iff]
    omega
  · intro p _; rfl

theorem sum_parts (f : Fin 16384 → EReal) :
    ∑ r : Fin 8, ∑ n : Fin 32, ∑ x : Fin 64, f (tok n ⟨x.val * 8 + r.val, by have := x.isLt; have := r.isLt; omega⟩) = ∑ t, f t := by
  rw [Finset.sum_comm, ← sum_tok]
  exact Finset.sum_congr rfl fun n _ => sum_res fun q => f (tok n q)

end Cert.Proof.In
-- ==== Proof.In2Row.lean ====
/-
  The backward call of the convolution block's second projection, element by element: the blocks a grid point reads are rows of the arrays, and the
  point's terms over them are the mathematics of `InSpec` at the tile's tokens.
-/
module

public import proofs.«01_k».proof.Proof.In2Blk
public import proofs.«01_k».proof.Proof.InSpec
public import proofs.«01_k».proof.Proof.Rows
public import Idealize.ShloMosaic.Lib.StableHlo.ReadAt
public import Idealize.ShloMosaic.Lib.Claim
public import Idealize.ShloMosaic.Lib.Pipeline.ValueKit.Point

@[expose] public section

set_option maxRecDepth 16384

noncomputable section

open Idealize.ShloMosaic Idealize.ShloMosaic.TcCoe Idealize.SL.Sem Cert.Kernel2Ideal Cert.Kernel2Ideal.Gen

namespace Cert.Proof.In2

section Host

variable {F : FTy → Type} [FloatOps F] (m : (ℓ : Loc nD τ sig) → Buf (Elt F) ℓ) (c : Dev nD)

theorem V_v0 : V m c main_v0 = truncf (F := F) (s := S16384x3072) (φ := .f32) .bf16 (m ((c : Thread nD τ).loc main_arg0)) bitsLt_bf16_f32 := by
  unfold V
  after_reads_simp
theorem V_v1 : V m c main_v1 = broadcastInDim S4x1x1024 ![0, 2] bcast_S4x1024_S4x1x1024_0_2 (m ((c : Thread nD τ).loc main_arg3)) := by
  unfold V
  after_reads_simp
theorem V_v2 : V m c main_v2 = truncf (F := F) (s := S1024x3072) (φ := .f32) .bf16 (m ((c : Thread nD τ).loc main_arg4)) bitsLt_bf16_f32 := by
  unfold V
  after_reads_simp

end Host

/-- The arrays of the backward pass, from the programs' arguments. -/
def inp (a0 : Vec Ideal S16384x3072 .f32) (a1 a2 : Vec Ideal S16384x1024 .f32) (a3 : Vec Ideal S4x1024 .f32) (a4 : Vec Ideal S1024x3072 .f32) : In.Inp 3072 where
  P t j := a0 (ix2 t j)
  X t k := a1 (ix2 t k)
  D t k := a2 (ix2 t k)
  g k := a3 (ix2 2 k)
  W k j := a4 (ix2 k j)

/-- The blocks hold the arrays' rows of tile `n`. -/
structure IsBlk (A : In.Inp 3072) (n : Fin 32) (x0 : Vec Ideal S512x3072 .bf16) (x1 : Vec Ideal S512x1024 .f32) (x2 : Vec Ideal S512x1024 .f32) (x3 : Vec Ideal S1x1x1024 .f32) (x4 : Vec Ideal S1024x3072 .bf16) : Prop where
  h0 : ∀ r j, x0 (ix2 r j) = A.P (In.tok n r) j
  h1 : ∀ r k, x1 (ix2 r k) = A.X (In.tok n r) k
  h2 : ∀ r k, x2 (ix2 r k) = A.D (In.tok n r) k
  h3 : ∀ k, x3 (ix3 0 0 k) = A.g k
  h4 : ∀ k j, x4 (ix2 k j) = A.W k j

section Blocks

variable (m : (ℓ : Loc nD τ sig) → Buf (Elt Ideal) ℓ) (c : Dev nD)

/-- The arrays the launch finds. -/
def A : In.Inp 3072 := inp (m ((c : Thread nD τ).loc main_arg0)) (m ((c : Thread nD τ).loc main_arg1)) (m ((c : Thread nD τ).loc main_arg2))
  (m ((c : Thread nD τ).loc main_arg3)) (m ((c : Thread nD τ).loc main_arg4))

theorem idx (t : Fin grid0.N) :
    win0_0.index t = ![t.val, 0] ∧ win0_1.index t = ![t.val, 0] ∧ win0_2.index t = ![t.val, 0] ∧ win0_3.index t = ![2, 0, 0]
    ∧ win0_4.index t = ![0, 0] ∧ win0_5.index t = ![t.val, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0] ∧ win0_3.index t = ![2, 0, 0]
    ∧ win0_4.index t = ![0, 0] ∧ win0_5.index t = ![t.val, 0] ∧ win0_6.index t = ![0, 0] ∧ win0_7.index t = ![0, 0]) t

theorem b0 (t : Fin cfg0.N) (r : Fin 512) (j : Fin 3072) : (iblk m c 0 t : Vec Ideal S512x3072 .bf16) (ix2 r j) = (A m c).P (In.tok t r) j := by
  have e : (iblk m c 0 t : Vec Ideal S512x3072 .bf16) (ix2 r j) = (V m c main_v0 : Vec Ideal S16384x3072 .bf16) (ix2 (In.tok t r) j) := by
    unfold In.tok
    blk_ext [iblk, idx t]
  rw [e, V_v0]
  rfl
theorem b1 (t : Fin cfg0.N) (r : Fin 512) (k : Fin 1024) : (iblk m c 1 t : Vec Ideal S512x1024 .f32) (ix2 r k) = (A m c).X (In.tok t r) k := by
  show iblk m c 1 t (ix2 r k) = (m ((c : Thread nD τ).loc main_arg1)) (ix2 (In.tok t r) k)
  unfold In.tok
  blk_ext [iblk, V_main_arg1, idx t]
theorem b2 (t : Fin cfg0.N) (r : Fin 512) (k : Fin 1024) : (iblk m c 2 t : Vec Ideal S512x1024 .f32) (ix2 r k) = (A m c).D (In.tok t r) k := by
  show iblk m c 2 t (ix2 r k) = (m ((c : Thread nD τ).loc main_arg2)) (ix2 (In.tok t r) k)
  unfold In.tok
  blk_ext [iblk, V_main_arg2, idx t]
theorem b3 (t : Fin cfg0.N) (k : Fin 1024) : (iblk m c 3 t : Vec Ideal S1x1x1024 .f32) (ix3 0 0 k) = (A m c).g k := by
  have e : (iblk m c 3 t : Vec Ideal S1x1x1024 .f32) (ix3 0 0 k) = (V m c main_v1 : Vec Ideal S4x1x1024 .f32) (ix3 2 0 k) := by
    blk_ext [iblk, idx t]
  rw [e, V_v1]
  pointwise
  rfl
theorem b4 (t : Fin cfg0.N) (k : Fin 1024) (j : Fin 3072) : (iblk m c 4 t : Vec Ideal S1024x3072 .bf16) (ix2 k j) = (A m c).W k j := by
  have e : (iblk m c 4 t : Vec Ideal S1024x3072 .bf16) (ix2 k j) = (V m c main_v2 : Vec Ideal S1024x3072 .bf16) (ix2 k j) := by
    blk_ext [iblk, idx t]
  rw [e, V_v2]
  rfl

/-- Point `t`'s blocks are tile `t` of the arrays. -/
theorem isBlk (t : Fin cfg0.N) : IsBlk (A m c) t (iblk m c 0 t) (iblk m c 1 t) (iblk m c 2 t) (iblk m c 3 t) (iblk m c 4 t) where
  h0 := b0 m c t
  h1 := b1 m c t
  h2 := b2 m c t
  h3 := b3 m c t
  h4 := b4 m c t

end Blocks

section Rows

variable {A : In.Inp 3072} {n : Fin 32} {x0 : Vec Ideal S512x3072 .bf16} {x1 : Vec Ideal S512x1024 .f32} {x2 : Vec Ideal S512x1024 .f32} {x3 : Vec Ideal S1x1x1024 .f32} {x4 : Vec Ideal S1024x3072 .bf16}
  (H : IsBlk A n x0 x1 x2 x3 x4)

include H

theorem p8 (r : Fin 512) : k0_pay8 x1 (ix2 r (0 : Fin 1)) = A.r (In.tok n r) := by
  unfold In.Inp.r In.Inp.ms In.width In.eps
  simp only [← H.h1]
  unfold_payloads
  pointwise
theorem p9 (r : Fin 512) (k : Fin 1024) : k0_pay9 x1 (ix2 r k) = A.nrm (In.tok n r) k := by
  unfold In.Inp.nrm
  rw [← p8 H, ← H.h1]
  unfold k0_pay9
  generalize k0_pay8 x1 = u
  pointwise
theorem p11 (r : Fin 512) (k : Fin 1024) : k0_pay11 x0 x4 (ix2 r k) = A.dhn (In.tok n r) k := by
  unfold In.Inp.dhn
  simp only [← H.h0, ← H.h4]
  unfold_payloads
  pointwise
theorem p13 (r : Fin 8) (k : Fin 1024) : k0_pay13 x1 x0 x4 (ix2 r k)
    = ∑ x : Fin 64, A.dhn (In.tok n ⟨x.val * 8 + r.val, by have := x.isLt; have := r.isLt; omega⟩) k
      * A.nrm (In.tok n ⟨x.val * 8 + r.val, by have := x.isLt; have := r.isLt; omega⟩) k := by
  simp only [← p9 H, ← p11 H]
  unfold k0_pay13
  generalize k0_pay9 x1 = u
  generalize k0_pay11 x0 x4 = v
  pointwise

/-- The block of the input's gradient. -/
theorem W5_apply (r : Fin 512) (k : Fin 1024) : W5 x0 x1 x2 x3 x4 (ix2 r k) = A.dh (In.tok n r) k := by
  unfold W5 In.Inp.dh In.Inp.dq In.width
  simp only [← p8 H, ← p9 H, ← p11 H, ← H.h2, ← H.h3]
  unfold k0_pay2
  generalize k0_pay9 x1 = u
  generalize k0_pay11 x0 x4 = v
  generalize k0_pay8 x1 = w
  pointwise

/-- The running sums. -/
theorem S0_apply (q0 : Vec Ideal S8x1024 .f32) (r : Fin 8) (k : Fin 1024) : S0 x0 x1 x4 q0 (ix2 r k)
    = q0 (ix2 r k) + ∑ x : Fin 64, A.dhn (In.tok n ⟨x.val * 8 + r.val, by have := x.isLt; have := r.isLt; omega⟩) k
      * A.nrm (In.tok n ⟨x.val * 8 + r.val, by have := x.isLt; have := r.isLt; omega⟩) k := by
  rw [← p13 H]
  unfold S0 k0_pay1
  generalize k0_pay13 x1 x0 x4 = u
  pointwise
theorem S1_apply (q1 : Vec Ideal S1024x3072 .f32) (k : Fin 1024) (j : Fin 3072) : S1 x0 x1 x3 q1 (ix2 k j)
    = q1 (ix2 k j) + ∑ r : Fin 512, A.nrm (In.tok n r) k * A.g k * A.P (In.tok n r) j := by
  simp only [← p9 H, ← H.h3, ← H.h0]
  unfold S1 k0_pay12 k0_pay10
  generalize k0_pay9 x1 = u
  pointwise

end Rows

theorem W7_0 (s : Vec Ideal S8x1024 .f32) (q : Fin 8) (hq : q.val = 0) (k : Fin 1024) :
    W7 s (ix2 q k) = ∑ r : Fin 8, s (ix2 r k) := by
  unfold W7
  refine (Rows.hit2 _ _ _ q k (0 : Fin 1) k (by simp [hq]) (by simp)).trans ?_
  unfold_payloads
  pointwise
theorem W7_1 (s : Vec Ideal S8x1024 .f32) (q : Fin 8) (hq : 1 ≤ q.val) (k : Fin 1024) :
    W7 s (ix2 q k) = 0 := by
  unfold W7
  refine (Rows.miss2 _ _ _ q k (by omega)).trans ?_
  refine (Rows.hit2 _ _ _ q k q k (by simp) (by simp)).trans ?_
  unfold_payloads
  pointwise

end Cert.Proof.In2
-- ==== Proof.In2Arr.lean ====
/-
  The backward call of the convolution block's second projection, over the whole grid: the running sums after each point, and what the three result
  arrays hold when the call ends.
-/
module

public import proofs.«01_k».proof.Proof.In2Row

@[expose] public section

set_option maxRecDepth 16384

noncomputable section

open Idealize.ShloMosaic Idealize.ShloMosaic.TcCoe Idealize.SL.Sem Cert.Kernel2Ideal Cert.Kernel2Ideal.Gen

namespace Cert.Proof.In2

variable (m : (ℓ : Loc nD τ sig) → Buf (Elt Ideal) ℓ) (c : Dev nD)

/-- One tile's parts of the parameters' gradients. -/
def pg (A : In.Inp 3072) (r : Fin 8) (k : Fin 1024) (n : Fin 32) : EReal :=
  ∑ x : Fin 64, A.dhn (In.tok n ⟨x.val * 8 + r.val, by have := x.isLt; have := r.isLt; omega⟩) k
    * A.nrm (In.tok n ⟨x.val * 8 + r.val, by have := x.isLt; have := r.isLt; omega⟩) k
def pw (A : In.Inp 3072) (k : Fin 1024) (j : Fin 3072) (n : Fin 32) : EReal :=
  ∑ r : Fin 512, A.nrm (In.tok n r) k * A.g k * A.P (In.tok n r) j

/-- What the two running sums hold after tile `n`'s point. -/
structure Inv (A : In.Inp 3072) (n : ℕ) (s0 : Vec Ideal S8x1024 .f32) (s1 : Vec Ideal S1024x3072 .f32) : Prop where
  h0 : ∀ r k, s0 (ix2 r k) = In.acc (pg A r k) (n + 1)
  h1 : ∀ k j, s1 (ix2 k j) = In.acc (pw A k j) (n + 1)

section Step

variable {A : In.Inp 3072} {n : Fin 32} {x0 : Vec Ideal S512x3072 .bf16} {x1 : Vec Ideal S512x1024 .f32} {x2 : Vec Ideal S512x1024 .f32} {x3 : Vec Ideal S1x1x1024 .f32} {x4 : Vec Ideal S1024x3072 .bf16}
  (H : IsBlk A n x0 x1 x2 x3 x4)

include H

theorem inv_first (hn : n.val = 0) : Inv A n (S0 x0 x1 x4 (k0_pay7 (F := Ideal))) (S1 x0 x1 x3 (k0_pay6 (F := Ideal))) where
  h0 := fun r k => by
    rw [S0_apply H, In.acc_succ, hn, In.acc_zero]
    congr 1
    unfold_payloads
    pointwise
  h1 := fun k j => by
    rw [S1_apply H, In.acc_succ, hn, In.acc_zero]
    congr 1
    unfold_payloads
    pointwise

theorem inv_step (hn : 1 ≤ n.val) {s0 : Vec Ideal S8x1024 .f32} {s1 : Vec Ideal S1024x3072 .f32} (I : Inv A (n.val - 1) s0 s1) :
    Inv A n (S0 x0 x1 x4 s0) (S1 x0 x1 x3 s1) where
  h0 := fun r k => by
    rw [S0_apply H, In.acc_succ, I.h0 r k, Nat.sub_add_cancel hn]
    rfl
  h1 := fun k j => by
    rw [S1_apply H, In.acc_succ, I.h1 k j, Nat.sub_add_cancel hn]
    rfl

end Step

/-- The running sums after point `t`. -/
theorem inv (n : ℕ) : ∀ hn : n < cfg0.N, Inv (A m c) n (outsAt0 m c n hn).2.2.2.1 (outsAt0 m c n hn).2.2.2.2 := by
  induction n with
  | zero =>
    intro hn
    have e := outsAt0_A m c ⟨0, hn⟩ (by simp) (by simp)
    dsimp only at e
    rw [e]
    dsimp only
    rw [sout_A_0, sout_A_1]
    exact inv_first (n := ⟨0, hn⟩) (isBlk m c ⟨0, hn⟩) rfl
  | succ n ih =>
    intro hn
    have hN : cfg0.N = 32 := rfl
    have I := ih (by omega)
    by_cases h2 : (n + 1) % 32 = 31
    · have e := outsAt0_C m c ⟨n + 1, hn⟩ (by dsimp only; omega) h2
      dsimp only at e
      rw [e]
      dsimp only
      rw [sout_C_0, sout_C_1]
      exact inv_step (n := ⟨n + 1, hn⟩) (isBlk m c ⟨n + 1, hn⟩) (by simp) I
    · have e := outsAt0_B m c ⟨n + 1, hn⟩ (by dsimp only; omega) h2
      dsimp only at e
      rw [e]
      dsimp only
      rw [sout_B_0, sout_B_1]
      exact inv_step (n := ⟨n + 1, hn⟩) (isBlk m c ⟨n + 1, hn⟩) (by simp) I

/-- The block of the input's gradient that point `t` writes. -/
theorem out5 (t : Fin cfg0.N) : (outsAt0 m c t.val t.isLt).1 = W5 (iblk m c 0 t) (iblk m c 1 t) (iblk m c 2 t) (iblk m c 3 t) (iblk m c 4 t) := by
  have hN : cfg0.N = 32 := rfl
  have ht := t.isLt
  by_cases h0 : t.val = 0
  · rw [outsAt0_A m c t (by omega) (by omega)]
    dsimp only
    rw [out_A_5]
  · by_cases h2 : t.val % 32 = 31
    · rw [outsAt0_C m c t (by omega) h2]
      dsimp only
      rw [out_C_5]
    · rw [outsAt0_B m c t (by omega) h2]
      dsimp only
      rw [out_B_5]

/-- The last point writes the running sums out. -/
theorem outLast (t : Fin cfg0.N) (ht : t.val % 32 = 31) :
    (outsAt0 m c t.val t.isLt).2.1 = k0_pay3 (outsAt0 m c t.val t.isLt).2.2.2.2
    ∧ (outsAt0 m c t.val t.isLt).2.2.1 = W7 (outsAt0 m c t.val t.isLt).2.2.2.1 := by
  rw [outsAt0_C m c t (by omega) ht]
  dsimp only
  rw [out_C_6, out_C_7, sout_C_0, sout_C_1]
  exact ⟨rfl, rfl⟩

theorem last6 (t : Fin cfg0.N) (ht : t.val = 31) (k : Fin 1024) (j : Fin 3072) :
    (outsAt0 m c t.val t.isLt).2.1 (ix2 k j) = (A m c).dw k j := by
  rw [(outLast m c t (by omega)).1]
  have I := (inv m c t.val t.isLt).h1 k j
  generalize hs : (outsAt0 m c t.val t.isLt).2.2.2.2 = s at I ⊢
  unfold k0_pay3
  refine Eq.trans ?_ (I.trans ((In.acc_last _ _ ht).trans ?_))
  · pointwise
  · exact In.sum_tok fun t => (A m c).nrm t k * (A m c).g k * (A m c).P t j
theorem last7 (t : Fin cfg0.N) (ht : t.val = 31) (q : Fin 8) (k : Fin 1024) :
    (outsAt0 m c t.val t.isLt).2.2.1 (ix2 q k) = (A m c).dg q k := by
  rw [(outLast m c t (by omega)).2]
  have h0 := (inv m c t.val t.isLt).h0
  unfold In.Inp.dg
  split
  · rename_i hq
    rw [W7_0 _ q hq]
    refine (Finset.sum_congr rfl fun r _ => (h0 r k).trans (In.acc_last _ _ ht)).trans ?_
    exact In.sum_parts fun t => (A m c).dhn t k * (A m c).nrm t k
  · exact W7_1 _ q (by omega) k

/-- The three arrays. -/
theorem arr5 : (dats m 0 c).arrAt 5 cfg0.N = fun j => (A m c).dh (j 0) (j 1) := by
  refine (dats m 0 c).arrAt_eq_of_covers 5 _ (by decide +kernel) fun t hf y => ?_
  blk_simp
  rw [after0_5, out5]
  refine Eq.trans (congrArg _ (eq_ix2 y)) ((W5_apply (isBlk m c t) (y 0) (y 1)).trans ?_)
  have i5 := (idx t).2.2.2.2.2.1
  congr 1
  · apply Fin.ext
    blk_simp [i5]
    simp [In.tok, Nat.mul_comm]
  · apply Fin.ext
    blk_simp [i5]

theorem arr6 : (dats m 0 c).arrAt 6 cfg0.N = fun j => (A m c).dw (j 0) (j 1) := by
  obtain ⟨t, ht⟩ : ∃ t : Fin cfg0.N, t.val = 31 := ⟨⟨31, by decide⟩, rfl⟩
  refine (dats m 0 c).arrAt_eq_of_after_last 6 t (by rw [show t = (⟨31, by decide⟩ : Fin cfg0.N) from Fin.ext ht]; decide +kernel) _ fun j => ?_
  blk_simp
  rw [after0_6]
  exact Eq.trans (congrArg _ (eq_ix2 j)) (last6 m c t ht (j 0) (j 1))

theorem arr7 : (dats m 0 c).arrAt 7 cfg0.N = fun j => (A m c).dg (j 0) (j 1) := by
  obtain ⟨t, ht⟩ : ∃ t : Fin cfg0.N, t.val = 31 := ⟨⟨31, by decide⟩, rfl⟩
  refine (dats m 0 c).arrAt_eq_of_after_last 7 t (by rw [show t = (⟨31, by decide⟩ : Fin cfg0.N) from Fin.ext ht]; decide +kernel) _ fun j => ?_
  blk_simp
  rw [after0_7]
  exact Eq.trans (congrArg _ (eq_ix2 j)) (last7 m c t ht (j 0) (j 1))

end Cert.Proof.In2
-- ==== Proof.In2Ref.lean ====
/-
  What the reference of the convolution block's second projection computes, element by element, in the terms of `InSpec`.
-/
module

public import proofs.«01_k».proof.Proof.InSpec
public import proofs.«01_k».proof.Proof.Gen.Reference2Ideal.Read

@[expose] public section

set_option maxRecDepth 16384

noncomputable section

open Idealize.ShloMosaic Idealize.ShloMosaic.TcCoe Idealize.SL.Sem Cert.Reference2Ideal Cert.Reference2Ideal.Gen Cert.Reference2Ideal.Read

namespace Cert.Proof.In2.Ref

variable (a0 : Vec Ideal S16384x3072 .f32) (a1 a2 : Vec Ideal S16384x1024 .f32) (a3 : Vec Ideal S4x1024 .f32) (a4 : Vec Ideal S1024x3072 .f32)

/-- The arrays of the backward pass, from the reference's arguments. -/
def A : In.Inp 3072 where
  P t j := a0 (ix2 t j)
  X t k := a1 (ix2 t k)
  D t k := a2 (ix2 t k)
  g k := a3 (ix2 2 k)
  W k j := a4 (ix2 k j)

theorem ms (t : Fin 16384) : val_main_v8 (F := Ideal) a1 (ix2 t (0 : Fin 1)) = (A a0 a1 a2 a3 a4).ms t := by
  unfold val_main_v8 val_main_v7 val_main_cst_1 val_main_v6 val_main_v5 val_main_cst_0 val_main_v4 val_main_v3 val_main_cst val_main_v2 In.Inp.ms In.width In.eps
  pointwise
  rfl
theorem r (t : Fin 16384) : val_main_v9 (F := Ideal) a1 (ix2 t (0 : Fin 1)) = (A a0 a1 a2 a3 a4).r t := by
  unfold In.Inp.r
  rw [← ms]
  unfold val_main_v9
  generalize val_main_v8 (F := Ideal) a1 = u
  pointwise
theorem nrm (t : Fin 16384) (k : Fin 1024) : val_main_v14 (F := Ideal) a1 (ix2 t k) = (A a0 a1 a2 a3 a4).nrm t k := by
  unfold In.Inp.nrm
  rw [← r]
  unfold val_main_v14 val_main_v13
  generalize val_main_v9 (F := Ideal) a1 = u
  pointwise
  rfl
theorem g (k : Fin 1024) : val_main_v15 (F := Ideal) a3 (ix2 (0 : Fin 1) k) = (A a0 a1 a2 a3 a4).g k := by
  unfold val_main_v15 val_main_v1 val_main_v0
  pointwise
  rfl
theorem dhn (t : Fin 16384) (k : Fin 1024) : val_main_v21 (F := Ideal) a0 a4 (ix2 t k) = (A a0 a1 a2 a3 a4).dhn t k := by
  unfold val_main_v21 In.Inp.dhn
  pointwise
  rfl
theorem dq (t : Fin 16384) (k : Fin 1024) : val_main_v26 (F := Ideal) a0 a3 a4 (ix2 t k) = (A a0 a1 a2 a3 a4).dq t k := by
  unfold In.Inp.dq
  rw [← dhn, ← g a0 a1 a2 a3 a4]
  unfold val_main_v26 val_main_v25
  generalize val_main_v21 (F := Ideal) a0 a4 = u
  generalize val_main_v15 (F := Ideal) a3 = w
  pointwise

/-- The row's coefficient behind the root. -/
theorem ct (t : Fin 16384) (k : Fin 1024) : val_main_v38 (F := Ideal) a0 a1 a3 a4 (ix2 t k)
    = Ideal.div ((∑ k', (A a0 a1 a2 a3 a4).X t k' * (A a0 a1 a2 a3 a4).dq t k')
        * (In.mhalf * Ideal.div ((A a0 a1 a2 a3 a4).r t) ((A a0 a1 a2 a3 a4).ms t))) In.width := by
  simp only [← dq, ← r, ← ms]
  unfold In.mhalf In.width
  unfold val_main_v38 val_main_v37 val_main_cst_7 val_main_v36 val_main_v35 val_main_cst_6 val_main_v34 val_main_v30 val_main_v29 val_main_cst_5 val_main_v28 val_main_v12 val_main_v11 val_main_cst_2 val_main_v10
  generalize val_main_v26 (F := Ideal) a0 a3 a4 = u
  generalize val_main_v9 (F := Ideal) a1 = w
  generalize val_main_v8 (F := Ideal) a1 = x
  pointwise
  exact (Fin.sum_univ_one _).trans rfl

theorem dh (t : Fin 16384) (k : Fin 1024) : val_main_v42 (F := Ideal) a0 a1 a2 a3 a4 (ix2 t k) = (A a0 a1 a2 a3 a4).dh t k := by
  rw [← In.dh_eq, ← ct, ← dq, ← r]
  unfold val_main_v42 val_main_v41 val_main_v40 val_main_v39 val_main_v33 val_main_v32 val_main_v31
  generalize val_main_v26 (F := Ideal) a0 a3 a4 = u
  generalize val_main_v9 (F := Ideal) a1 = w
  generalize val_main_v38 (F := Ideal) a0 a1 a3 a4 = x
  pointwise
  rfl

theorem dw (k : Fin 1024) (j : Fin 3072) : val_main_v43 (F := Ideal) a0 a1 a3 (ix2 k j) = (A a0 a1 a2 a3 a4).dw k j := by
  unfold In.Inp.dw
  simp only [← nrm, ← g a0 a1 a2 a3 a4]
  unfold val_main_v43 val_main_v20 val_main_v19 val_main_v17 val_main_v16
  generalize val_main_v14 (F := Ideal) a1 = u
  generalize val_main_v15 (F := Ideal) a3 = w
  pointwise
  exact Finset.sum_congr rfl fun t _ => mul_comm _ _

theorem dgs (k : Fin 1024) : val_main_v27 (F := Ideal) a0 a1 a4 (ix1 k) = ∑ t, (A a0 a1 a2 a3 a4).dhn t k * (A a0 a1 a2 a3 a4).nrm t k := by
  simp only [← nrm, ← dhn]
  unfold val_main_v27 val_main_cst_4 val_main_v24 val_main_v23 val_main_cst_3 val_main_v22
  generalize val_main_v14 (F := Ideal) a1 = u
  generalize val_main_v21 (F := Ideal) a0 a4 = w
  pointwise
  refine (Fin.sum_univ_one _).trans ?_
  exact Finset.sum_congr rfl fun t _ => mul_comm _ _

theorem dg (q : Fin 8) (k : Fin 1024) : val_main_v46 (F := Ideal) a0 a1 a4 (ix2 q k) = (A a0 a1 a2 a3 a4).dg q k := by
  unfold In.Inp.dg
  rw [← dgs]
  unfold val_main_v46 val_main_v45 val_main_cst_8 val_main_v44
  generalize val_main_v27 (F := Ideal) a0 a1 a4 = u
  pointwise
  by_cases hq : q.val = 0
  · rw [if_pos hq, dif_pos (by omega)]
  · rw [if_neg hq, dif_neg (by omega)]

end Cert.Proof.In2.Ref
-- ==== Proof.In2Join.lean ====
/-
  The kernel's results are the reference's, and what each program ends with: program 2.
-/
module

public import proofs.«01_k».proof.Defs
public import proofs.«01_k».proof.Proof.In2Arr
public import proofs.«01_k».proof.Proof.In2Ref
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.In2

theorem quiescent_ref : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

/-- The reference's results are the kernel's arrays, over equal arguments. -/
theorem results (a0 b0 : Vec Ideal Cert.Reference2Ideal.S16384x3072 .f32) (a1 b1 a2 b2 : Vec Ideal Cert.Reference2Ideal.S16384x1024 .f32)
    (a3 b3 : Vec Ideal Cert.Reference2Ideal.S4x1024 .f32) (a4 b4 : Vec Ideal Cert.Reference2Ideal.S1024x3072 .f32)
    (h : b0 = a0 ∧ b1 = a1 ∧ b2 = a2 ∧ b3 = a3 ∧ b4 = a4) :
    (Cert.Reference2Ideal.Read.val_main_v42 (F := Ideal) b0 b1 b2 b3 b4 = fun j => (inp a0 a1 a2 a3 a4).dh (j 0) (j 1))
    ∧ (Cert.Reference2Ideal.Read.val_main_v43 (F := Ideal) b0 b1 b3 = fun j => (inp a0 a1 a2 a3 a4).dw (j 0) (j 1))
    ∧ (Cert.Reference2Ideal.Read.val_main_v46 (F := Ideal) b0 b1 b4 = fun j => (inp a0 a1 a2 a3 a4).dg (j 0) (j 1)) := by
  obtain ⟨rfl, rfl, rfl, rfl, rfl⟩ := h
  refine ⟨funext fun j => ?_, funext fun j => ?_, funext fun j => ?_⟩
  · exact (congrArg _ (eq_ix2 j)).trans (Ref.dh b0 b1 b2 b3 b4 (j 0) (j 1))
  · exact (congrArg _ (eq_ix2 j)).trans (Ref.dw b0 b1 b2 b3 b4 (j 0) (j 1))
  · exact (congrArg _ (eq_ix2 j)).trans (Ref.dg b0 b1 b2 b3 b4 (j 0) (j 1))

theorem algebraic : Cert.algebraic_Kernel2Ideal_Reference2Ideal := fun m g m' g' _ ha => by
  refine ⟨fun c => fun j => (A m c).dh (j 0) (j 1), fun c => fun j => (A m c).dw (j 0) (j 1), fun c => fun j => (A m c).dg (j 0) (j 1), ?_, ?_⟩
  · refine (θ_run Cert.Kernel2Ideal.defs _ _).mono (fun r h c => ?_) (Cert.Kernel2Ideal.Value.run_blocks (F := Ideal) m g)
    obtain ⟨e0, e1, e2, k⟩ := h c
    exact ⟨e0.trans (arr5 m c), e1.trans (arr6 m c), e2.trans (arr7 m c), k⟩
  · refine (θ_run Cert.Reference2Ideal.defs _ _).mono (fun r h c => ?_) (Cert.Reference2Ideal.Value.run (F := Ideal) m' g')
    obtain ⟨e0, e1, e2, k⟩ := h c
    obtain ⟨r0, r1, r2⟩ := results _ _ _ _ _ _ _ _ _ _ (ha c)
    exact ⟨e0.trans ((Cert.Reference2Ideal.Read.val_main_v42_eq _ _).trans r0), e1.trans ((Cert.Reference2Ideal.Read.val_main_v43_eq _ _ _).trans r1), e2.trans ((Cert.Reference2Ideal.Read.val_main_v46_eq _ _ _).trans r2), k⟩

end Cert.Proof.In2

end
-- ==== Proof.In3Blk.lean ====
/-
  The backward call of the second pooling block's projection: what one grid point leaves in its buffers, as closed terms over the point's
  input blocks and over what the point before left.
-/
module

public import proofs.«01_k».proof.Proof.Gen.Kernel3Ideal.Value
public import proofs.«01_k».proof.Proof.Blk

@[expose] public section

set_option maxRecDepth 16384

noncomputable section

open Idealize.ShloMosaic Idealize.ShloMosaic.TcCoe Idealize.SL.Sem Cert.Kernel3Ideal Cert.Kernel3Ideal.Gen

namespace Cert.Proof.In3

variable {F : FTy → Type} [FloatOps F]

/-- Loads and stores of whole buffers. -/
theorem ldP (X : Vec F S512x2048 .bf16) :
    View.ld X (Rect.unit ![0, 0] ![512, 2048] inb_S512x2048_S512x2048_0_0) = X := View.ld_unit_zero Blk.z2 _ X
theorem ldX (X : Vec F S512x1024 .f32) :
    View.ld X (Rect.unit ![0, 0] ![512, 1024] inb_S512x1024_S512x1024_0_0) = X := View.ld_unit_zero Blk.z2 _ X
theorem ldG (X : Vec F S1x1x1024 .f32) :
    View.ld X (Rect.unit ![0, 0, 0] ![1, 1, 1024] inb_S1x1x1024_S1x1x1024_0_0_0) = X := View.ld_unit_zero Blk.z3 _ X
theorem ldW {e : EltTy} (X : Vec F S1024x2048 e) :
    View.ld X (Rect.unit ![0, 0] ![1024, 2048] inb_S1024x2048_S1024x2048_0_0) = X := View.ld_unit_zero Blk.z2 _ X
theorem ldA (X : Vec F S8x1024 .f32) :
    View.ld X (Rect.unit ![0, 0] ![8, 1024] inb_S8x1024_S8x1024_0_0) = X := View.ld_unit_zero Blk.z2 _ X
theorem cX (w : Vec F S512x1024 .f32) (L : List (View.Piece (Elt F) S512x1024 .f32)) :
    View.canon (⟨Rect.unit ![0, 0] ![512, 1024] inb_S512x1024_S512x1024_0_0, w⟩ :: L) = w := View.canon_cons_unit_zero Blk.z2 _ w L
theorem cW {e : EltTy} (w : Vec F S1024x2048 e) (L : List (View.Piece (Elt F) S1024x2048 e)) :
    View.canon (⟨Rect.unit ![0, 0] ![1024, 2048] inb_S1024x2048_S1024x2048_0_0, w⟩ :: L) = w := View.canon_cons_unit_zero Blk.z2 _ w L
theorem cA (w : Vec F S8x1024 .f32) (L : List (View.Piece (Elt F) S8x1024 .f32)) :
    View.canon (⟨Rect.unit ![0, 0] ![8, 1024] inb_S8x1024_S8x1024_0_0, w⟩ :: L) = w := View.canon_cons_unit_zero Blk.z2 _ w L

section Terms

variable (x0 : Vec F S512x2048 .bf16) (x1 : Vec F S512x1024 .f32) (x2 : Vec F S512x1024 .f32) (x3 : Vec F S1x1x1024 .f32) (x4 : Vec F S1024x2048 .bf16) (q0 : Vec F S8x1024 .f32) (q1 : Vec F S1024x2048 .f32)

/-- The block of the input's gradient, and the two running sums after the point. -/
def W5 : Vec F S512x1024 .f32 := k0_pay2 (k0_pay8 x1) (k0_pay9 x1) (k0_pay11 x0 x4) x3 x2
def S0 : Vec F S8x1024 .f32 := k0_pay1 q0 (k0_pay13 x1 x0 x4)
def S1 : Vec F S1024x2048 .f32 := k0_pay12 x1 x0 q1 x3
/-- The scale's gradient as the last point writes it: the running sum's rows added up, in the first row. -/
def W7 (q : Vec F S8x1024 .f32) : Vec F S8x1024 .f32 :=
  View.canon [⟨Rect.unit ![0, 0] ![1, 1024] inb_S8x1024_S1x1024_0_0, k0_pay5 q⟩,
    ⟨Rect.unit ![0, 0] ![8, 1024] inb_S8x1024_S8x1024_0_0, k0_pay4 (F := F)⟩]

end Terms

section Points

variable (c : Dev nD) (i : grid0.Coords) (arg1 : Memref sig .tc .vmem S512x2048 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x2048 .bf16) (harg5 : arg5.IsWhole) (arg6 : Memref sig .tc .vmem S512x1024 .f32) (harg6 : arg6.IsWhole) (arg7 : Memref sig .tc .vmem S1024x2048 .bf16) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1024x2048 .f32) (harg10 : arg10.IsWhole)
  (x0 : Vec F S512x2048 .bf16) (x1 : Vec F S512x1024 .f32) (x2 : Vec F S512x1024 .f32) (x3 : Vec F S1x1x1024 .f32) (x4 : Vec F S1024x2048 .bf16) (xs0 : Vec F S8x1024 .f32) (xs1 : Vec F S1024x2048 .f32)

theorem out_A_5 (hc0 : cond0_0 i) (hc1 : ¬cond0_1 i) : out0_A_5 c i arg1 harg1 arg2 harg2 arg3 harg3 arg4 harg4 arg5 harg5 arg6 harg6 arg7 harg7 arg8 harg8 arg9 harg9 arg10 harg10 hc0 hc1 x0 x1 x2 x3 x4 = W5 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_0 (hc0 : cond0_0 i) (hc1 : ¬cond0_1 i) : sout0_A_0 c i arg1 harg1 arg2 harg2 arg3 harg3 arg4 harg4 arg5 harg5 arg6 harg6 arg7 harg7 arg8 harg8 arg9 harg9 arg10 harg10 hc0 hc1 x0 x1 x2 x3 x4 = S0 x0 x1 x4 (k0_pay7 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_1 (hc0 : cond0_0 i) (hc1 : ¬cond0_1 i) : sout0_A_1 c i arg1 harg1 arg2 harg2 arg3 harg3 arg4 harg4 arg5 harg5 arg6 harg6 arg7 harg7 arg8 harg8 arg9 harg9 arg10 harg10 hc0 hc1 x0 x1 x2 x3 x4 = S1 x0 x1 x3 (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_B_5 (hc0 : ¬cond0_0 i) (hc1 : ¬cond0_1 i) : out0_B_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_0 (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_1 (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_5 (hc0 : ¬cond0_0 i) (hc1 : cond0_1 i) : out0_C_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_6 (hc0 : ¬cond0_0 i) (hc1 : cond0_1 i) : out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay3 (S1 x0 x1 x3 xs1) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_7 (hc0 : ¬cond0_0 i) (hc1 : cond0_1 i) : out0_C_7 c i arg1 harg1 arg2 harg2 arg3 harg3 arg4 harg4 arg5 harg5 arg6 harg6 arg7 harg7 arg8 harg8 arg9 harg9 arg10 harg10 hc0 hc1 x0 x1 x2 x3 x4 xs0 xs1 = W7 (S0 x0 x1 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_0 (hc0 : ¬cond0_0 i) (hc1 : cond0_1 i) : sout0_C_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_1 (hc0 : ¬cond0_0 i) (hc1 : cond0_1 i) : sout0_C_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

end Points

end Cert.Proof.In3
-- ==== Proof.In3Row.lean ====
/-
  The backward call of the second pooling block's projection, element by element: the blocks a grid point reads are rows of the arrays, and the
  point's terms over them are the mathematics of `InSpec` at the tile's tokens.
-/
module

public import proofs.«01_k».proof.Proof.In3Blk
public import proofs.«01_k».proof.Proof.InSpec
public import proofs.«01_k».proof.Proof.Rows
public import Idealize.ShloMosaic.Lib.StableHlo.ReadAt
public import Idealize.ShloMosaic.Lib.Claim
public import Idealize.ShloMosaic.Lib.Pipeline.ValueKit.Point

@[expose] public section

set_option maxRecDepth 16384

noncomputable section

open Idealize.ShloMosaic Idealize.ShloMosaic.TcCoe Idealize.SL.Sem Cert.Kernel3Ideal Cert.Kernel3Ideal.Gen

namespace Cert.Proof.In3

section Host

variable {F : FTy → Type} [FloatOps F] (m : (ℓ : Loc nD τ sig) → Buf (Elt F) ℓ) (c : Dev nD)

theorem V_v0 : V m c main_v0 = truncf (F := F) (s := S16384x2048) (φ := .f32) .bf16 (m ((c : Thread nD τ).loc main_arg0)) bitsLt_bf16_f32 := by
  unfold V
  after_reads_simp
theorem V_v1 : V m c main_v1 = broadcastInDim S4x1x1024 ![0, 2] bcast_S4x1024_S4x1x1024_0_2 (m ((c : Thread nD τ).loc main_arg3)) := by
  unfold V
  after_reads_simp
theorem V_v2 : V m c main_v2 = truncf (F := F) (s := S1024x2048) (φ := .f32) .bf16 (m ((c : Thread nD τ).loc main_arg4)) bitsLt_bf16_f32 := by
  unfold V
  after_reads_simp

end Host

/-- The arrays of the backward pass, from the programs' arguments. -/
def inp (a0 : Vec Ideal S16384x2048 .f32) (a1 a2 : Vec Ideal S16384x1024 .f32) (a3 : Vec Ideal S4x1024 .f32) (a4 : Vec Ideal S1024x2048 .f32) : In.Inp 2048 where
  P t j := a0 (ix2 t j)
  X t k := a1 (ix2 t k)
  D t k := a2 (ix2 t k)
  g k := a3 (ix2 3 k)
  W k j := a4 (ix2 k j)

/-- The blocks hold the arrays' rows of tile `n`. -/
structure IsBlk (A : In.Inp 2048) (n : Fin 32) (x0 : Vec Ideal S512x2048 .bf16) (x1 : Vec Ideal S512x1024 .f32) (x2 : Vec Ideal S512x1024 .f32) (x3 : Vec Ideal S1x1x1024 .f32) (x4 : Vec Ideal S1024x2048 .bf16) : Prop where
  h0 : ∀ r j, x0 (ix2 r j) = A.P (In.tok n r) j
  h1 : ∀ r k, x1 (ix2 r k) = A.X (In.tok n r) k
  h2 : ∀ r k, x2 (ix2 r k) = A.D (In.tok n r) k
  h3 : ∀ k, x3 (ix3 0 0 k) = A.g k
  h4 : ∀ k j, x4 (ix2 k j) = A.W k j

section Blocks

variable (m : (ℓ : Loc nD τ sig) → Buf (Elt Ideal) ℓ) (c : Dev nD)

/-- The arrays the launch finds. -/
def A : In.Inp 2048 := inp (m ((c : Thread nD τ).loc main_arg0)) (m ((c : Thread nD τ).loc main_arg1)) (m ((c : Thread nD τ).loc main_arg2))
  (m ((c : Thread nD τ).loc main_arg3)) (m ((c : Thread nD τ).loc main_arg4))

theorem idx (t : Fin grid0.N) :
    win0_0.index t = ![t.val, 0] ∧ win0_1.index t = ![t.val, 0] ∧ win0_2.index t = ![t.val, 0] ∧ win0_3.index t = ![3, 0, 0]
    ∧ win0_4.index t = ![0, 0] ∧ win0_5.index t = ![t.val, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0] ∧ win0_3.index t = ![3, 0, 0]
    ∧ win0_4.index t = ![0, 0] ∧ win0_5.index t = ![t.val, 0] ∧ win0_6.index t = ![0, 0] ∧ win0_7.index t = ![0, 0]) t

theorem b0 (t : Fin cfg0.N) (r : Fin 512) (j : Fin 2048) : (iblk m c 0 t : Vec Ideal S512x2048 .bf16) (ix2 r j) = (A m c).P (In.tok t r) j := by
  have e : (iblk m c 0 t : Vec Ideal S512x2048 .bf16) (ix2 r j) = (V m c main_v0 : Vec Ideal S16384x2048 .bf16) (ix2 (In.tok t r) j) := by
    unfold In.tok
    blk_ext [iblk, idx t]
  rw [e, V_v0]
  rfl
theorem b1 (t : Fin cfg0.N) (r : Fin 512) (k : Fin 1024) : (iblk m c 1 t : Vec Ideal S512x1024 .f32) (ix2 r k) = (A m c).X (In.tok t r) k := by
  show iblk m c 1 t (ix2 r k) = (m ((c : Thread nD τ).loc main_arg1)) (ix2 (In.tok t r) k)
  unfold In.tok
  blk_ext [iblk, V_main_arg1, idx t]
theorem b2 (t : Fin cfg0.N) (r : Fin 512) (k : Fin 1024) : (iblk m c 2 t : Vec Ideal S512x1024 .f32) (ix2 r k) = (A m c).D (In.tok t r) k := by
  show iblk m c 2 t (ix2 r k) = (m ((c : Thread nD τ).loc main_arg2)) (ix2 (In.tok t r) k)
  unfold In.tok
  blk_ext [iblk, V_main_arg2, idx t]
theorem b3 (t : Fin cfg0.N) (k : Fin 1024) : (iblk m c 3 t : Vec Ideal S1x1x1024 .f32) (ix3 0 0 k) = (A m c).g k := by
  have e : (iblk m c 3 t : Vec Ideal S1x1x1024 .f32) (ix3 0 0 k) = (V m c main_v1 : Vec Ideal S4x1x1024 .f32) (ix3 3 0 k) := by
    blk_ext [iblk, idx t]
  rw [e, V_v1]
  pointwise
  rfl
theorem b4 (t : Fin cfg0.N) (k : Fin 1024) (j : Fin 2048) : (iblk m c 4 t : Vec Ideal S1024x2048 .bf16) (ix2 k j) = (A m c).W k j := by
  have e : (iblk m c 4 t : Vec Ideal S1024x2048 .bf16) (ix2 k j) = (V m c main_v2 : Vec Ideal S1024x2048 .bf16) (ix2 k j) := by
    blk_ext [iblk, idx t]
  rw [e, V_v2]
  rfl

/-- Point `t`'s blocks are tile `t` of the arrays. -/
theorem isBlk (t : Fin cfg0.N) : IsBlk (A m c) t (iblk m c 0 t) (iblk m c 1 t) (iblk m c 2 t) (iblk m c 3 t) (iblk m c 4 t) where
  h0 := b0 m c t
  h1 := b1 m c t
  h2 := b2 m c t
  h3 := b3 m c t
  h4 := b4 m c t

end Blocks

section Rows

variable {A : In.Inp 2048} {n : Fin 32} {x0 : Vec Ideal S512x2048 .bf16} {x1 : Vec Ideal S512x1024 .f32} {x2 : Vec Ideal S512x1024 .f32} {x3 : Vec Ideal S1x1x1024 .f32} {x4 : Vec Ideal S1024x2048 .bf16}
  (H : IsBlk A n x0 x1 x2 x3 x4)

include H

theorem p8 (r : Fin 512) : k0_pay8 x1 (ix2 r (0 : Fin 1)) = A.r (In.tok n r) := by
  unfold In.Inp.r In.Inp.ms In.width In.eps
  simp only [← H.h1]
  unfold_payloads
  pointwise
theorem p9 (r : Fin 512) (k : Fin 1024) : k0_pay9 x1 (ix2 r k) = A.nrm (In.tok n r) k := by
  unfold In.Inp.nrm
  rw [← p8 H, ← H.h1]
  unfold k0_pay9
  generalize k0_pay8 x1 = u
  pointwise
theorem p11 (r : Fin 512) (k : Fin 1024) : k0_pay11 x0 x4 (ix2 r k) = A.dhn (In.tok n r) k := by
  unfold In.Inp.dhn
  simp only [← H.h0, ← H.h4]
  unfold_payloads
  pointwise
theorem p13 (r : Fin 8) (k : Fin 1024) : k0_pay13 x1 x0 x4 (ix2 r k)
    = ∑ x : Fin 64, A.dhn (In.tok n ⟨x.val * 8 + r.val, by have := x.isLt; have := r.isLt; omega⟩) k
      * A.nrm (In.tok n ⟨x.val * 8 + r.val, by have := x.isLt; have := r.isLt; omega⟩) k := by
  simp only [← p9 H, ← p11 H]
  unfold k0_pay13
  generalize k0_pay9 x1 = u
  generalize k0_pay11 x0 x4 = v
  pointwise

/-- The block of the input's gradient. -/
theorem W5_apply (r : Fin 512) (k : Fin 1024) : W5 x0 x1 x2 x3 x4 (ix2 r k) = A.dh (In.tok n r) k := by
  unfold W5 In.Inp.dh In.Inp.dq In.width
  simp only [← p8 H, ← p9 H, ← p11 H, ← H.h2, ← H.h3]
  unfold k0_pay2
  generalize k0_pay9 x1 = u
  generalize k0_pay11 x0 x4 = v
  generalize k0_pay8 x1 = w
  pointwise

/-- The running sums. -/
theorem S0_apply (q0 : Vec Ideal S8x1024 .f32) (r : Fin 8) (k : Fin 1024) : S0 x0 x1 x4 q0 (ix2 r k)
    = q0 (ix2 r k) + ∑ x : Fin 64, A.dhn (In.tok n ⟨x.val * 8 + r.val, by have := x.isLt; have := r.isLt; omega⟩) k
      * A.nrm (In.tok n ⟨x.val * 8 + r.val, by have := x.isLt; have := r.isLt; omega⟩) k := by
  rw [← p13 H]
  unfold S0 k0_pay1
  generalize k0_pay13 x1 x0 x4 = u
  pointwise
theorem S1_apply (q1 : Vec Ideal S1024x2048 .f32) (k : Fin 1024) (j : Fin 2048) : S1 x0 x1 x3 q1 (ix2 k j)
    = q1 (ix2 k j) + ∑ r : Fin 512, A.nrm (In.tok n r) k * A.g k * A.P (In.tok n r) j := by
  simp only [← p9 H, ← H.h3, ← H.h0]
  unfold S1 k0_pay12 k0_pay10
  generalize k0_pay9 x1 = u
  pointwise

end Rows

theorem W7_0 (s : Vec Ideal S8x1024 .f32) (q : Fin 8) (hq : q.val = 0) (k : Fin 1024) :
    W7 s (ix2 q k) = ∑ r : Fin 8, s (ix2 r k) := by
  unfold W7
  refine (Rows.hit2 _ _ _ q k (0 : Fin 1) k (by simp [hq]) (by simp)).trans ?_
  unfold_payloads
  pointwise
theorem W7_1 (s : Vec Ideal S8x1024 .f32) (q : Fin 8) (hq : 1 ≤ q.val) (k : Fin 1024) :
    W7 s (ix2 q k) = 0 := by
  unfold W7
  refine (Rows.miss2 _ _ _ q k (by omega)).trans ?_
  refine (Rows.hit2 _ _ _ q k q k (by simp) (by simp)).trans ?_
  unfold_payloads
  pointwise

end Cert.Proof.In3
-- ==== Proof.In3Arr.lean ====
/-
  The backward call of the second pooling block's projection, over the whole grid: the running sums after each point, and what the three result
  arrays hold when the call ends.
-/
module

public import proofs.«01_k».proof.Proof.In3Row

@[expose] public section

set_option maxRecDepth 16384

noncomputable section

open Idealize.ShloMosaic Idealize.ShloMosaic.TcCoe Idealize.SL.Sem Cert.Kernel3Ideal Cert.Kernel3Ideal.Gen

namespace Cert.Proof.In3

variable (m : (ℓ : Loc nD τ sig) → Buf (Elt Ideal) ℓ) (c : Dev nD)

/-- One tile's parts of the parameters' gradients. -/
def pg (A : In.Inp 2048) (r : Fin 8) (k : Fin 1024) (n : Fin 32) : EReal :=
  ∑ x : Fin 64, A.dhn (In.tok n ⟨x.val * 8 + r.val, by have := x.isLt; have := r.isLt; omega⟩) k
    * A.nrm (In.tok n ⟨x.val * 8 + r.val, by have := x.isLt; have := r.isLt; omega⟩) k
def pw (A : In.Inp 2048) (k : Fin 1024) (j : Fin 2048) (n : Fin 32) : EReal :=
  ∑ r : Fin 512, A.nrm (In.tok n r) k * A.g k * A.P (In.tok n r) j

/-- What the two running sums hold after tile `n`'s point. -/
structure Inv (A : In.Inp 2048) (n : ℕ) (s0 : Vec Ideal S8x1024 .f32) (s1 : Vec Ideal S1024x2048 .f32) : Prop where
  h0 : ∀ r k, s0 (ix2 r k) = In.acc (pg A r k) (n + 1)
  h1 : ∀ k j, s1 (ix2 k j) = In.acc (pw A k j) (n + 1)

section Step

variable {A : In.Inp 2048} {n : Fin 32} {x0 : Vec Ideal S512x2048 .bf16} {x1 : Vec Ideal S512x1024 .f32} {x2 : Vec Ideal S512x1024 .f32} {x3 : Vec Ideal S1x1x1024 .f32} {x4 : Vec Ideal S1024x2048 .bf16}
  (H : IsBlk A n x0 x1 x2 x3 x4)

include H

theorem inv_first (hn : n.val = 0) : Inv A n (S0 x0 x1 x4 (k0_pay7 (F := Ideal))) (S1 x0 x1 x3 (k0_pay6 (F := Ideal))) where
  h0 := fun r k => by
    rw [S0_apply H, In.acc_succ, hn, In.acc_zero]
    congr 1
    unfold_payloads
    pointwise
  h1 := fun k j => by
    rw [S1_apply H, In.acc_succ, hn, In.acc_zero]
    congr 1
    unfold_payloads
    pointwise

theorem inv_step (hn : 1 ≤ n.val) {s0 : Vec Ideal S8x1024 .f32} {s1 : Vec Ideal S1024x2048 .f32} (I : Inv A (n.val - 1) s0 s1) :
    Inv A n (S0 x0 x1 x4 s0) (S1 x0 x1 x3 s1) where
  h0 := fun r k => by
    rw [S0_apply H, In.acc_succ, I.h0 r k, Nat.sub_add_cancel hn]
    rfl
  h1 := fun k j => by
    rw [S1_apply H, In.acc_succ, I.h1 k j, Nat.sub_add_cancel hn]
    rfl

end Step

/-- The running sums after point `t`. -/
theorem inv (n : ℕ) : ∀ hn : n < cfg0.N, Inv (A m c) n (outsAt0 m c n hn).2.2.2.1 (outsAt0 m c n hn).2.2.2.2 := by
  induction n with
  | zero =>
    intro hn
    have e := outsAt0_A m c ⟨0, hn⟩ (by simp) (by simp)
    dsimp only at e
    rw [e]
    dsimp only
    rw [sout_A_0, sout_A_1]
    exact inv_first (n := ⟨0, hn⟩) (isBlk m c ⟨0, hn⟩) rfl
  | succ n ih =>
    intro hn
    have hN : cfg0.N = 32 := rfl
    have I := ih (by omega)
    by_cases h2 : (n + 1) % 32 = 31
    · have e := outsAt0_C m c ⟨n + 1, hn⟩ (by dsimp only; omega) h2
      dsimp only at e
      rw [e]
      dsimp only
      rw [sout_C_0, sout_C_1]
      exact inv_step (n := ⟨n + 1, hn⟩) (isBlk m c ⟨n + 1, hn⟩) (by simp) I
    · have e := outsAt0_B m c ⟨n + 1, hn⟩ (by dsimp only; omega) h2
      dsimp only at e
      rw [e]
      dsimp only
      rw [sout_B_0, sout_B_1]
      exact inv_step (n := ⟨n + 1, hn⟩) (isBlk m c ⟨n + 1, hn⟩) (by simp) I

/-- The block of the input's gradient that point `t` writes. -/
theorem out5 (t : Fin cfg0.N) : (outsAt0 m c t.val t.isLt).1 = W5 (iblk m c 0 t) (iblk m c 1 t) (iblk m c 2 t) (iblk m c 3 t) (iblk m c 4 t) := by
  have hN : cfg0.N = 32 := rfl
  have ht := t.isLt
  by_cases h0 : t.val = 0
  · rw [outsAt0_A m c t (by omega) (by omega)]
    dsimp only
    rw [out_A_5]
  · by_cases h2 : t.val % 32 = 31
    · rw [outsAt0_C m c t (by omega) h2]
      dsimp only
      rw [out_C_5]
    · rw [outsAt0_B m c t (by omega) h2]
      dsimp only
      rw [out_B_5]

/-- The last point writes the running sums out. -/
theorem outLast (t : Fin cfg0.N) (ht : t.val % 32 = 31) :
    (outsAt0 m c t.val t.isLt).2.1 = k0_pay3 (outsAt0 m c t.val t.isLt).2.2.2.2
    ∧ (outsAt0 m c t.val t.isLt).2.2.1 = W7 (outsAt0 m c t.val t.isLt).2.2.2.1 := by
  rw [outsAt0_C m c t (by omega) ht]
  dsimp only
  rw [out_C_6, out_C_7, sout_C_0, sout_C_1]
  exact ⟨rfl, rfl⟩

theorem last6 (t : Fin cfg0.N) (ht : t.val = 31) (k : Fin 1024) (j : Fin 2048) :
    (outsAt0 m c t.val t.isLt).2.1 (ix2 k j) = (A m c).dw k j := by
  rw [(outLast m c t (by omega)).1]
  have I := (inv m c t.val t.isLt).h1 k j
  generalize hs : (outsAt0 m c t.val t.isLt).2.2.2.2 = s at I ⊢
  unfold k0_pay3
  refine Eq.trans ?_ (I.trans ((In.acc_last _ _ ht).trans ?_))
  · pointwise
  · exact In.sum_tok fun t => (A m c).nrm t k * (A m c).g k * (A m c).P t j
theorem last7 (t : Fin cfg0.N) (ht : t.val = 31) (q : Fin 8) (k : Fin 1024) :
    (outsAt0 m c t.val t.isLt).2.2.1 (ix2 q k) = (A m c).dg q k := by
  rw [(outLast m c t (by omega)).2]
  have h0 := (inv m c t.val t.isLt).h0
  unfold In.Inp.dg
  split
  · rename_i hq
    rw [W7_0 _ q hq]
    refine (Finset.sum_congr rfl fun r _ => (h0 r k).trans (In.acc_last _ _ ht)).trans ?_
    exact In.sum_parts fun t => (A m c).dhn t k * (A m c).nrm t k
  · exact W7_1 _ q (by omega) k

/-- The three arrays. -/
theorem arr5 : (dats m 0 c).arrAt 5 cfg0.N = fun j => (A m c).dh (j 0) (j 1) := by
  refine (dats m 0 c).arrAt_eq_of_covers 5 _ (by decide +kernel) fun t hf y => ?_
  blk_simp
  rw [after0_5, out5]
  refine Eq.trans (congrArg _ (eq_ix2 y)) ((W5_apply (isBlk m c t) (y 0) (y 1)).trans ?_)
  have i5 := (idx t).2.2.2.2.2.1
  congr 1
  · apply Fin.ext
    blk_simp [i5]
    simp [In.tok, Nat.mul_comm]
  · apply Fin.ext
    blk_simp [i5]

theorem arr6 : (dats m 0 c).arrAt 6 cfg0.N = fun j => (A m c).dw (j 0) (j 1) := by
  obtain ⟨t, ht⟩ : ∃ t : Fin cfg0.N, t.val = 31 := ⟨⟨31, by decide⟩, rfl⟩
  refine (dats m 0 c).arrAt_eq_of_after_last 6 t (by rw [show t = (⟨31, by decide⟩ : Fin cfg0.N) from Fin.ext ht]; decide +kernel) _ fun j => ?_
  blk_simp
  rw [after0_6]
  exact Eq.trans (congrArg _ (eq_ix2 j)) (last6 m c t ht (j 0) (j 1))

theorem arr7 : (dats m 0 c).arrAt 7 cfg0.N = fun j => (A m c).dg (j 0) (j 1) := by
  obtain ⟨t, ht⟩ : ∃ t : Fin cfg0.N, t.val = 31 := ⟨⟨31, by decide⟩, rfl⟩
  refine (dats m 0 c).arrAt_eq_of_after_last 7 t (by rw [show t = (⟨31, by decide⟩ : Fin cfg0.N) from Fin.ext ht]; decide +kernel) _ fun j => ?_
  blk_simp
  rw [after0_7]
  exact Eq.trans (congrArg _ (eq_ix2 j)) (last7 m c t ht (j 0) (j 1))

end Cert.Proof.In3
-- ==== Proof.In3Ref.lean ====
/-
  What the reference of the second pooling block's projection computes, element by element, in the terms of `InSpec`.
-/
module

public import proofs.«01_k».proof.Proof.InSpec
public import proofs.«01_k».proof.Proof.Gen.Reference3Ideal.Read

@[expose] public section

set_option maxRecDepth 16384

noncomputable section

open Idealize.ShloMosaic Idealize.ShloMosaic.TcCoe Idealize.SL.Sem Cert.Reference3Ideal Cert.Reference3Ideal.Gen Cert.Reference3Ideal.Read

namespace Cert.Proof.In3.Ref

variable (a0 : Vec Ideal S16384x2048 .f32) (a1 a2 : Vec Ideal S16384x1024 .f32) (a3 : Vec Ideal S4x1024 .f32) (a4 : Vec Ideal S1024x2048 .f32)

/-- The arrays of the backward pass, from the reference's arguments. -/
def A : In.Inp 2048 where
  P t j := a0 (ix2 t j)
  X t k := a1 (ix2 t k)
  D t k := a2 (ix2 t k)
  g k := a3 (ix2 3 k)
  W k j := a4 (ix2 k j)

theorem ms (t : Fin 16384) : val_main_v8 (F := Ideal) a1 (ix2 t (0 : Fin 1)) = (A a0 a1 a2 a3 a4).ms t := by
  unfold val_main_v8 val_main_v7 val_main_cst_1 val_main_v6 val_main_v5 val_main_cst_0 val_main_v4 val_main_v3 val_main_cst val_main_v2 In.Inp.ms In.width In.eps
  pointwise
  rfl
theorem r (t : Fin 16384) : val_main_v9 (F := Ideal) a1 (ix2 t (0 : Fin 1)) = (A a0 a1 a2 a3 a4).r t := by
  unfold In.Inp.r
  rw [← ms]
  unfold val_main_v9
  generalize val_main_v8 (F := Ideal) a1 = u
  pointwise
theorem nrm (t : Fin 16384) (k : Fin 1024) : val_main_v14 (F := Ideal) a1 (ix2 t k) = (A a0 a1 a2 a3 a4).nrm t k := by
  unfold In.Inp.nrm
  rw [← r]
  unfold val_main_v14 val_main_v13
  generalize val_main_v9 (F := Ideal) a1 = u
  pointwise
  rfl
theorem g (k : Fin 1024) : val_main_v15 (F := Ideal) a3 (ix2 (0 : Fin 1) k) = (A a0 a1 a2 a3 a4).g k := by
  unfold val_main_v15 val_main_v1 val_main_v0
  pointwise
  rfl
theorem dhn (t : Fin 16384) (k : Fin 1024) : val_main_v21 (F := Ideal) a0 a4 (ix2 t k) = (A a0 a1 a2 a3 a4).dhn t k := by
  unfold val_main_v21 In.Inp.dhn
  pointwise
  rfl
theorem dq (t : Fin 16384) (k : Fin 1024) : val_main_v26 (F := Ideal) a0 a3 a4 (ix2 t k) = (A a0 a1 a2 a3 a4).dq t k := by
  unfold In.Inp.dq
  rw [← dhn, ← g a0 a1 a2 a3 a4]
  unfold val_main_v26 val_main_v25
  generalize val_main_v21 (F := Ideal) a0 a4 = u
  generalize val_main_v15 (F := Ideal) a3 = w
  pointwise

/-- The row's coefficient behind the root. -/
theorem ct (t : Fin 16384) (k : Fin 1024) : val_main_v38 (F := Ideal) a0 a1 a3 a4 (ix2 t k)
    = Ideal.div ((∑ k', (A a0 a1 a2 a3 a4).X t k' * (A a0 a1 a2 a3 a4).dq t k')
        * (In.mhalf * Ideal.div ((A a0 a1 a2 a3 a4).r t) ((A a0 a1 a2 a3 a4).ms t))) In.width := by
  simp only [← dq, ← r, ← ms]
  unfold In.mhalf In.width
  unfold val_main_v38 val_main_v37 val_main_cst_7 val_main_v36 val_main_v35 val_main_cst_6 val_main_v34 val_main_v30 val_main_v29 val_main_cst_5 val_main_v28 val_main_v12 val_main_v11 val_main_cst_2 val_main_v10
  generalize val_main_v26 (F := Ideal) a0 a3 a4 = u
  generalize val_main_v9 (F := Ideal) a1 = w
  generalize val_main_v8 (F := Ideal) a1 = x
  pointwise
  exact (Fin.sum_univ_one _).trans rfl

theorem dh (t : Fin 16384) (k : Fin 1024) : val_main_v42 (F := Ideal) a0 a1 a2 a3 a4 (ix2 t k) = (A a0 a1 a2 a3 a4).dh t k := by
  rw [← In.dh_eq, ← ct, ← dq, ← r]
  unfold val_main_v42 val_main_v41 val_main_v40 val_main_v39 val_main_v33 val_main_v32 val_main_v31
  generalize val_main_v26 (F := Ideal) a0 a3 a4 = u
  generalize val_main_v9 (F := Ideal) a1 = w
  generalize val_main_v38 (F := Ideal) a0 a1 a3 a4 = x
  pointwise
  rfl

theorem dw (k : Fin 1024) (j : Fin 2048) : val_main_v43 (F := Ideal) a0 a1 a3 (ix2 k j) = (A a0 a1 a2 a3 a4).dw k j := by
  unfold In.Inp.dw
  simp only [← nrm, ← g a0 a1 a2 a3 a4]
  unfold val_main_v43 val_main_v20 val_main_v19 val_main_v17 val_main_v16
  generalize val_main_v14 (F := Ideal) a1 = u
  generalize val_main_v15 (F := Ideal) a3 = w
  pointwise
  exact Finset.sum_congr rfl fun t _ => mul_comm _ _

theorem dgs (k : Fin 1024) : val_main_v27 (F := Ideal) a0 a1 a4 (ix1 k) = ∑ t, (A a0 a1 a2 a3 a4).dhn t k * (A a0 a1 a2 a3 a4).nrm t k := by
  simp only [← nrm, ← dhn]
  unfold val_main_v27 val_main_cst_4 val_main_v24 val_main_v23 val_main_cst_3 val_main_v22
  generalize val_main_v14 (F := Ideal) a1 = u
  generalize val_main_v21 (F := Ideal) a0 a4 = w
  pointwise
  refine (Fin.sum_univ_one _).trans ?_
  exact Finset.sum_congr rfl fun t _ => mul_comm _ _

theorem dg (q : Fin 8) (k : Fin 1024) : val_main_v46 (F := Ideal) a0 a1 a4 (ix2 q k) = (A a0 a1 a2 a3 a4).dg q k := by
  unfold In.Inp.dg
  rw [← dgs]
  unfold val_main_v46 val_main_v45 val_main_cst_8 val_main_v44
  generalize val_main_v27 (F := Ideal) a0 a1 a4 = u
  pointwise
  by_cases hq : q.val = 0
  · rw [if_pos hq, dif_pos (by omega)]
  · rw [if_neg hq, dif_neg (by omega)]

end Cert.Proof.In3.Ref
-- ==== Proof.In3Join.lean ====
/-
  The kernel's results are the reference's, and what each program ends with: program 3.
-/
module

public import proofs.«01_k».proof.Defs
public import proofs.«01_k».proof.Proof.In3Arr
public import proofs.«01_k».proof.Proof.In3Ref
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.In3

theorem quiescent_ref : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- The reference's results are the kernel's arrays, over equal arguments. -/
theorem results (a0 b0 : Vec Ideal Cert.Reference3Ideal.S16384x2048 .f32) (a1 b1 a2 b2 : Vec Ideal Cert.Reference3Ideal.S16384x1024 .f32)
    (a3 b3 : Vec Ideal Cert.Reference3Ideal.S4x1024 .f32) (a4 b4 : Vec Ideal Cert.Reference3Ideal.S1024x2048 .f32)
    (h : b0 = a0 ∧ b1 = a1 ∧ b2 = a2 ∧ b3 = a3 ∧ b4 = a4) :
    (Cert.Reference3Ideal.Read.val_main_v42 (F := Ideal) b0 b1 b2 b3 b4 = fun j => (inp a0 a1 a2 a3 a4).dh (j 0) (j 1))
    ∧ (Cert.Reference3Ideal.Read.val_main_v43 (F := Ideal) b0 b1 b3 = fun j => (inp a0 a1 a2 a3 a4).dw (j 0) (j 1))
    ∧ (Cert.Reference3Ideal.Read.val_main_v46 (F := Ideal) b0 b1 b4 = fun j => (inp a0 a1 a2 a3 a4).dg (j 0) (j 1)) := by
  obtain ⟨rfl, rfl, rfl, rfl, rfl⟩ := h
  refine ⟨funext fun j => ?_, funext fun j => ?_, funext fun j => ?_⟩
  · exact (congrArg _ (eq_ix2 j)).trans (Ref.dh b0 b1 b2 b3 b4 (j 0) (j 1))
  · exact (congrArg _ (eq_ix2 j)).trans (Ref.dw b0 b1 b2 b3 b4 (j 0) (j 1))
  · exact (congrArg _ (eq_ix2 j)).trans (Ref.dg b0 b1 b2 b3 b4 (j 0) (j 1))

theorem algebraic : Cert.algebraic_Kernel3Ideal_Reference3Ideal := fun m g m' g' _ ha => by
  refine ⟨fun c => fun j => (A m c).dh (j 0) (j 1), fun c => fun j => (A m c).dw (j 0) (j 1), fun c => fun j => (A m c).dg (j 0) (j 1), ?_, ?_⟩
  · refine (θ_run Cert.Kernel3Ideal.defs _ _).mono (fun r h c => ?_) (Cert.Kernel3Ideal.Value.run_blocks (F := Ideal) m g)
    obtain ⟨e0, e1, e2, k⟩ := h c
    exact ⟨e0.trans (arr5 m c), e1.trans (arr6 m c), e2.trans (arr7 m c), k⟩
  · refine (θ_run Cert.Reference3Ideal.defs _ _).mono (fun r h c => ?_) (Cert.Reference3Ideal.Value.run (F := Ideal) m' g')
    obtain ⟨e0, e1, e2, k⟩ := h c
    obtain ⟨r0, r1, r2⟩ := results _ _ _ _ _ _ _ _ _ _ (ha c)
    exact ⟨e0.trans ((Cert.Reference3Ideal.Read.val_main_v42_eq _ _).trans r0), e1.trans ((Cert.Reference3Ideal.Read.val_main_v43_eq _ _ _).trans r1), e2.trans ((Cert.Reference3Ideal.Read.val_main_v46_eq _ _ _).trans r2), k⟩

end Cert.Proof.In3

end
-- ==== Proof.In4Blk.lean ====
/-
  The backward call of the first pooling block's projection: what one grid point leaves in its buffers, as closed terms over the point's
  input blocks and over what the point before left.
-/
module

public import proofs.«01_k».proof.Proof.Gen.Kernel4Ideal.Value
public import proofs.«01_k».proof.Proof.Blk

@[expose] public section

set_option maxRecDepth 16384

noncomputable section

open Idealize.ShloMosaic Idealize.ShloMosaic.TcCoe Idealize.SL.Sem Cert.Kernel4Ideal Cert.Kernel4Ideal.Gen

namespace Cert.Proof.In4

variable {F : FTy → Type} [FloatOps F]

/-- Loads and stores of whole buffers. -/
theorem ldP (X : Vec F S512x2048 .bf16) :
    View.ld X (Rect.unit ![0, 0] ![512, 2048] inb_S512x2048_S512x2048_0_0) = X := View.ld_unit_zero Blk.z2 _ X
theorem ldX (X : Vec F S512x1024 .f32) :
    View.ld X (Rect.unit ![0, 0] ![512, 1024] inb_S512x1024_S512x1024_0_0) = X := View.ld_unit_zero Blk.z2 _ X
theorem ldG (X : Vec F S1x1x1024 .f32) :
    View.ld X (Rect.unit ![0, 0, 0] ![1, 1, 1024] inb_S1x1x1024_S1x1x1024_0_0_0) = X := View.ld_unit_zero Blk.z3 _ X
theorem ldW {e : EltTy} (X : Vec F S1024x2048 e) :
    View.ld X (Rect.unit ![0, 0] ![1024, 2048] inb_S1024x2048_S1024x2048_0_0) = X := View.ld_unit_zero Blk.z2 _ X
theorem ldA (X : Vec F S8x1024 .f32) :
    View.ld X (Rect.unit ![0, 0] ![8, 1024] inb_S8x1024_S8x1024_0_0) = X := View.ld_unit_zero Blk.z2 _ X
theorem cX (w : Vec F S512x1024 .f32) (L : List (View.Piece (Elt F) S512x1024 .f32)) :
    View.canon (⟨Rect.unit ![0, 0] ![512, 1024] inb_S512x1024_S512x1024_0_0, w⟩ :: L) = w := View.canon_cons_unit_zero Blk.z2 _ w L
theorem cW {e : EltTy} (w : Vec F S1024x2048 e) (L : List (View.Piece (Elt F) S1024x2048 e)) :
    View.canon (⟨Rect.unit ![0, 0] ![1024, 2048] inb_S1024x2048_S1024x2048_0_0, w⟩ :: L) = w := View.canon_cons_unit_zero Blk.z2 _ w L
theorem cA (w : Vec F S8x1024 .f32) (L : List (View.Piece (Elt F) S8x1024 .f32)) :
    View.canon (⟨Rect.unit ![0, 0] ![8, 1024] inb_S8x1024_S8x1024_0_0, w⟩ :: L) = w := View.canon_cons_unit_zero Blk.z2 _ w L

section Terms

variable (x0 : Vec F S512x2048 .bf16) (x1 : Vec F S512x1024 .f32) (x2 : Vec F S512x1024 .f32) (x3 : Vec F S1x1x1024 .f32) (x4 : Vec F S1024x2048 .bf16) (q0 : Vec F S8x1024 .f32) (q1 : Vec F S1024x2048 .f32)

/-- The block of the input's gradient, and the two running sums after the point. -/
def W5 : Vec F S512x1024 .f32 := k0_pay2 (k0_pay8 x1) (k0_pay9 x1) (k0_pay11 x0 x4) x3 x2
def S0 : Vec F S8x1024 .f32 := k0_pay1 q0 (k0_pay13 x1 x0 x4)
def S1 : Vec F S1024x2048 .f32 := k0_pay12 x1 x0 q1 x3
/-- The scale's gradient as the last point writes it: the running sum's rows added up, in the first row. -/
def W7 (q : Vec F S8x1024 .f32) : Vec F S8x1024 .f32 :=
  View.canon [⟨Rect.unit ![0, 0] ![1, 1024] inb_S8x1024_S1x1024_0_0, k0_pay5 q⟩,
    ⟨Rect.unit ![0, 0] ![8, 1024] inb_S8x1024_S8x1024_0_0, k0_pay4 (F := F)⟩]

end Terms

section Points

variable (c : Dev nD) (i : grid0.Coords) (arg1 : Memref sig .tc .vmem S512x2048 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1024x2048 .bf16) (harg5 : arg5.IsWhole) (arg6 : Memref sig .tc .vmem S512x1024 .f32) (harg6 : arg6.IsWhole) (arg7 : Memref sig .tc .vmem S1024x2048 .bf16) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1024x2048 .f32) (harg10 : arg10.IsWhole)
  (x0 : Vec F S512x2048 .bf16) (x1 : Vec F S512x1024 .f32) (x2 : Vec F S512x1024 .f32) (x3 : Vec F S1x1x1024 .f32) (x4 : Vec F S1024x2048 .bf16) (xs0 : Vec F S8x1024 .f32) (xs1 : Vec F S1024x2048 .f32)

theorem out_A_5 (hc0 : cond0_0 i) (hc1 : ¬cond0_1 i) : out0_A_5 c i arg1 harg1 arg2 harg2 arg3 harg3 arg4 harg4 arg5 harg5 arg6 harg6 arg7 harg7 arg8 harg8 arg9 harg9 arg10 harg10 hc0 hc1 x0 x1 x2 x3 x4 = W5 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_0 (hc0 : cond0_0 i) (hc1 : ¬cond0_1 i) : sout0_A_0 c i arg1 harg1 arg2 harg2 arg3 harg3 arg4 harg4 arg5 harg5 arg6 harg6 arg7 harg7 arg8 harg8 arg9 harg9 arg10 harg10 hc0 hc1 x0 x1 x2 x3 x4 = S0 x0 x1 x4 (k0_pay7 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_A_1 (hc0 : cond0_0 i) (hc1 : ¬cond0_1 i) : sout0_A_1 c i arg1 harg1 arg2 harg2 arg3 harg3 arg4 harg4 arg5 harg5 arg6 harg6 arg7 harg7 arg8 harg8 arg9 harg9 arg10 harg10 hc0 hc1 x0 x1 x2 x3 x4 = S1 x0 x1 x3 (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_B_5 (hc0 : ¬cond0_0 i) (hc1 : ¬cond0_1 i) : out0_B_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_0 (hc0 : ¬cond0_0 i) (hc1 : ¬cond0_1 i) : sout0_B_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_B_1 (hc0 : ¬cond0_0 i) (hc1 : ¬cond0_1 i) : sout0_B_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_5 (hc0 : ¬cond0_0 i) (hc1 : cond0_1 i) : out0_C_5 c i arg1 harg1 arg2 harg2 arg3 harg3 arg4 harg4 arg5 harg5 arg6 harg6 arg7 harg7 arg8 harg8 arg9 harg9 arg10 harg10 hc0 hc1 x0 x1 x2 x3 x4 xs0 xs1 = W5 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_6 (hc0 : ¬cond0_0 i) (hc1 : cond0_1 i) : out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay3 (S1 x0 x1 x3 xs1) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem out_C_7 (hc0 : ¬cond0_0 i) (hc1 : cond0_1 i) : out0_C_7 c i arg1 harg1 arg2 harg2 arg3 harg3 arg4 harg4 arg5 harg5 arg6 harg6 arg7 harg7 arg8 harg8 arg9 harg9 arg10 harg10 hc0 hc1 x0 x1 x2 x3 x4 xs0 xs1 = W7 (S0 x0 x1 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_0 (hc0 : ¬cond0_0 i) (hc1 : cond0_1 i) : sout0_C_0 c i arg1 harg1 arg2 harg2 arg3 harg3 arg4 harg4 arg5 harg5 arg6 harg6 arg7 harg7 arg8 harg8 arg9 harg9 arg10 harg10 hc0 hc1 x0 x1 x2 x3 x4 xs0 xs1 = S0 x0 x1 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

theorem sout_C_1 (hc0 : ¬cond0_0 i) (hc1 : cond0_1 i) : sout0_C_1 c i arg1 harg1 arg2 harg2 arg3 harg3 arg4 harg4 arg5 harg5 arg6 harg6 arg7 harg7 arg8 harg8 arg9 harg9 arg10 harg10 hc0 hc1 x0 x1 x2 x3 x4 xs0 xs1 = S1 x0 x1 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, Blk.readCov_ld]
  simp only [ldP, ldX, ldG, ldW, ldA, cX, cW, cA]
  rfl

end Points

end Cert.Proof.In4
-- ==== Proof.In4Row.lean ====
/-
  The backward call of the first pooling block's projection, element by element: the blocks a grid point reads are rows of the arrays, and the
  point's terms over them are the mathematics of `InSpec` at the tile's tokens.
-/
module

public import proofs.«01_k».proof.Proof.In4Blk
public import proofs.«01_k».proof.Proof.InSpec
public import proofs.«01_k».proof.Proof.Rows
public import Idealize.ShloMosaic.Lib.StableHlo.ReadAt
public import Idealize.ShloMosaic.Lib.Claim
public import Idealize.ShloMosaic.Lib.Pipeline.ValueKit.Point

@[expose] public section

set_option maxRecDepth 16384

noncomputable section

open Idealize.ShloMosaic Idealize.ShloMosaic.TcCoe Idealize.SL.Sem Cert.Kernel4Ideal Cert.Kernel4Ideal.Gen

namespace Cert.Proof.In4

section Host

variable {F : FTy → Type} [FloatOps F] (m : (ℓ : Loc nD τ sig) → Buf (Elt F) ℓ) (c : Dev nD)

theorem V_v0 : V m c main_v0 = truncf (F := F) (s := S16384x2048) (φ := .f32) .bf16 (m ((c : Thread nD τ).loc main_arg0)) bitsLt_bf16_f32 := by
  unfold V
  after_reads_simp
theorem V_v1 : V m c main_v1 = broadcastInDim S4x1x1024 ![0, 2] bcast_S4x1024_S4x1x1024_0_2 (m ((c : Thread nD τ).loc main_arg3)) := by
  unfold V
  after_reads_simp
theorem V_v2 : V m c main_v2 = truncf (F := F) (s := S1024x2048) (φ := .f32) .bf16 (m ((c : Thread nD τ).loc main_arg4)) bitsLt_bf16_f32 := by
  unfold V
  after_reads_simp

end Host

/-- The arrays of the backward pass, from the programs' arguments. -/
def inp (a0 : Vec Ideal S16384x2048 .f32) (a1 a2 : Vec Ideal S16384x1024 .f32) (a3 : Vec Ideal S4x1024 .f32) (a4 : Vec Ideal S1024x2048 .f32) : In.Inp 2048 where
  P t j := a0 (ix2 t j)
  X t k := a1 (ix2 t k)
  D t k := a2 (ix2 t k)
  g k := a3 (ix2 1 k)
  W k j := a4 (ix2 k j)

/-- The blocks hold the arrays' rows of tile `n`. -/
structure IsBlk (A : In.Inp 2048) (n : Fin 32) (x0 : Vec Ideal S512x2048 .bf16) (x1 : Vec Ideal S512x1024 .f32) (x2 : Vec Ideal S512x1024 .f32) (x3 : Vec Ideal S1x1x1024 .f32) (x4 : Vec Ideal S1024x2048 .bf16) : Prop where
  h0 : ∀ r j, x0 (ix2 r j) = A.P (In.tok n r) j
  h1 : ∀ r k, x1 (ix2 r k) = A.X (In.tok n r) k
  h2 : ∀ r k, x2 (ix2 r k) = A.D (In.tok n r) k
  h3 : ∀ k, x3 (ix3 0 0 k) = A.g k
  h4 : ∀ k j, x4 (ix2 k j) = A.W k j

section Blocks

variable (m : (ℓ : Loc nD τ sig) → Buf (Elt Ideal) ℓ) (c : Dev nD)

/-- The arrays the launch finds. -/
def A : In.Inp 2048 := inp (m ((c : Thread nD τ).loc main_arg0)) (m ((c : Thread nD τ).loc main_arg1)) (m ((c : Thread nD τ).loc main_arg2))
  (m ((c : Thread nD τ).loc main_arg3)) (m ((c : Thread nD τ).loc main_arg4))

theorem idx (t : Fin grid0.N) :
    win0_0.index t = ![t.val, 0] ∧ win0_1.index t = ![t.val, 0] ∧ win0_2.index t = ![t.val, 0] ∧ win0_3.index t = ![1, 0, 0]
    ∧ win0_4.index t = ![0, 0] ∧ win0_5.index t = ![t.val, 0] ∧ win0_6.index t = ![0, 0] ∧ win0_7.index t = ![0, 0] :=
  (by decide +kernel : ∀ t : Fin grid0.N, win0_0.index t = ![t.val, 0] ∧ win0_1.index t = ![t.val, 0] ∧ win0_2.index t = ![t.val, 0] ∧ win0_3.index t = ![1, 0, 0]
    ∧ win0_4.index t = ![0, 0] ∧ win0_5.index t = ![t.val, 0] ∧ win0_6.index t = ![0, 0] ∧ win0_7.index t = ![0, 0]) t

theorem b0 (t : Fin cfg0.N) (r : Fin 512) (j : Fin 2048) : (iblk m c 0 t : Vec Ideal S512x2048 .bf16) (ix2 r j) = (A m c).P (In.tok t r) j := by
  have e : (iblk m c 0 t : Vec Ideal S512x2048 .bf16) (ix2 r j) = (V m c main_v0 : Vec Ideal S16384x2048 .bf16) (ix2 (In.tok t r) j) := by
    unfold In.tok
    blk_ext [iblk, idx t]
  rw [e, V_v0]
  rfl
theorem b1 (t : Fin cfg0.N) (r : Fin 512) (k : Fin 1024) : (iblk m c 1 t : Vec Ideal S512x1024 .f32) (ix2 r k) = (A m c).X (In.tok t r) k := by
  show iblk m c 1 t (ix2 r k) = (m ((c : Thread nD τ).loc main_arg1)) (ix2 (In.tok t r) k)
  unfold In.tok
  blk_ext [iblk, V_main_arg1, idx t]
theorem b2 (t : Fin cfg0.N) (r : Fin 512) (k : Fin 1024) : (iblk m c 2 t : Vec Ideal S512x1024 .f32) (ix2 r k) = (A m c).D (In.tok t r) k := by
  show iblk m c 2 t (ix2 r k) = (m ((c : Thread nD τ).loc main_arg2)) (ix2 (In.tok t r) k)
  unfold In.tok
  blk_ext [iblk, V_main_arg2, idx t]
theorem b3 (t : Fin cfg0.N) (k : Fin 1024) : (iblk m c 3 t : Vec Ideal S1x1x1024 .f32) (ix3 0 0 k) = (A m c).g k := by
  have e : (iblk m c 3 t : Vec Ideal S1x1x1024 .f32) (ix3 0 0 k) = (V m c main_v1 : Vec Ideal S4x1x1024 .f32) (ix3 1 0 k) := by
    blk_ext [iblk, idx t]
  rw [e, V_v1]
  pointwise
  rfl
theorem b4 (t : Fin cfg0.N) (k : Fin 1024) (j : Fin 2048) : (iblk m c 4 t : Vec Ideal S1024x2048 .bf16) (ix2 k j) = (A m c).W k j := by
  have e : (iblk m c 4 t : Vec Ideal S1024x2048 .bf16) (ix2 k j) = (V m c main_v2 : Vec Ideal S1024x2048 .bf16) (ix2 k j) := by
    blk_ext [iblk, idx t]
  rw [e, V_v2]
  rfl

/-- Point `t`'s blocks are tile `t` of the arrays. -/
theorem isBlk (t : Fin cfg0.N) : IsBlk (A m c) t (iblk m c 0 t) (iblk m c 1 t) (iblk m c 2 t) (iblk m c 3 t) (iblk m c 4 t) where
  h0 := b0 m c t
  h1 := b1 m c t
  h2 := b2 m c t
  h3 := b3 m c t
  h4 := b4 m c t

end Blocks

section Rows

variable {A : In.Inp 2048} {n : Fin 32} {x0 : Vec Ideal S512x2048 .bf16} {x1 : Vec Ideal S512x1024 .f32} {x2 : Vec Ideal S512x1024 .f32} {x3 : Vec Ideal S1x1x1024 .f32} {x4 : Vec Ideal S1024x2048 .bf16}
  (H : IsBlk A n x0 x1 x2 x3 x4)

include H

theorem p8 (r : Fin 512) : k0_pay8 x1 (ix2 r (0 : Fin 1)) = A.r (In.tok n r) := by
  unfold In.Inp.r In.Inp.ms In.width In.eps
  simp only [← H.h1]
  unfold_payloads
  pointwise
theorem p9 (r : Fin 512) (k : Fin 1024) : k0_pay9 x1 (ix2 r k) = A.nrm (In.tok n r) k := by
  unfold In.Inp.nrm
  rw [← p8 H, ← H.h1]
  unfold k0_pay9
  generalize k0_pay8 x1 = u
  pointwise
theorem p11 (r : Fin 512) (k : Fin 1024) : k0_pay11 x0 x4 (ix2 r k) = A.dhn (In.tok n r) k := by
  unfold In.Inp.dhn
  simp only [← H.h0, ← H.h4]
  unfold_payloads
  pointwise
theorem p13 (r : Fin 8) (k : Fin 1024) : k0_pay13 x1 x0 x4 (ix2 r k)
    = ∑ x : Fin 64, A.dhn (In.tok n ⟨x.val * 8 + r.val, by have := x.isLt; have := r.isLt; omega⟩) k
      * A.nrm (In.tok n ⟨x.val * 8 + r.val, by have := x.isLt; have := r.isLt; omega⟩) k := by
  simp only [← p9 H, ← p11 H]
  unfold k0_pay13
  generalize k0_pay9 x1 = u
  generalize k0_pay11 x0 x4 = v
  pointwise

/-- The block of the input's gradient. -/
theorem W5_apply (r : Fin 512) (k : Fin 1024) : W5 x0 x1 x2 x3 x4 (ix2 r k) = A.dh (In.tok n r) k := by
  unfold W5 In.Inp.dh In.Inp.dq In.width
  simp only [← p8 H, ← p9 H, ← p11 H, ← H.h2, ← H.h3]
  unfold k0_pay2
  generalize k0_pay9 x1 = u
  generalize k0_pay11 x0 x4 = v
  generalize k0_pay8 x1 = w
  pointwise

/-- The running sums. -/
theorem S0_apply (q0 : Vec Ideal S8x1024 .f32) (r : Fin 8) (k : Fin 1024) : S0 x0 x1 x4 q0 (ix2 r k)
    = q0 (ix2 r k) + ∑ x : Fin 64, A.dhn (In.tok n ⟨x.val * 8 + r.val, by have := x.isLt; have := r.isLt; omega⟩) k
      * A.nrm (In.tok n ⟨x.val * 8 + r.val, by have := x.isLt; have := r.isLt; omega⟩) k := by
  rw [← p13 H]
  unfold S0 k0_pay1
  generalize k0_pay13 x1 x0 x4 = u
  pointwise
theorem S1_apply (q1 : Vec Ideal S1024x2048 .f32) (k : Fin 1024) (j : Fin 2048) : S1 x0 x1 x3 q1 (ix2 k j)
    = q1 (ix2 k j) + ∑ r : Fin 512, A.nrm (In.tok n r) k * A.g k * A.P (In.tok n r) j := by
  simp only [← p9 H, ← H.h3, ← H.h0]
  unfold S1 k0_pay12 k0_pay10
  generalize k0_pay9 x1 = u
  pointwise

end Rows

theorem W7_0 (s : Vec Ideal S8x1024 .f32) (q : Fin 8) (hq : q.val = 0) (k : Fin 1024) :
    W7 s (ix2 q k) = ∑ r : Fin 8, s (ix2 r k) := by
  unfold W7
  refine (Rows.hit2 _ _ _ q k (0 : Fin 1) k (by simp [hq]) (by simp)).trans ?_
  unfold_payloads
  pointwise
theorem W7_1 (s : Vec Ideal S8x1024 .f32) (q : Fin 8) (hq : 1 ≤ q.val) (k : Fin 1024) :
    W7 s (ix2 q k) = 0 := by
  unfold W7
  refine (Rows.miss2 _ _ _ q k (by omega)).trans ?_
  refine (Rows.hit2 _ _ _ q k q k (by simp) (by simp)).trans ?_
  unfold_payloads
  pointwise

end Cert.Proof.In4
-- ==== Proof.In4Arr.lean ====
/-
  The backward call of the first pooling block's projection, over the whole grid: the running sums after each point, and what the three result
  arrays hold when the call ends.
-/
module

public import proofs.«01_k».proof.Proof.In4Row

@[expose] public section

set_option maxRecDepth 16384

noncomputable section

open Idealize.ShloMosaic Idealize.ShloMosaic.TcCoe Idealize.SL.Sem Cert.Kernel4Ideal Cert.Kernel4Ideal.Gen

namespace Cert.Proof.In4

variable (m : (ℓ : Loc nD τ sig) → Buf (Elt Ideal) ℓ) (c : Dev nD)

/-- One tile's parts of the parameters' gradients. -/
def pg (A : In.Inp 2048) (r : Fin 8) (k : Fin 1024) (n : Fin 32) : EReal :=
  ∑ x : Fin 64, A.dhn (In.tok n ⟨x.val * 8 + r.val, by have := x.isLt; have := r.isLt; omega⟩) k
    * A.nrm (In.tok n ⟨x.val * 8 + r.val, by have := x.isLt; have := r.isLt; omega⟩) k
def pw (A : In.Inp 2048) (k : Fin 1024) (j : Fin 2048) (n : Fin 32) : EReal :=
  ∑ r : Fin 512, A.nrm (In.tok n r) k * A.g k * A.P (In.tok n r) j

/-- What the two running sums hold after tile `n`'s point. -/
structure Inv (A : In.Inp 2048) (n : ℕ) (s0 : Vec Ideal S8x1024 .f32) (s1 : Vec Ideal S1024x2048 .f32) : Prop where
  h0 : ∀ r k, s0 (ix2 r k) = In.acc (pg A r k) (n + 1)
  h1 : ∀ k j, s1 (ix2 k j) = In.acc (pw A k j) (n + 1)

section Step

variable {A : In.Inp 2048} {n : Fin 32} {x0 : Vec Ideal S512x2048 .bf16} {x1 : Vec Ideal S512x1024 .f32} {x2 : Vec Ideal S512x1024 .f32} {x3 : Vec Ideal S1x1x1024 .f32} {x4 : Vec Ideal S1024x2048 .bf16}
  (H : IsBlk A n x0 x1 x2 x3 x4)

include H

theorem inv_first (hn : n.val = 0) : Inv A n (S0 x0 x1 x4 (k0_pay7 (F := Ideal))) (S1 x0 x1 x3 (k0_pay6 (F := Ideal))) where
  h0 := fun r k => by
    rw [S0_apply H, In.acc_succ, hn, In.acc_zero]
    congr 1
    unfold_payloads
    pointwise
  h1 := fun k j => by
    rw [S1_apply H, In.acc_succ, hn, In.acc_zero]
    congr 1
    unfold_payloads
    pointwise

theorem inv_step (hn : 1 ≤ n.val) {s0 : Vec Ideal S8x1024 .f32} {s1 : Vec Ideal S1024x2048 .f32} (I : Inv A (n.val - 1) s0 s1) :
    Inv A n (S0 x0 x1 x4 s0) (S1 x0 x1 x3 s1) where
  h0 := fun r k => by
    rw [S0_apply H, In.acc_succ, I.h0 r k, Nat.sub_add_cancel hn]
    rfl
  h1 := fun k j => by
    rw [S1_apply H, In.acc_succ, I.h1 k j, Nat.sub_add_cancel hn]
    rfl

end Step

/-- The running sums after point `t`. -/
theorem inv (n : ℕ) : ∀ hn : n < cfg0.N, Inv (A m c) n (outsAt0 m c n hn).2.2.2.1 (outsAt0 m c n hn).2.2.2.2 := by
  induction n with
  | zero =>
    intro hn
    have e := outsAt0_A m c ⟨0, hn⟩ (by simp) (by simp)
    dsimp only at e
    rw [e]
    dsimp only
    rw [sout_A_0, sout_A_1]
    exact inv_first (n := ⟨0, hn⟩) (isBlk m c ⟨0, hn⟩) rfl
  | succ n ih =>
    intro hn
    have hN : cfg0.N = 32 := rfl
    have I := ih (by omega)
    by_cases h2 : (n + 1) % 32 = 31
    · have e := outsAt0_C m c ⟨n + 1, hn⟩ (by dsimp only; omega) h2
      dsimp only at e
      rw [e]
      dsimp only
      rw [sout_C_0, sout_C_1]
      exact inv_step (n := ⟨n + 1, hn⟩) (isBlk m c ⟨n + 1, hn⟩) (by simp) I
    · have e := outsAt0_B m c ⟨n + 1, hn⟩ (by dsimp only; omega) h2
      dsimp only at e
      rw [e]
      dsimp only
      rw [sout_B_0, sout_B_1]
      exact inv_step (n := ⟨n + 1, hn⟩) (isBlk m c ⟨n + 1, hn⟩) (by simp) I

/-- The block of the input's gradient that point `t` writes. -/
theorem out5 (t : Fin cfg0.N) : (outsAt0 m c t.val t.isLt).1 = W5 (iblk m c 0 t) (iblk m c 1 t) (iblk m c 2 t) (iblk m c 3 t) (iblk m c 4 t) := by
  have hN : cfg0.N = 32 := rfl
  have ht := t.isLt
  by_cases h0 : t.val = 0
  · rw [outsAt0_A m c t (by omega) (by omega)]
    dsimp only
    rw [out_A_5]
  · by_cases h2 : t.val % 32 = 31
    · rw [outsAt0_C m c t (by omega) h2]
      dsimp only
      rw [out_C_5]
    · rw [outsAt0_B m c t (by omega) h2]
      dsimp only
      rw [out_B_5]

/-- The last point writes the running sums out. -/
theorem outLast (t : Fin cfg0.N) (ht : t.val % 32 = 31) :
    (outsAt0 m c t.val t.isLt).2.1 = k0_pay3 (outsAt0 m c t.val t.isLt).2.2.2.2
    ∧ (outsAt0 m c t.val t.isLt).2.2.1 = W7 (outsAt0 m c t.val t.isLt).2.2.2.1 := by
  rw [outsAt0_C m c t (by omega) ht]
  dsimp only
  rw [out_C_6, out_C_7, sout_C_0, sout_C_1]
  exact ⟨rfl, rfl⟩

theorem last6 (t : Fin cfg0.N) (ht : t.val = 31) (k : Fin 1024) (j : Fin 2048) :
    (outsAt0 m c t.val t.isLt).2.1 (ix2 k j) = (A m c).dw k j := by
  rw [(outLast m c t (by omega)).1]
  have I := (inv m c t.val t.isLt).h1 k j
  generalize hs : (outsAt0 m c t.val t.isLt).2.2.2.2 = s at I ⊢
  unfold k0_pay3
  refine Eq.trans ?_ (I.trans ((In.acc_last _ _ ht).trans ?_))
  · pointwise
  · exact In.sum_tok fun t => (A m c).nrm t k * (A m c).g k * (A m c).P t j
theorem last7 (t : Fin cfg0.N) (ht : t.val = 31) (q : Fin 8) (k : Fin 1024) :
    (outsAt0 m c t.val t.isLt).2.2.1 (ix2 q k) = (A m c).dg q k := by
  rw [(outLast m c t (by omega)).2]
  have h0 := (inv m c t.val t.isLt).h0
  unfold In.Inp.dg
  split
  · rename_i hq
    rw [W7_0 _ q hq]
    refine (Finset.sum_congr rfl fun r _ => (h0 r k).trans (In.acc_last _ _ ht)).trans ?_
    exact In.sum_parts fun t => (A m c).dhn t k * (A m c).nrm t k
  · exact W7_1 _ q (by omega) k

/-- The three arrays. -/
theorem arr5 : (dats m 0 c).arrAt 5 cfg0.N = fun j => (A m c).dh (j 0) (j 1) := by
  refine (dats m 0 c).arrAt_eq_of_covers 5 _ (by decide +kernel) fun t hf y => ?_
  blk_simp
  rw [after0_5, out5]
  refine Eq.trans (congrArg _ (eq_ix2 y)) ((W5_apply (isBlk m c t) (y 0) (y 1)).trans ?_)
  have i5 := (idx t).2.2.2.2.2.1
  congr 1
  · apply Fin.ext
    blk_simp [i5]
    simp [In.tok, Nat.mul_comm]
  · apply Fin.ext
    blk_simp [i5]

theorem arr6 : (dats m 0 c).arrAt 6 cfg0.N = fun j => (A m c).dw (j 0) (j 1) := by
  obtain ⟨t, ht⟩ : ∃ t : Fin cfg0.N, t.val = 31 := ⟨⟨31, by decide⟩, rfl⟩
  refine (dats m 0 c).arrAt_eq_of_after_last 6 t (by rw [show t = (⟨31, by decide⟩ : Fin cfg0.N) from Fin.ext ht]; decide +kernel) _ fun j => ?_
  blk_simp
  rw [after0_6]
  exact Eq.trans (congrArg _ (eq_ix2 j)) (last6 m c t ht (j 0) (j 1))

theorem arr7 : (dats m 0 c).arrAt 7 cfg0.N = fun j => (A m c).dg (j 0) (j 1) := by
  obtain ⟨t, ht⟩ : ∃ t : Fin cfg0.N, t.val = 31 := ⟨⟨31, by decide⟩, rfl⟩
  refine (dats m 0 c).arrAt_eq_of_after_last 7 t (by rw [show t = (⟨31, by decide⟩ : Fin cfg0.N) from Fin.ext ht]; decide +kernel) _ fun j => ?_
  blk_simp
  rw [after0_7]
  exact Eq.trans (congrArg _ (eq_ix2 j)) (last7 m c t ht (j 0) (j 1))

end Cert.Proof.In4
-- ==== Proof.In4Ref.lean ====
/-
  What the reference of the first pooling block's projection computes, element by element, in the terms of `InSpec`.
-/
module

public import proofs.«01_k».proof.Proof.InSpec
public import proofs.«01_k».proof.Proof.Gen.Reference4Ideal.Read

@[expose] public section

set_option maxRecDepth 16384

noncomputable section

open Idealize.ShloMosaic Idealize.ShloMosaic.TcCoe Idealize.SL.Sem Cert.Reference4Ideal Cert.Reference4Ideal.Gen Cert.Reference4Ideal.Read

namespace Cert.Proof.In4.Ref

variable (a0 : Vec Ideal S16384x2048 .f32) (a1 a2 : Vec Ideal S16384x1024 .f32) (a3 : Vec Ideal S4x1024 .f32) (a4 : Vec Ideal S1024x2048 .f32)

/-- The arrays of the backward pass, from the reference's arguments. -/
def A : In.Inp 2048 where
  P t j := a0 (ix2 t j)
  X t k := a1 (ix2 t k)
  D t k := a2 (ix2 t k)
  g k := a3 (ix2 1 k)
  W k j := a4 (ix2 k j)

theorem ms (t : Fin 16384) : val_main_v8 (F := Ideal) a1 (ix2 t (0 : Fin 1)) = (A a0 a1 a2 a3 a4).ms t := by
  unfold val_main_v8 val_main_v7 val_main_cst_1 val_main_v6 val_main_v5 val_main_cst_0 val_main_v4 val_main_v3 val_main_cst val_main_v2 In.Inp.ms In.width In.eps
  pointwise
  rfl
theorem r (t : Fin 16384) : val_main_v9 (F := Ideal) a1 (ix2 t (0 : Fin 1)) = (A a0 a1 a2 a3 a4).r t := by
  unfold In.Inp.r
  rw [← ms]
  unfold val_main_v9
  generalize val_main_v8 (F := Ideal) a1 = u
  pointwise
theorem nrm (t : Fin 16384) (k : Fin 1024) : val_main_v14 (F := Ideal) a1 (ix2 t k) = (A a0 a1 a2 a3 a4).nrm t k := by
  unfold In.Inp.nrm
  rw [← r]
  unfold val_main_v14 val_main_v13
  generalize val_main_v9 (F := Ideal) a1 = u
  pointwise
  rfl
theorem g (k : Fin 1024) : val_main_v15 (F := Ideal) a3 (ix2 (0 : Fin 1) k) = (A a0 a1 a2 a3 a4).g k := by
  unfold val_main_v15 val_main_v1 val_main_v0
  pointwise
  rfl
theorem dhn (t : Fin 16384) (k : Fin 1024) : val_main_v21 (F := Ideal) a0 a4 (ix2 t k) = (A a0 a1 a2 a3 a4).dhn t k := by
  unfold val_main_v21 In.Inp.dhn
  pointwise
  rfl
theorem dq (t : Fin 16384) (k : Fin 1024) : val_main_v26 (F := Ideal) a0 a3 a4 (ix2 t k) = (A a0 a1 a2 a3 a4).dq t k := by
  unfold In.Inp.dq
  rw [← dhn, ← g a0 a1 a2 a3 a4]
  unfold val_main_v26 val_main_v25
  generalize val_main_v21 (F := Ideal) a0 a4 = u
  generalize val_main_v15 (F := Ideal) a3 = w
  pointwise

/-- The row's coefficient behind the root. -/
theorem ct (t : Fin 16384) (k : Fin 1024) : val_main_v38 (F := Ideal) a0 a1 a3 a4 (ix2 t k)
    = Ideal.div ((∑ k', (A a0 a1 a2 a3 a4).X t k' * (A a0 a1 a2 a3 a4).dq t k')
        * (In.mhalf * Ideal.div ((A a0 a1 a2 a3 a4).r t) ((A a0 a1 a2 a3 a4).ms t))) In.width := by
  simp only [← dq, ← r, ← ms]
  unfold In.mhalf In.width
  unfold val_main_v38 val_main_v37 val_main_cst_7 val_main_v36 val_main_v35 val_main_cst_6 val_main_v34 val_main_v30 val_main_v29 val_main_cst_5 val_main_v28 val_main_v12 val_main_v11 val_main_cst_2 val_main_v10
  generalize val_main_v26 (F := Ideal) a0 a3 a4 = u
  generalize val_main_v9 (F := Ideal) a1 = w
  generalize val_main_v8 (F := Ideal) a1 = x
  pointwise
  exact (Fin.sum_univ_one _).trans rfl

theorem dh (t : Fin 16384) (k : Fin 1024) : val_main_v42 (F := Ideal) a0 a1 a2 a3 a4 (ix2 t k) = (A a0 a1 a2 a3 a4).dh t k := by
  rw [← In.dh_eq, ← ct, ← dq, ← r]
  unfold val_main_v42 val_main_v41 val_main_v40 val_main_v39 val_main_v33 val_main_v32 val_main_v31
  generalize val_main_v26 (F := Ideal) a0 a3 a4 = u
  generalize val_main_v9 (F := Ideal) a1 = w
  generalize val_main_v38 (F := Ideal) a0 a1 a3 a4 = x
  pointwise
  rfl

theorem dw (k : Fin 1024) (j : Fin 2048) : val_main_v43 (F := Ideal) a0 a1 a3 (ix2 k j) = (A a0 a1 a2 a3 a4).dw k j := by
  unfold In.Inp.dw
  simp only [← nrm, ← g a0 a1 a2 a3 a4]
  unfold val_main_v43 val_main_v20 val_main_v19 val_main_v17 val_main_v16
  generalize val_main_v14 (F := Ideal) a1 = u
  generalize val_main_v15 (F := Ideal) a3 = w
  pointwise
  exact Finset.sum_congr rfl fun t _ => mul_comm _ _

theorem dgs (k : Fin 1024) : val_main_v27 (F := Ideal) a0 a1 a4 (ix1 k) = ∑ t, (A a0 a1 a2 a3 a4).dhn t k * (A a0 a1 a2 a3 a4).nrm t k := by
  simp only [← nrm, ← dhn]
  unfold val_main_v27 val_main_cst_4 val_main_v24 val_main_v23 val_main_cst_3 val_main_v22
  generalize val_main_v14 (F := Ideal) a1 = u
  generalize val_main_v21 (F := Ideal) a0 a4 = w
  pointwise
  refine (Fin.sum_univ_one _).trans ?_
  exact Finset.sum_congr rfl fun t _ => mul_comm _ _

theorem dg (q : Fin 8) (k : Fin 1024) : val_main_v46 (F := Ideal) a0 a1 a4 (ix2 q k) = (A a0 a1 a2 a3 a4).dg q k := by
  unfold In.Inp.dg
  rw [← dgs]
  unfold val_main_v46 val_main_v45 val_main_cst_8 val_main_v44
  generalize val_main_v27 (F := Ideal) a0 a1 a4 = u
  pointwise
  by_cases hq : q.val = 0
  · rw [if_pos hq, dif_pos (by omega)]
  · rw [if_neg hq, dif_neg (by omega)]

end Cert.Proof.In4.Ref
-- ==== Proof.In4Join.lean ====
/-
  The kernel's results are the reference's, and what each program ends with: program 4.
-/
module

public import proofs.«01_k».proof.Defs
public import proofs.«01_k».proof.Proof.In4Arr
public import proofs.«01_k».proof.Proof.In4Ref
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.In4

theorem quiescent_ref : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The reference's results are the kernel's arrays, over equal arguments. -/
theorem results (a0 b0 : Vec Ideal Cert.Reference4Ideal.S16384x2048 .f32) (a1 b1 a2 b2 : Vec Ideal Cert.Reference4Ideal.S16384x1024 .f32)
    (a3 b3 : Vec Ideal Cert.Reference4Ideal.S4x1024 .f32) (a4 b4 : Vec Ideal Cert.Reference4Ideal.S1024x2048 .f32)
    (h : b0 = a0 ∧ b1 = a1 ∧ b2 = a2 ∧ b3 = a3 ∧ b4 = a4) :
    (Cert.Reference4Ideal.Read.val_main_v42 (F := Ideal) b0 b1 b2 b3 b4 = fun j => (inp a0 a1 a2 a3 a4).dh (j 0) (j 1))
    ∧ (Cert.Reference4Ideal.Read.val_main_v43 (F := Ideal) b0 b1 b3 = fun j => (inp a0 a1 a2 a3 a4).dw (j 0) (j 1))
    ∧ (Cert.Reference4Ideal.Read.val_main_v46 (F := Ideal) b0 b1 b4 = fun j => (inp a0 a1 a2 a3 a4).dg (j 0) (j 1)) := by
  obtain ⟨rfl, rfl, rfl, rfl, rfl⟩ := h
  refine ⟨funext fun j => ?_, funext fun j => ?_, funext fun j => ?_⟩
  · exact (congrArg _ (eq_ix2 j)).trans (Ref.dh b0 b1 b2 b3 b4 (j 0) (j 1))
  · exact (congrArg _ (eq_ix2 j)).trans (Ref.dw b0 b1 b2 b3 b4 (j 0) (j 1))
  · exact (congrArg _ (eq_ix2 j)).trans (Ref.dg b0 b1 b2 b3 b4 (j 0) (j 1))

theorem algebraic : Cert.algebraic_Kernel4Ideal_Reference4Ideal := fun m g m' g' _ ha => by
  refine ⟨fun c => fun j => (A m c).dh (j 0) (j 1), fun c => fun j => (A m c).dw (j 0) (j 1), fun c => fun j => (A m c).dg (j 0) (j 1), ?_, ?_⟩
  · refine (θ_run Cert.Kernel4Ideal.defs _ _).mono (fun r h c => ?_) (Cert.Kernel4Ideal.Value.run_blocks (F := Ideal) m g)
    obtain ⟨e0, e1, e2, k⟩ := h c
    exact ⟨e0.trans (arr5 m c), e1.trans (arr6 m c), e2.trans (arr7 m c), k⟩
  · refine (θ_run Cert.Reference4Ideal.defs _ _).mono (fun r h c => ?_) (Cert.Reference4Ideal.Value.run (F := Ideal) m' g')
    obtain ⟨e0, e1, e2, k⟩ := h c
    obtain ⟨r0, r1, r2⟩ := results _ _ _ _ _ _ _ _ _ _ (ha c)
    exact ⟨e0.trans ((Cert.Reference4Ideal.Read.val_main_v42_eq _ _).trans r0), e1.trans ((Cert.Reference4Ideal.Read.val_main_v43_eq _ _ _).trans r1), e2.trans ((Cert.Reference4Ideal.Read.val_main_v46_eq _ _ _).trans r2), k⟩

end Cert.Proof.In4

end
-- ==== Proof.In5.lean ====
/-
  The forward call of the convolution block's projection, `rmsnorm(h) · w`: what the kernel's result array holds, what the
  reference computes, and that the two are equal.
-/
module

public import proofs.«01_k».proof.Defs
public import proofs.«01_k».proof.Proof.InSpec
public import proofs.«01_k».proof.Proof.Gen.Kernel5Ideal.Value
public import proofs.«01_k».proof.Proof.Gen.Reference5Ideal.Read
public import Idealize.ShloMosaic.Lib.StableHlo.ReadAt
public import Idealize.ShloMosaic.Lib.Claim
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem

namespace Cert.Proof.In5

/-- The projection of the normalised and scaled rows. -/
def fwd (X : Fin 16384 → Fin 1024 → EReal) (g : Fin 1024 → EReal) (W : Fin 1024 → Fin 3072 → EReal) (t : Fin 16384) (j : Fin 3072) : EReal :=
  ∑ k, X t k * Ideal.rsqrt (Ideal.div (∑ k', X t k' * X t k') In.width + In.eps) * g k * W k j

section Kernel

open Cert.Kernel5Ideal Cert.Kernel5Ideal.Gen

theorem z2 : (![0, 0] : Fin 2 → ℕ) = fun _ => 0 := by funext a; fin_cases a <;> rfl
theorem z3 : (![0, 0, 0] : Fin 3 → ℕ) = fun _ => 0 := by funext a; fin_cases a <;> rfl

/-- One point's block is one payload over its input blocks. -/
theorem out (x0 : Vec Ideal S512x1024 .f32) (x1 : Vec Ideal S1x1x1024 .f32) (x2 : Vec Ideal S1024x3072 .bf16) : out0_3 x0 x1 x2 = k0_pay1 x0 x1 x2 := by
  unfold out0_3
  refine (View.canon_cons_unit_zero z2 _ _ _).trans ?_
  rw [show View.ld x0 r0_0 = x0 from View.ld_unit_zero z2 _ x0, show View.ld x1 r0_1 = x1 from View.ld_unit_zero z3 _ x1,
    show View.ld x2 r0_2 = x2 from View.ld_unit_zero z2 _ x2]

theorem pay (x0 : Vec Ideal S512x1024 .f32) (x1 : Vec Ideal S1x1x1024 .f32) (x2 : Vec Ideal S1024x3072 .bf16) (r : Fin 512) (j : Fin 3072) :
    k0_pay1 x0 x1 x2 (ix2 r j) = ∑ k, x0 (ix2 r k) * Ideal.rsqrt (Ideal.div (∑ k', x0 (ix2 r k') * x0 (ix2 r k')) In.width + In.eps)
      * x1 (ix3 0 0 k) * x2 (ix2 k j) := by
  unfold In.width In.eps
  unfold_payloads
  pointwise

section Host

variable {F : FTy → Type} [FloatOps F] (m : (ℓ : Loc nD τ sig) → Buf (Elt F) ℓ) (c : Dev nD)

theorem V_v0 : V m c main_v0 = broadcastInDim S4x1x1024 ![0, 2] bcast_S4x1024_S4x1x1024_0_2 (m ((c : Thread nD τ).loc main_arg1)) := by
  unfold V
  after_reads_simp
theorem V_v1 : V m c main_v1 = truncf (F := F) (s := S1024x3072) (φ := .f32) .bf16 (m ((c : Thread nD τ).loc main_arg2)) bitsLt_bf16_f32 := by
  unfold V
  after_reads_simp

end Host

variable (m : (ℓ : Loc nD τ sig) → Buf (Elt Ideal) ℓ) (c : Dev nD)

theorem idx (t : Fin grid0.N) :
    win0_0.index t = ![t.val, 0] ∧ win0_1.index t = ![2, 0, 0] ∧ win0_2.index t = ![0, 0] ∧ win0_3.index t = ![t.val, 0] :=
  (by decide +kernel : ∀ t : Fin grid0.N, win0_0.index t = ![t.val, 0] ∧ win0_1.index t = ![2, 0, 0] ∧ win0_2.index t = ![0, 0] ∧ win0_3.index t = ![t.val, 0]) t

theorem b0 (t : Fin cfg0.N) (r : Fin 512) (k : Fin 1024) : (iblk m c 0 t : Vec Ideal S512x1024 .f32) (ix2 r k)
    = (m ((c : Thread nD τ).loc main_arg0) : Vec Ideal S16384x1024 .f32) (ix2 (In.tok t r) k) := by
  unfold In.tok
  blk_ext [iblk, V_main_arg0, idx t]
theorem b1 (t : Fin cfg0.N) (k : Fin 1024) : (iblk m c 1 t : Vec Ideal S1x1x1024 .f32) (ix3 0 0 k)
    = (m ((c : Thread nD τ).loc main_arg1) : Vec Ideal S4x1024 .f32) (ix2 2 k) := by
  have e : (iblk m c 1 t : Vec Ideal S1x1x1024 .f32) (ix3 0 0 k) = (V m c main_v0 : Vec Ideal S4x1x1024 .f32) (ix3 2 0 k) := by
    blk_ext [iblk, idx t]
  rw [e, V_v0]
  pointwise
theorem b2 (t : Fin cfg0.N) (k : Fin 1024) (j : Fin 3072) : (iblk m c 2 t : Vec Ideal S1024x3072 .bf16) (ix2 k j)
    = (m ((c : Thread nD τ).loc main_arg2) : Vec Ideal S1024x3072 .f32) (ix2 k j) := by
  have e : (iblk m c 2 t : Vec Ideal S1024x3072 .bf16) (ix2 k j) = (V m c main_v1 : Vec Ideal S1024x3072 .bf16) (ix2 k j) := by
    blk_ext [iblk, idx t]
  rw [e, V_v1]
  rfl

/-- The result, from the programs' arguments. -/
def val (a0 : Vec Ideal S16384x1024 .f32) (a1 : Vec Ideal S4x1024 .f32) (a2 : Vec Ideal S1024x3072 .f32) : Fin 16384 → Fin 3072 → EReal :=
  fwd (fun t k => a0 (ix2 t k)) (fun k => a1 (ix2 2 k)) (fun k j => a2 (ix2 k j))
def A : Fin 16384 → Fin 3072 → EReal :=
  val (m ((c : Thread nD τ).loc main_arg0)) (m ((c : Thread nD τ).loc main_arg1)) (m ((c : Thread nD τ).loc main_arg2))

theorem row (t : Fin cfg0.N) (r : Fin 512) (j : Fin 3072) :
    out0_3 (iblk m c 0 t) (iblk m c 1 t) (iblk m c 2 t) (ix2 r j) = A m c (In.tok t r) j := by
  rw [out, pay]
  unfold A val fwd
  simp only [b0, b1, b2]

theorem arr3 : (dats m 0 c).arrAt 3 cfg0.N = fun j => A m c (j 0) (j 1) := by
  refine (dats m 0 c).arrAt_eq_of_covers 3 _ (by decide +kernel) fun t hf y => ?_
  blk_simp
  rw [after0_3]
  refine Eq.trans (congrArg _ (eq_ix2 y)) ((row m c t (y 0) (y 1)).trans ?_)
  have i3 := (idx t).2.2.2
  congr 1
  · apply Fin.ext
    blk_simp [i3]
    simp [In.tok, Nat.mul_comm]
  · apply Fin.ext
    blk_simp [i3]

end Kernel

section Reference

open Cert.Reference5Ideal Cert.Reference5Ideal.Gen Cert.Reference5Ideal.Read

theorem ref (a0 : Vec Ideal S16384x1024 .f32) (a1 : Vec Ideal S4x1024 .f32) (a2 : Vec Ideal S1024x3072 .f32) (t : Fin 16384) (j : Fin 3072) :
    val_main_v15 (F := Ideal) a0 a1 a2 (ix2 t j) = val a0 a1 a2 t j := by
  unfold val fwd In.width In.eps
  unfold val_main_v15 val_main_v14 val_main_v13 val_main_v12 val_main_v11 val_main_v10 val_main_v9 val_main_v8 val_main_v7 val_main_cst_1 val_main_v6
    val_main_v5 val_main_cst_0 val_main_v4 val_main_v3 val_main_cst val_main_v2 val_main_v1 val_main_v0
  pointwise

theorem results (a0 b0 : Vec Ideal S16384x1024 .f32) (a1 b1 : Vec Ideal S4x1024 .f32) (a2 b2 : Vec Ideal S1024x3072 .f32)
    (h : b0 = a0 ∧ b1 = a1 ∧ b2 = a2) : val_main_v15 (F := Ideal) b0 b1 b2 = fun j => val a0 a1 a2 (j 0) (j 1) := by
  obtain ⟨rfl, rfl, rfl⟩ := h
  exact funext fun j => (congrArg _ (eq_ix2 j)).trans (ref b0 b1 b2 (j 0) (j 1))

end Reference

theorem quiescent_ref : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem algebraic : Cert.algebraic_Kernel5Ideal_Reference5Ideal := fun m g m' g' _ ha => by
  refine ⟨fun c => fun j => A m c (j 0) (j 1), ?_, ?_⟩
  · refine (θ_run Cert.Kernel5Ideal.defs _ _).mono (fun r h c => ?_) (Cert.Kernel5Ideal.Value.run_blocks (F := Ideal) m g)
    obtain ⟨e0, k⟩ := h c
    exact ⟨e0.trans (arr3 m c), k⟩
  · refine (θ_run Cert.Reference5Ideal.defs _ _).mono (fun r h c => ?_) (Cert.Reference5Ideal.Value.run (F := Ideal) m' g')
    obtain ⟨e0, k⟩ := h c
    exact ⟨e0.trans ((Cert.Reference5Ideal.Read.val_main_v15_eq _ _ _).trans (results _ _ _ _ _ _ (ha c))), k⟩

end Cert.Proof.In5

end
-- ==== Proof.Fw6Blk.lean ====
/-
  What one grid point of the forward call leaves in its buffers, written as closed terms over the point's input
  blocks, over the halo rows and over the projection the point before left.
-/
module

public import proofs.«01_k».proof.Proof.Gen.Kernel6Ideal.Value

@[expose] public section

set_option maxRecDepth 16384

noncomputable section

open Idealize.ShloMosaic Idealize.ShloMosaic.TcCoe Idealize.SL.Sem Cert.Kernel6Ideal Cert.Kernel6Ideal.Gen

namespace Cert.Proof.Fw6Blk

variable {F : FTy → Type} [FloatOps F]

/-- A load through a rectangle of what a list of stores left reads the list's contents there. -/
theorem readCov_ld {Val : EltTy → Type} [∀ e, Nonempty (Val e)] {sg : RefSig} {κ : Kind} {sp : Space} {s : Shape} {e : EltTy}
    (v : View sg κ sp s e) (L : List (View.Piece Val s e)) (r : Rect s) :
    v.readCov L r.toLoadRect = View.ld (View.canon L) r := View.readCov_eq_canon' v L _

theorem z2 : (![0, 0] : Fin 2 → ℕ) = fun _ => 0 := by funext a; fin_cases a <;> rfl
theorem z3 : (![0, 0, 0] : Fin 3 → ℕ) = fun _ => 0 := by funext a; fin_cases a <;> rfl

/-- Loads and stores of whole buffers. -/
theorem ldB {e : EltTy} (X : Vec F S512x1024 e) :
    View.ld X (Rect.unit ![0, 0] ![512, 1024] inb_S512x1024_S512x1024_0_0) = X := View.ld_unit_zero z2 _ X
theorem ldV {e : EltTy} (X : Vec F S1x1x1024 e) :
    View.ld X (Rect.unit ![0, 0, 0] ![1, 1, 1024] inb_S1x1x1024_S1x1x1024_0_0_0) = X := View.ld_unit_zero z3 _ X
theorem ldW {e : EltTy} (X : Vec F S1024x1024 e) :
    View.ld X (Rect.unit ![0, 0] ![1024, 1024] inb_S1024x1024_S1024x1024_0_0) = X := View.ld_unit_zero z2 _ X
theorem cB {e : EltTy} (w : Vec F S512x1024 e) (L : List (View.Piece (Elt F) S512x1024 e)) :
    View.canon (⟨Rect.unit ![0, 0] ![512, 1024] inb_S512x1024_S512x1024_0_0, w⟩ :: L) = w := View.canon_cons_unit_zero z2 _ w L
theorem cP {e : EltTy} (w : Vec F S512x2048 e) (L : List (View.Piece (Elt F) S512x2048 e)) :
    View.canon (⟨Rect.unit ![0, 0] ![512, 2048] inb_S512x2048_S512x2048_0_0, w⟩ :: L) = w := View.canon_cons_unit_zero z2 _ w L

/-- Stores that cover an element hide the stores made before them. -/
theorem canon_append {Val : EltTy → Type} [∀ e, Nonempty (Val e)] {s : Shape} {e : EltTy} (M : List (View.Piece Val s e)) :
    ∀ (L : List (View.Piece Val s e)) (y : s.Idx), (∃ p ∈ L, y ∈ p.1.set) → View.canon (L ++ M) y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq'
      · exact absurd hyq hm
      · exact canon_append M L y ⟨q, hq', hyq⟩

section Terms

variable (i : grid0.Coords) (x0 : Vec F S512x1024 .f32) (x1 : Vec F S512x1024 .f32) (x2 : Vec F S1x1x1024 .f32) (x3 : Vec F S1024x2048 .bf16) (x4 : Vec F S4x256x256 .bf16) (x5 : Vec F S1x1x1024 .f32) (x6 : Vec F S1x1x1024 .f32) (x7 : Vec F S1024x1024 .bf16)
  (h : Vec F S16x1024 .f32) (P : Vec F S512x2048 .f32)

/-- The tile's number, as the body computes it. -/
def v1 : BitVec 32 := Scalar.maxsi (Scalar.subi (BitVec.ofNat 32 ↑(i 0)) 1#32) 0#32

/-- The rows the window sums read: the halo and the tile's rows. -/
def U : Vec F S528x1024 .f32 := View.canon
  [⟨Rect.unit ![16, 0] ![512, 1024] inb_S528x1024_S512x1024_16_0, k0_pay8 (View.ld P (Rect.unit ![0, 0] ![512, 1024] inb_S512x2048_S512x1024_0_0))⟩,
   ⟨Rect.unit ![0, 0] ![16, 1024] inb_S528x1024_S16x1024_0_0, h⟩]

/-- The gate's rows. -/
def Z : Vec F S512x1024 .f32 := View.canon
  [⟨Rect.unit ![0, 0] ![512, 1024] inb_S512x1024_S512x1024_0_0, k0_pay9 (View.ld P (Rect.unit ![0, 1024] ![512, 1024] inb_S512x2048_S512x1024_0_1024))⟩]

/-- The normalised rows. -/
def HN : Vec F S512x1024 .bf16 := View.canon
  [⟨Rect.unit ![0, 0] ![512, 1024] inb_S512x1024_S512x1024_0_0, k0_pay11 (k0_pay10 (View.ld x0 (Rect.unit ![0, 0] ![512, 1024] inb_S512x1024_S512x1024_0_0))) (View.ld x2 (Rect.unit ![0, 0, 0] ![1, 1, 1024] inb_S1x1x1024_S1x1x1024_0_0_0))⟩]

/-- The normalised rows as they are loaded. -/
def hn : Vec F S512x1024 .bf16 := View.ld (HN x0 x2) (Rect.unit ![0, 0] ![512, 1024] inb_S512x1024_S512x1024_0_0)

/-- The projection, as it is written out and as it is kept for the next point. -/
def P9 : Vec F S512x2048 .f32 := View.canon
  [⟨Rect.unit ![0, 1792] ![512, 256] inb_S512x2048_S512x256_0_1792, k0_pay2 (hn x0 x2) (View.ld x3 (Rect.unit ![0, 1792] ![1024, 256] inb_S1024x2048_S1024x256_0_1792))⟩,
   ⟨Rect.unit ![0, 1536] ![512, 256] inb_S512x2048_S512x256_0_1536, k0_pay32 (hn x0 x2) (View.ld x3 (Rect.unit ![0, 1536] ![1024, 256] inb_S1024x2048_S1024x256_0_1536))⟩,
   ⟨Rect.unit ![0, 1280] ![512, 256] inb_S512x2048_S512x256_0_1280, k0_pay30 (hn x0 x2) (View.ld x3 (Rect.unit ![0, 1280] ![1024, 256] inb_S1024x2048_S1024x256_0_1280))⟩,
   ⟨Rect.unit ![0, 1024] ![512, 256] inb_S512x2048_S512x256_0_1024, k0_pay25 (hn x0 x2) (View.ld x3 (Rect.unit ![0, 1024] ![1024, 256] inb_S1024x2048_S1024x256_0_1024))⟩,
   ⟨Rect.unit ![0, 768] ![512, 256] inb_S512x2048_S512x256_0_768, k0_pay23 (hn x0 x2) (View.ld x3 (Rect.unit ![0, 768] ![1024, 256] inb_S1024x2048_S1024x256_0_768))⟩,
   ⟨Rect.unit ![0, 512] ![512, 256] inb_S512x2048_S512x256_0_512, k0_pay18 (hn x0 x2) (View.ld x3 (Rect.unit ![0, 512] ![1024, 256] inb_S1024x2048_S1024x256_0_512))⟩,
   ⟨Rect.unit ![0, 256] ![512, 256] inb_S512x2048_S512x256_0_256, k0_pay16 (hn x0 x2) (View.ld x3 (Rect.unit ![0, 256] ![1024, 256] inb_S1024x2048_S1024x256_0_256))⟩,
   ⟨Rect.unit ![0, 0] ![512, 256] inb_S512x2048_S512x256_0_0, k0_pay12 (hn x0 x2) (View.ld x3 (Rect.unit ![0, 0] ![1024, 256] inb_S1024x2048_S1024x256_0_0))⟩]

def P2 : Vec F S512x2048 .f32 := View.canon
  [⟨Rect.unit ![0, 1792] ![512, 256] inb_S512x2048_S512x256_0_1792, k0_pay3 (hn x0 x2) (View.ld x3 (Rect.unit ![0, 1792] ![1024, 256] inb_S1024x2048_S1024x256_0_1792))⟩,
   ⟨Rect.unit ![0, 1536] ![512, 256] inb_S512x2048_S512x256_0_1536, k0_pay33 (hn x0 x2) (View.ld x3 (Rect.unit ![0, 1536] ![1024, 256] inb_S1024x2048_S1024x256_0_1536))⟩,
   ⟨Rect.unit ![0, 1280] ![512, 256] inb_S512x2048_S512x256_0_1280, k0_pay31 (hn x0 x2) (View.ld x3 (Rect.unit ![0, 1280] ![1024, 256] inb_S1024x2048_S1024x256_0_1280))⟩,
   ⟨Rect.unit ![0, 1024] ![512, 256] inb_S512x2048_S512x256_0_1024, k0_pay26 (hn x0 x2) (View.ld x3 (Rect.unit ![0, 1024] ![1024, 256] inb_S1024x2048_S1024x256_0_1024))⟩,
   ⟨Rect.unit ![0, 768] ![512, 256] inb_S512x2048_S512x256_0_768, k0_pay24 (hn x0 x2) (View.ld x3 (Rect.unit ![0, 768] ![1024, 256] inb_S1024x2048_S1024x256_0_768))⟩,
   ⟨Rect.unit ![0, 512] ![512, 256] inb_S512x2048_S512x256_0_512, k0_pay19 (hn x0 x2) (View.ld x3 (Rect.unit ![0, 512] ![1024, 256] inb_S1024x2048_S1024x256_0_512))⟩,
   ⟨Rect.unit ![0, 256] ![512, 256] inb_S512x2048_S512x256_0_256, k0_pay17 (hn x0 x2) (View.ld x3 (Rect.unit ![0, 256] ![1024, 256] inb_S1024x2048_S1024x256_0_256))⟩,
   ⟨Rect.unit ![0, 0] ![512, 256] inb_S512x2048_S512x256_0_0, k0_pay13 (hn x0 x2) (View.ld x3 (Rect.unit ![0, 0] ![1024, 256] inb_S1024x2048_S1024x256_0_0))⟩]

/-- Column group 0 of the window means. -/
def d0 : FVec F S512x256 .bf16 := k0_pay14 (v1 i) (View.ld (U h P) (Rect.unit ![0, 0] ![528, 256] inb_S528x1024_S528x256_0_0))

/-- Column group 1 of the window means. -/
def d1 : FVec F S512x256 .bf16 := k0_pay20 (v1 i) (View.ld (U h P) (Rect.unit ![0, 256] ![528, 256] inb_S528x1024_S528x256_0_256))

/-- Column group 2 of the window means. -/
def d2 : FVec F S512x256 .bf16 := k0_pay27 (v1 i) (View.ld (U h P) (Rect.unit ![0, 512] ![528, 256] inb_S528x1024_S528x256_0_512))

/-- Column group 3 of the window means. -/
def d3 : FVec F S512x256 .bf16 := k0_pay35 (v1 i) (View.ld (U h P) (Rect.unit ![0, 768] ![528, 256] inb_S528x1024_S528x256_0_768)) (k0_pay34 (View.ld (U h P) (Rect.unit ![0, 768] ![528, 256] inb_S528x1024_S528x256_0_768)))

/-- Column group 0 of the mixer's output. -/
def y0 : FVec F S512x256 .bf16 := k0_pay15 (d0 i h P) (View.ld (Z P) (Rect.unit ![0, 0] ![512, 256] inb_S512x1024_S512x256_0_0)) (View.ld x4 (Rect.unit ![0, 0, 0] ![1, 256, 256] inb_S4x256x256_S1x256x256_0_0_0)) (View.ld x5 (Rect.unit ![0, 0, 0] ![1, 1, 256] inb_S1x1x1024_S1x1x256_0_0_0)) (View.ld x6 (Rect.unit ![0, 0, 0] ![1, 1, 256] inb_S1x1x1024_S1x1x256_0_0_0))

/-- Column group 1 of the mixer's output. -/
def y1 : FVec F S512x256 .bf16 := k0_pay22 (View.ld (Z P) (Rect.unit ![0, 256] ![512, 256] inb_S512x1024_S512x256_0_256)) (k0_pay21 (v1 i) (View.ld (U h P) (Rect.unit ![0, 256] ![528, 256] inb_S528x1024_S528x256_0_256)) (View.ld x4 (Rect.unit ![1, 0, 0] ![1, 256, 256] inb_S4x256x256_S1x256x256_1_0_0))) (View.ld x5 (Rect.unit ![0, 0, 256] ![1, 1, 256] inb_S1x1x1024_S1x1x256_0_0_256)) (View.ld x6 (Rect.unit ![0, 0, 256] ![1, 1, 256] inb_S1x1x1024_S1x1x256_0_0_256))

/-- Column group 2 of the mixer's output. -/
def y2 : FVec F S512x256 .bf16 := k0_pay29 (View.ld (Z P) (Rect.unit ![0, 512] ![512, 256] inb_S512x1024_S512x256_0_512)) (k0_pay28 (v1 i) (View.ld (U h P) (Rect.unit ![0, 512] ![528, 256] inb_S528x1024_S528x256_0_512)) (View.ld x4 (Rect.unit ![2, 0, 0] ![1, 256, 256] inb_S4x256x256_S1x256x256_2_0_0)) (View.ld x5 (Rect.unit ![0, 0, 512] ![1, 1, 256] inb_S1x1x1024_S1x1x256_0_0_512)) (View.ld x6 (Rect.unit ![0, 0, 512] ![1, 1, 256] inb_S1x1x1024_S1x1x256_0_0_512)))

/-- Column group 3 of the mixer's output. -/
def y3 : FVec F S512x256 .bf16 := k0_pay1 (k0_pay36 (v1 i) (View.ld (U h P) (Rect.unit ![0, 768] ![528, 256] inb_S528x1024_S528x256_0_768)) (k0_pay34 (View.ld (U h P) (Rect.unit ![0, 768] ![528, 256] inb_S528x1024_S528x256_0_768))) (View.ld (Z P) (Rect.unit ![0, 768] ![512, 256] inb_S512x1024_S512x256_0_768)) (View.ld x4 (Rect.unit ![3, 0, 0] ![1, 256, 256] inb_S4x256x256_S1x256x256_3_0_0)) (View.ld x5 (Rect.unit ![0, 0, 768] ![1, 1, 256] inb_S1x1x1024_S1x1x256_0_0_768)) (View.ld x6 (Rect.unit ![0, 0, 768] ![1, 1, 256] inb_S1x1x1024_S1x1x256_0_0_768)))

/-- The window means. -/
def W10 : Vec F S512x1024 .bf16 := View.canon
  [⟨Rect.unit ![0, 768] ![512, 256] inb_S512x1024_S512x256_0_768, d3 i h P⟩,
   ⟨Rect.unit ![0, 512] ![512, 256] inb_S512x1024_S512x256_0_512, d2 i h P⟩,
   ⟨Rect.unit ![0, 256] ![512, 256] inb_S512x1024_S512x256_0_256, d1 i h P⟩,
   ⟨Rect.unit ![0, 0] ![512, 256] inb_S512x1024_S512x256_0_0, d0 i h P⟩]

/-- The mixer's output. -/
def Y : Vec F S512x1024 .bf16 := View.canon
  [⟨Rect.unit ![0, 768] ![512, 256] inb_S512x1024_S512x256_0_768, y3 i x4 x5 x6 h P⟩,
   ⟨Rect.unit ![0, 512] ![512, 256] inb_S512x1024_S512x256_0_512, y2 i x4 x5 x6 h P⟩,
   ⟨Rect.unit ![0, 256] ![512, 256] inb_S512x1024_S512x256_0_256, y1 i x4 x5 x6 h P⟩,
   ⟨Rect.unit ![0, 0] ![512, 256] inb_S512x1024_S512x256_0_0, y0 i x4 x5 x6 h P⟩]

/-- The output rows. -/
def W8 : Vec F S512x1024 .f32 := View.canon
  [⟨Rect.unit ![0, 0] ![512, 1024] inb_S512x1024_S512x1024_0_0, k0_pay4 (View.ld x1 (Rect.unit ![0, 0] ![512, 1024] inb_S512x1024_S512x1024_0_0)) (View.ld (Y i x4 x5 x6 h P) (Rect.unit ![0, 0] ![512, 1024] inb_S512x1024_S512x1024_0_0)) (View.ld x7 (Rect.unit ![0, 0] ![1024, 1024] inb_S1024x1024_S1024x1024_0_0))⟩]

end Terms

section Cases

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1024x2048 .bf16) (harg4 : arg4.IsWhole) (arg5 : Memref sig .tc .vmem S4x256x256 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x2048 .f32) (harg10 : arg10.IsWhole) (arg11 : Memref sig .tc .vmem S512x1024 .bf16) (harg11 : arg11.IsWhole) (arg12 : Memref sig .tc .vmem S528x1024 .f32) (harg12 : arg12.IsWhole) (arg13 : Memref sig .tc .vmem S512x1024 .bf16) (harg13 : arg13.IsWhole) (arg14 : Memref sig .tc .vmem S512x2048 .f32) (harg14 : arg14.IsWhole) (arg15 : Memref sig .tc .vmem S512x1024 .f32) (harg15 : arg15.IsWhole) (arg16 : Memref sig .tc .vmem S512x1024 .bf16) (harg16 : arg16.IsWhole)
  (x0 : Vec F S512x1024 .f32) (x1 : Vec F S512x1024 .f32) (x2 : Vec F S1x1x1024 .f32) (x3 : Vec F S1024x2048 .bf16) (x4 : Vec F S4x256x256 .bf16) (x5 : Vec F S1x1x1024 .f32) (x6 : Vec F S1x1x1024 .f32) (x7 : Vec F S1024x1024 .bf16)
  (xs0 : Vec F S528x1024 .f32) (xs2 : Vec F S512x2048 .f32)

theorem out_A_9 (hc0 : cond0_0 i) (hc1 : cond0_1 i) (hc2 : ¬cond0_2 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 = P9 x0 x2 x3 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem sout_A_2 (hc0 : cond0_0 i) (hc1 : cond0_1 i) (hc2 : ¬cond0_2 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 = P2 x0 x2 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  funext y
  exact canon_append [_] [_, _, _, _, _, _, _, _] y (View.cover_of_tiledL (s := S512x2048) _ ![512, 256] (by sl_kernel_rfl) y)

theorem out_B_8 (hc0 : ¬cond0_0 i) (hc1 : cond0_1 i) (hc2 : ¬cond0_2 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 = W8 i x1 x4 x5 x6 x7 k0_pay6 xs2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem out_B_9 (hc0 : ¬cond0_0 i) (hc1 : cond0_1 i) (hc2 : ¬cond0_2 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 = P9 x0 x2 x3 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem out_B_10 (hc0 : ¬cond0_0 i) (hc1 : cond0_1 i) (hc2 : ¬cond0_2 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 = W10 i k0_pay6 xs2 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem sout_B_0 (hc0 : ¬cond0_0 i) (hc1 : cond0_1 i) (hc2 : ¬cond0_2 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 = U k0_pay6 xs2 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem sout_B_2 (hc0 : ¬cond0_0 i) (hc1 : cond0_1 i) (hc2 : ¬cond0_2 i) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 = P2 x0 x2 x3 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem out_C_8 (hc0 : ¬cond0_0 i) (hc1 : ¬cond0_1 i) (hc2 : cond0_2 i) : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 = W8 i x1 x4 x5 x6 x7 (k0_pay7 (View.ld xs0 (Rect.unit ![512, 0] ![16, 1024] inb_S528x1024_S16x1024_512_0))) xs2 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem out_C_9 (hc0 : ¬cond0_0 i) (hc1 : ¬cond0_1 i) (hc2 : cond0_2 i) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 = P9 x0 x2 x3 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem out_C_10 (hc0 : ¬cond0_0 i) (hc1 : ¬cond0_1 i) (hc2 : cond0_2 i) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 = W10 i (k0_pay7 (View.ld xs0 (Rect.unit ![512, 0] ![16, 1024] inb_S528x1024_S16x1024_512_0))) xs2 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem sout_C_0 (hc0 : ¬cond0_0 i) (hc1 : ¬cond0_1 i) (hc2 : cond0_2 i) : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 = U (k0_pay7 (View.ld xs0 (Rect.unit ![512, 0] ![16, 1024] inb_S528x1024_S16x1024_512_0))) xs2 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

theorem sout_C_2 (hc0 : ¬cond0_0 i) (hc1 : ¬cond0_1 i) (hc2 : cond0_2 i) : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 = P2 x0 x2 x3 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, readCov_ld]
  rfl

end Cases

end Cert.Proof.Fw6Blk
-- ==== Proof.Fw6Spec.lean ====
/-
  The forward call of the pooled block, as mathematics over the extended reals: the projection of the normalised rows, the
  mean of each token's window less the token, and the residual sum. No program is mentioned here.
-/
module

public import proofs.«01_k».proof.Proof.Spec
public import proofs.«01_k».proof.Proof.InSpec

@[expose] public section

noncomputable section

open Idealize.ShloMosaic

namespace Cert.Proof.Fw6

/-- The projection of the normalised and scaled rows. -/
def proj (X : Fin 16384 → Fin 1024 → EReal) (g : Fin 1024 → EReal) (W : Fin 1024 → Fin 2048 → EReal) (t : Fin 16384) (j : Fin 2048) : EReal :=
  ∑ k, X t k * Ideal.rsqrt (Ideal.div (∑ k', X t k' * X t k') In.width + In.eps) * g k * W k j

/-- A channel's place in the pooled half of the projection, and in the gate's half. -/
def lo (c : Fin 1024) : Fin 2048 := ⟨c.val, by have := c.isLt; omega⟩
def hi (c : Fin 1024) : Fin 2048 := ⟨1024 + c.val, by have := c.isLt; omega⟩

/-- A channel of the pooled half, with sixteen empty rows before the first token. -/
def uu (P : Fin 16384 → Fin 2048 → EReal) (c : Fin 1024) (q : ℕ) : EReal :=
  if h : 16 ≤ q ∧ q - 16 < 16384 then P ⟨q - 16, h.2⟩ (lo c) else 0

/-- The sum over the window that ends at a token. -/
def win (P : Fin 16384 → Fin 2048 → EReal) (c : Fin 1024) (t : ℕ) : EReal :=
  ∑ j ∈ Finset.range (wid (gOf c)), uu P c (t + (16 - j))

/-- The window's mean less the token. -/
def mean (P : Fin 16384 → Fin 2048 → EReal) (t : Fin 16384) (c : Fin 1024) : EReal :=
  win P c t.val * Ideal.div 1 ((cnt (gOf c) t.val : ℝ) : EReal) - P t (lo c)

/-- The block's arrays: the residual rows in the place of the incoming gradient. -/
def inp (X : Fin 16384 → Fin 1024 → EReal) (P : Fin 16384 → Fin 2048 → EReal) (W : Fin 4 → Fin 256 → Fin 256 → EReal)
    (b s : Fin 1024 → EReal) (Wo : Fin 1024 → Fin 1024 → EReal) : Inp where
  D := X
  Z := fun t c => P t (hi c)
  d := mean P
  W := W
  b := b
  s := s
  Wo := Wo

/-- The projection and the block's arrays, from the programs' arguments. -/
def pj (a0 : Vec Ideal ⟨2, ![16384, 1024]⟩ .f32) (a1 : Vec Ideal ⟨2, ![4, 1024]⟩ .f32) (a2 : Vec Ideal ⟨2, ![1024, 2048]⟩ .f32) :
    Fin 16384 → Fin 2048 → EReal :=
  proj (fun t k => a0 (ix2 t k)) (fun k => a1 (ix2 1 k)) (fun k j => a2 (ix2 k j))
def inps (a0 : Vec Ideal ⟨2, ![16384, 1024]⟩ .f32) (a1 : Vec Ideal ⟨2, ![4, 1024]⟩ .f32) (a2 : Vec Ideal ⟨2, ![1024, 2048]⟩ .f32)
    (a3 : Vec Ideal ⟨3, ![4, 256, 256]⟩ .f32) (a4 a5 : Vec Ideal ⟨2, ![2, 1024]⟩ .f32) (a6 : Vec Ideal ⟨2, ![1024, 1024]⟩ .f32) : Inp :=
  inp (fun t k => a0 (ix2 t k)) (pj a0 a1 a2) (fun g k k' => a3 (ix3 g k k')) (fun c => a4 (ix2 0 c)) (fun c => a5 (ix2 0 c))
    (fun c k => a6 (ix2 c k))

/-- The residual sum. -/
def ho (A : Inp) (t : Fin 16384) (k : Fin 1024) : EReal := A.D t k + ∑ c, A.y2 t c * A.Wo c k

end Cert.Proof.Fw6

end
-- ==== Proof.Fw6Rows.lean ====
/-
  What one grid point of the forward call computes, read element by element: the point's terms over its blocks are the
  mathematics of `Fw6Spec` at the tile's tokens.
-/
module

public import proofs.«01_k».proof.Proof.Fw6Blk
public import proofs.«01_k».proof.Proof.Fw6Spec
public import proofs.«01_k».proof.Proof.Rows

@[expose] public section

set_option maxRecDepth 16384

noncomputable section

open Idealize.ShloMosaic Idealize.ShloMosaic.TcCoe Idealize.SL.Sem Cert.Kernel6Ideal Cert.Kernel6Ideal.Gen Cert.Proof.Fw6Blk

namespace Cert.Proof.Fw6Rows

open Rows (hit2 miss2 ld2 ld3 rollIx minw)
open Fw6 (lo hi uu)

theorem dp12 (v : Vec Ideal S512x1024 .bf16) (w : Vec Ideal S1024x256 .bf16) (r : Fin 512) (k : Fin 256) :
    k0_pay12 v w (ix2 r k) = ∑ k' : Fin 1024, v (ix2 r k') * w (ix2 k' k) := by
  unfold_payloads
  pointwise
theorem dp13 (v : Vec Ideal S512x1024 .bf16) (w : Vec Ideal S1024x256 .bf16) (r : Fin 512) (k : Fin 256) :
    k0_pay13 v w (ix2 r k) = ∑ k' : Fin 1024, v (ix2 r k') * w (ix2 k' k) := by
  unfold_payloads
  pointwise
theorem dp16 (v : Vec Ideal S512x1024 .bf16) (w : Vec Ideal S1024x256 .bf16) (r : Fin 512) (k : Fin 256) :
    k0_pay16 v w (ix2 r k) = ∑ k' : Fin 1024, v (ix2 r k') * w (ix2 k' k) := by
  unfold_payloads
  pointwise
theorem dp17 (v : Vec Ideal S512x1024 .bf16) (w : Vec Ideal S1024x256 .bf16) (r : Fin 512) (k : Fin 256) :
    k0_pay17 v w (ix2 r k) = ∑ k' : Fin 1024, v (ix2 r k') * w (ix2 k' k) := by
  unfold_payloads
  pointwise
theorem dp18 (v : Vec Ideal S512x1024 .bf16) (w : Vec Ideal S1024x256 .bf16) (r : Fin 512) (k : Fin 256) :
    k0_pay18 v w (ix2 r k) = ∑ k' : Fin 1024, v (ix2 r k') * w (ix2 k' k) := by
  unfold_payloads
  pointwise
theorem dp19 (v : Vec Ideal S512x1024 .bf16) (w : Vec Ideal S1024x256 .bf16) (r : Fin 512) (k : Fin 256) :
    k0_pay19 v w (ix2 r k) = ∑ k' : Fin 1024, v (ix2 r k') * w (ix2 k' k) := by
  unfold_payloads
  pointwise
theorem dp23 (v : Vec Ideal S512x1024 .bf16) (w : Vec Ideal S1024x256 .bf16) (r : Fin 512) (k : Fin 256) :
    k0_pay23 v w (ix2 r k) = ∑ k' : Fin 1024, v (ix2 r k') * w (ix2 k' k) := by
  unfold_payloads
  pointwise
theorem dp24 (v : Vec Ideal S512x1024 .bf16) (w : Vec Ideal S1024x256 .bf16) (r : Fin 512) (k : Fin 256) :
    k0_pay24 v w (ix2 r k) = ∑ k' : Fin 1024, v (ix2 r k') * w (ix2 k' k) := by
  unfold_payloads
  pointwise
theorem dp25 (v : Vec Ideal S512x1024 .bf16) (w : Vec Ideal S1024x256 .bf16) (r : Fin 512) (k : Fin 256) :
    k0_pay25 v w (ix2 r k) = ∑ k' : Fin 1024, v (ix2 r k') * w (ix2 k' k) := by
  unfold_payloads
  pointwise
theorem dp26 (v : Vec Ideal S512x1024 .bf16) (w : Vec Ideal S1024x256 .bf16) (r : Fin 512) (k : Fin 256) :
    k0_pay26 v w (ix2 r k) = ∑ k' : Fin 1024, v (ix2 r k') * w (ix2 k' k) := by
  unfold_payloads
  pointwise
theorem dp30 (v : Vec Ideal S512x1024 .bf16) (w : Vec Ideal S1024x256 .bf16) (r : Fin 512) (k : Fin 256) :
    k0_pay30 v w (ix2 r k) = ∑ k' : Fin 1024, v (ix2 r k') * w (ix2 k' k) := by
  unfold_payloads
  pointwise
theorem dp31 (v : Vec Ideal S512x1024 .bf16) (w : Vec Ideal S1024x256 .bf16) (r : Fin 512) (k : Fin 256) :
    k0_pay31 v w (ix2 r k) = ∑ k' : Fin 1024, v (ix2 r k') * w (ix2 k' k) := by
  unfold_payloads
  pointwise
theorem dp32 (v : Vec Ideal S512x1024 .bf16) (w : Vec Ideal S1024x256 .bf16) (r : Fin 512) (k : Fin 256) :
    k0_pay32 v w (ix2 r k) = ∑ k' : Fin 1024, v (ix2 r k') * w (ix2 k' k) := by
  unfold_payloads
  pointwise
theorem dp33 (v : Vec Ideal S512x1024 .bf16) (w : Vec Ideal S1024x256 .bf16) (r : Fin 512) (k : Fin 256) :
    k0_pay33 v w (ix2 r k) = ∑ k' : Fin 1024, v (ix2 r k') * w (ix2 k' k) := by
  unfold_payloads
  pointwise
theorem dp2 (v : Vec Ideal S512x1024 .bf16) (w : Vec Ideal S1024x256 .bf16) (r : Fin 512) (k : Fin 256) :
    k0_pay2 v w (ix2 r k) = ∑ k' : Fin 1024, v (ix2 r k') * w (ix2 k' k) := by
  unfold_payloads
  pointwise
theorem dp3 (v : Vec Ideal S512x1024 .bf16) (w : Vec Ideal S1024x256 .bf16) (r : Fin 512) (k : Fin 256) :
    k0_pay3 v w (ix2 r k) = ∑ k' : Fin 1024, v (ix2 r k') * w (ix2 k' k) := by
  unfold_payloads
  pointwise

section Proj

variable (x0 : Vec Ideal S512x1024 .f32) (x2 : Vec Ideal S1x1x1024 .f32) (x3 : Vec Ideal S1024x2048 .bf16)

theorem hn_apply (r : Fin 512) (k : Fin 1024) : hn x0 x2 (ix2 r k)
    = x0 (ix2 r k) * Ideal.rsqrt (Ideal.div (∑ k', x0 (ix2 r k') * x0 (ix2 r k')) In.width + In.eps) * x2 (ix3 0 0 k) := by
  unfold hn HN In.width In.eps
  rw [ldB]
  refine (hit2 _ _ _ r k r k (by simp) (by simp)).trans ?_
  rw [ldB, ldV]
  unfold_payloads
  pointwise

theorem P9_apply (r : Fin 512) (j : Fin 2048) : P9 x0 x2 x3 (ix2 r j) = ∑ k', hn x0 x2 (ix2 r k') * x3 (ix2 k' j) := by
  unfold P9
  have hj := j.isLt
  rcases (by omega : j.val / 256 = 0 ∨ j.val / 256 = 1 ∨ j.val / 256 = 2 ∨ j.val / 256 = 3 ∨ j.val / 256 = 4 ∨ j.val / 256 = 5 ∨ j.val / 256 = 6 ∨ j.val / 256 = 7) with h | h | h | h | h | h | h | h
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 0, by omega⟩ (by simp) (by simp only; omega)).trans ?_
    rw [dp12]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 256, by omega⟩ (by simp) (by simp only; omega)).trans ?_
    rw [dp16]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 512, by omega⟩ (by simp) (by simp only; omega)).trans ?_
    rw [dp18]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 768, by omega⟩ (by simp) (by simp only; omega)).trans ?_
    rw [dp23]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (hit2 _ _ _ r j r ⟨j.val - 1024, by omega⟩ (by simp) (by simp only; omega)).trans ?_
    rw [dp25]
    exact Finset.sum_congr rfl fun k' _ => congrArg _ (ld2 _ _ _ _ k' j (by simp) (by simp only; omega))
  · refine (miss2 _ _ _ r j (by omega)).trans ?_
    refine (miss2 _ _ _ r j (by omega)).trans ?_
    refine (hit2 _ _ _ r j r ⟨j.val - 1280, by omega⟩ (by simp) (by simp only; omega)).trans ?_
    rw [dp30]
    exact Finset.sum_congr rfl fun k' _ => congrArg _ (ld2 _ _ _ _ k' j (by simp) (by simp only; omega))
  · refine (miss2 _ _ _ r j (by omega)).trans ?_
    refine (hit2 _ _ _ r j r ⟨j.val - 1536, by omega⟩ (by simp) (by simp only; omega)).trans ?_
    rw [dp32]
    exact Finset.sum_congr rfl fun k' _ => congrArg _ (ld2 _ _ _ _ k' j (by simp) (by simp only; omega))
  · refine (hit2 _ _ _ r j r ⟨j.val - 1792, by omega⟩ (by simp) (by simp only; omega)).trans ?_
    rw [dp2]
    exact Finset.sum_congr rfl fun k' _ => congrArg _ (ld2 _ _ _ _ k' j (by simp) (by simp only; omega))

theorem P2_apply (r : Fin 512) (j : Fin 2048) : P2 x0 x2 x3 (ix2 r j) = ∑ k', hn x0 x2 (ix2 r k') * x3 (ix2 k' j) := by
  unfold P2
  have hj := j.isLt
  rcases (by omega : j.val / 256 = 0 ∨ j.val / 256 = 1 ∨ j.val / 256 = 2 ∨ j.val / 256 = 3 ∨ j.val / 256 = 4 ∨ j.val / 256 = 5 ∨ j.val / 256 = 6 ∨ j.val / 256 = 7) with h | h | h | h | h | h | h | h
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 0, by omega⟩ (by simp) (by simp only; omega)).trans ?_
    rw [dp13]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 256, by omega⟩ (by simp) (by simp only; omega)).trans ?_
    rw [dp17]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 512, by omega⟩ (by simp) (by simp only; omega)).trans ?_
    rw [dp19]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (miss2 _ _ _ r j (by omega)).trans ?_
    refine (hit2 _ _ _ r j r ⟨j.val - 768, by omega⟩ (by simp) (by simp only; omega)).trans ?_
    rw [dp24]
    exact Finset.sum_congr rfl fun k' _ => congrArg _ (ld2 _ _ _ _ k' j (by simp) (by simp only; omega))
  · refine (miss2 _ _ _ r j (by omega)).trans ?_
    refine (miss2 _ _ _ r j (by omega)).trans ?_
    refine (miss2 _ _ _ r j (by omega)).trans ?_
    refine (hit2 _ _ _ r j r ⟨j.val - 1024, by omega⟩ (by simp) (by simp only; omega)).trans ?_
    rw [dp26]
    exact Finset.sum_congr rfl fun k' _ => congrArg _ (ld2 _ _ _ _ k' j (by simp) (by simp only; omega))
  · refine (miss2 _ _ _ r j (by omega)).trans ?_
    refine (miss2 _ _ _ r j (by omega)).trans ?_
    refine (hit2 _ _ _ r j r ⟨j.val - 1280, by omega⟩ (by simp) (by simp only; omega)).trans ?_
    rw [dp31]
    exact Finset.sum_congr rfl fun k' _ => congrArg _ (ld2 _ _ _ _ k' j (by simp) (by simp only; omega))
  · refine (miss2 _ _ _ r j (by omega)).trans ?_
    refine (hit2 _ _ _ r j r ⟨j.val - 1536, by omega⟩ (by simp) (by simp only; omega)).trans ?_
    rw [dp33]
    exact Finset.sum_congr rfl fun k' _ => congrArg _ (ld2 _ _ _ _ k' j (by simp) (by simp only; omega))
  · refine (hit2 _ _ _ r j r ⟨j.val - 1792, by omega⟩ (by simp) (by simp only; omega)).trans ?_
    rw [dp3]
    exact Finset.sum_congr rfl fun k' _ => congrArg _ (ld2 _ _ _ _ k' j (by simp) (by simp only; omega))

end Proj

section Mix

variable {P : Fin 16384 → Fin 2048 → EReal} {A : Inp} {n : Fin 32} {i : grid0.Coords}
  {x1 : Vec Ideal S512x1024 .f32} {x4 : Vec Ideal S4x256x256 .bf16} {x5 : Vec Ideal S1x1x1024 .f32} {x6 : Vec Ideal S1x1x1024 .f32}
  {x7 : Vec Ideal S1024x1024 .bf16} {h : Vec Ideal S16x1024 .f32} {Pb : Vec Ideal S512x2048 .f32}

/-- The rows the window sums read: the tile's tokens and the sixteen before them. -/
structure IsRows (P : Fin 16384 → Fin 2048 → EReal) (n : Fin 32) (h : Vec Ideal S16x1024 .f32) (Pb : Vec Ideal S512x2048 .f32) : Prop where
  hh : ∀ q c, h (ix2 q c) = uu P c (512 * n.val + q.val)
  hP : ∀ r j, Pb (ix2 r j) = P (In.tok n r) j

/-- The blocks hold the arrays' rows of tile `n`. -/
structure IsBlk (A : Inp) (n : Fin 32) (i : grid0.Coords) (x1 : Vec Ideal S512x1024 .f32) (x4 : Vec Ideal S4x256x256 .bf16)
    (x5 : Vec Ideal S1x1x1024 .f32) (x6 : Vec Ideal S1x1x1024 .f32) (x7 : Vec Ideal S1024x1024 .bf16) : Prop where
  hi : v1 i = BitVec.ofNat 32 n.val
  h1 : ∀ r c, x1 (ix2 r c) = A.D (In.tok n r) c
  h4 : ∀ g k k', x4 (ix3 g k k') = A.W g k k'
  h5 : ∀ c, x5 (ix3 0 0 c) = A.b c
  h6 : ∀ c, x6 (ix3 0 0 c) = A.s c
  h7 : ∀ c k, x7 (ix2 c k) = A.Wo c k

theorem uu_tok (n : Fin 32) (r : Fin 512) (c : Fin 1024) : uu P c (512 * n.val + (16 + r.val)) = P (In.tok n r) (lo c) := by
  have hn := n.isLt
  have hr := r.isLt
  unfold uu
  rw [dif_pos (by omega)]
  congr 1
  apply Fin.ext
  show 512 * n.val + (16 + r.val) - 16 = 512 * n.val + r.val
  omega

theorem U_apply (R : IsRows P n h Pb) (a : Fin 528) (c : Fin 1024) : U h Pb (ix2 a c) = uu P c (512 * n.val + a.val) := by
  have ha := a.isLt
  unfold U
  by_cases h0 : 16 ≤ a.val
  · refine (hit2 _ _ _ a c ⟨a.val - 16, by omega⟩ c (by simp only; omega) (by simp)).trans ?_
    unfold_payloads
    pointwise
    refine (R.hP _ _).trans ?_
    refine Eq.trans ?_ (congrArg (uu P c) (show 512 * n.val + (16 + (a.val - 16)) = 512 * n.val + a.val by omega))
    refine Eq.trans ?_ (uu_tok n ⟨a.val - 16, by omega⟩ c).symm
    congr 1
  · refine (miss2 _ _ _ a c (by omega)).trans ?_
    refine (hit2 _ _ _ a c ⟨a.val, by omega⟩ c (by simp) (by simp)).trans ?_
    exact R.hh _ _

theorem Z_apply (R : IsRows P n h Pb) (r : Fin 512) (c : Fin 1024) : Z Pb (ix2 r c) = P (In.tok n r) (hi c) := by
  unfold Z
  refine (hit2 _ _ _ r c r c (by simp) (by simp)).trans ?_
  unfold_payloads
  pointwise
  exact R.hP _ _

theorem cntw (v : BitVec 32) (n : Fin 32) (hv : v = BitVec.ofNat 32 n.val) (w : ℕ) (hw : w < 100) (r : Fin 512) :
    (FloatOps.sitofp FTy.f32
          (IntOp.minsi
            (IntOp.addi (IntOp.addi (Scalar.muli v 512#32) (BitVec.ofNat 32 ↑r)) 1#32)
            (BitVec.ofNat 32 w)) : Ideal .f32) = (((min (512 * n.val + r.val + 1) w : ℕ) : ℝ) : EReal) := by
  have hn := n.isLt
  have hr := r.isLt
  have e : (IntOp.addi (IntOp.addi (Scalar.muli v 512#32) (BitVec.ofNat 32 ↑r)) 1#32)
       = BitVec.ofNat 32 (512 * n.val + r.val + 1) := by
    subst hv
    apply BitVec.eq_of_toNat_eq
    simp only [IntOp.addi, Scalar.muli, IntOp.muli, BitVec.toNat_add, BitVec.toNat_mul, BitVec.toNat_ofNat]
    omega
  show (((IntOp.minsi _ _ : BitVec 32).toInt : ℝ) : EReal) = _
  rw [e, minw _ w (by omega) hw]
  simp

theorem rot0 (v : BitVec 32) (n : Fin 32) (hv : v = BitVec.ofNat 32 n.val) (x : FVec Ideal S528x256 .f32) (f : ℕ → EReal) (k : Fin 256)
    (hx : ∀ r : Fin 528, x (ix2 r k) = f r.val) (r : Fin 512) :
    k0_pay14 (F := Ideal) v x (ix2 r k) = (∑ j ∈ Finset.range 2, f (r.val + (16 - j))) * Ideal.div 1 (((min (512 * n.val + r.val + 1) 2 : ℕ) : ℝ) : EReal) - f (16 + r.val) := by
  have hr := r.isLt
  have hc := cntw v n hv 2 (by omega) r
  unfold k0_pay14
  pointwise
  rw [hc]
  simp only [rollIx _ 1 (by omega), Nat.reduceSub, Nat.mod_add_mod, Nat.add_mod_mod, Nat.add_assoc, Nat.reduceAdd, hx, show (r.val + 543) % 528 = r.val + 15 by omega,
    Finset.sum_range_succ, Finset.sum_range_zero, zero_add, add_zero, add_assoc, Nat.add_comm 16 r.val]

theorem rot1 (v : BitVec 32) (n : Fin 32) (hv : v = BitVec.ofNat 32 n.val) (x : FVec Ideal S528x256 .f32) (f : ℕ → EReal) (k : Fin 256)
    (hx : ∀ r : Fin 528, x (ix2 r k) = f r.val) (r : Fin 512) :
    k0_pay20 (F := Ideal) v x (ix2 r k) = (∑ j ∈ Finset.range 4, f (r.val + (16 - j))) * Ideal.div 1 (((min (512 * n.val + r.val + 1) 4 : ℕ) : ℝ) : EReal) - f (16 + r.val) := by
  have hr := r.isLt
  have hc := cntw v n hv 4 (by omega) r
  unfold k0_pay20
  pointwise
  rw [hc]
  simp only [rollIx _ 1 (by omega), rollIx _ 2 (by omega), Nat.reduceSub, Nat.mod_add_mod, Nat.add_mod_mod, Nat.add_assoc, Nat.reduceAdd, hx, show (r.val + 543) % 528 = r.val + 15 by omega, show (r.val + 1071) % 528 = r.val + 15 by omega, show (r.val + 542) % 528 = r.val + 14 by omega, show (r.val + 1070) % 528 = r.val + 14 by omega, show (r.val + 541) % 528 = r.val + 13 by omega, show (r.val + 1069) % 528 = r.val + 13 by omega,
    Finset.sum_range_succ, Finset.sum_range_zero, zero_add, add_zero, add_assoc, Nat.add_comm 16 r.val]

theorem rot2 (v : BitVec 32) (n : Fin 32) (hv : v = BitVec.ofNat 32 n.val) (x : FVec Ideal S528x256 .f32) (f : ℕ → EReal) (k : Fin 256)
    (hx : ∀ r : Fin 528, x (ix2 r k) = f r.val) (r : Fin 512) :
    k0_pay27 (F := Ideal) v x (ix2 r k) = (∑ j ∈ Finset.range 8, f (r.val + (16 - j))) * Ideal.div 1 (((min (512 * n.val + r.val + 1) 8 : ℕ) : ℝ) : EReal) - f (16 + r.val) := by
  have hr := r.isLt
  have hc := cntw v n hv 8 (by omega) r
  unfold k0_pay27
  pointwise
  rw [hc]
  simp only [rollIx _ 1 (by omega), rollIx _ 2 (by omega), rollIx _ 4 (by omega), Nat.reduceSub, Nat.mod_add_mod, Nat.add_mod_mod, Nat.add_assoc, Nat.reduceAdd, hx, show (r.val + 543) % 528 = r.val + 15 by omega, show (r.val + 1071) % 528 = r.val + 15 by omega, show (r.val + 1599) % 528 = r.val + 15 by omega, show (r.val + 542) % 528 = r.val + 14 by omega, show (r.val + 1070) % 528 = r.val + 14 by omega, show (r.val + 1598) % 528 = r.val + 14 by omega, show (r.val + 541) % 528 = r.val + 13 by omega, show (r.val + 1069) % 528 = r.val + 13 by omega, show (r.val + 1597) % 528 = r.val + 13 by omega, show (r.val + 540) % 528 = r.val + 12 by omega, show (r.val + 1068) % 528 = r.val + 12 by omega, show (r.val + 1596) % 528 = r.val + 12 by omega, show (r.val + 539) % 528 = r.val + 11 by omega, show (r.val + 1067) % 528 = r.val + 11 by omega, show (r.val + 1595) % 528 = r.val + 11 by omega, show (r.val + 538) % 528 = r.val + 10 by omega, show (r.val + 1066) % 528 = r.val + 10 by omega, show (r.val + 1594) % 528 = r.val + 10 by omega, show (r.val + 537) % 528 = r.val + 9 by omega, show (r.val + 1065) % 528 = r.val + 9 by omega, show (r.val + 1593) % 528 = r.val + 9 by omega,
    Finset.sum_range_succ, Finset.sum_range_zero, zero_add, add_zero, add_assoc, Nat.add_comm 16 r.val]

set_option maxHeartbeats 1600000 in
theorem rot3 (v : BitVec 32) (n : Fin 32) (hv : v = BitVec.ofNat 32 n.val) (x : FVec Ideal S528x256 .f32) (f : ℕ → EReal) (k : Fin 256)
    (hx : ∀ r : Fin 528, x (ix2 r k) = f r.val) (r : Fin 512) :
    k0_pay35 (F := Ideal) v x (k0_pay34 x) (ix2 r k) = (∑ j ∈ Finset.range 16, f (r.val + (16 - j))) * Ideal.div 1 (((min (512 * n.val + r.val + 1) 16 : ℕ) : ℝ) : EReal) - f (16 + r.val) := by
  have hr := r.isLt
  have hc := cntw v n hv 16 (by omega) r
  unfold k0_pay35 k0_pay34
  pointwise
  rw [hc]
  simp only [rollIx _ 1 (by omega), rollIx _ 2 (by omega), rollIx _ 4 (by omega), rollIx _ 8 (by omega), Nat.reduceSub, Nat.mod_add_mod, Nat.add_mod_mod, Nat.add_assoc, Nat.reduceAdd, hx, show (r.val + 543) % 528 = r.val + 15 by omega, show (r.val + 1071) % 528 = r.val + 15 by omega, show (r.val + 1599) % 528 = r.val + 15 by omega, show (r.val + 2127) % 528 = r.val + 15 by omega, show (r.val + 542) % 528 = r.val + 14 by omega, show (r.val + 1070) % 528 = r.val + 14 by omega, show (r.val + 1598) % 528 = r.val + 14 by omega, show (r.val + 2126) % 528 = r.val + 14 by omega, show (r.val + 541) % 528 = r.val + 13 by omega, show (r.val + 1069) % 528 = r.val + 13 by omega, show (r.val + 1597) % 528 = r.val + 13 by omega, show (r.val + 2125) % 528 = r.val + 13 by omega, show (r.val + 540) % 528 = r.val + 12 by omega, show (r.val + 1068) % 528 = r.val + 12 by omega, show (r.val + 1596) % 528 = r.val + 12 by omega, show (r.val + 2124) % 528 = r.val + 12 by omega, show (r.val + 539) % 528 = r.val + 11 by omega, show (r.val + 1067) % 528 = r.val + 11 by omega, show (r.val + 1595) % 528 = r.val + 11 by omega, show (r.val + 2123) % 528 = r.val + 11 by omega, show (r.val + 538) % 528 = r.val + 10 by omega, show (r.val + 1066) % 528 = r.val + 10 by omega, show (r.val + 1594) % 528 = r.val + 10 by omega, show (r.val + 2122) % 528 = r.val + 10 by omega, show (r.val + 537) % 528 = r.val + 9 by omega, show (r.val + 1065) % 528 = r.val + 9 by omega, show (r.val + 1593) % 528 = r.val + 9 by omega, show (r.val + 2121) % 528 = r.val + 9 by omega, show (r.val + 536) % 528 = r.val + 8 by omega, show (r.val + 1064) % 528 = r.val + 8 by omega, show (r.val + 1592) % 528 = r.val + 8 by omega, show (r.val + 2120) % 528 = r.val + 8 by omega, show (r.val + 535) % 528 = r.val + 7 by omega, show (r.val + 1063) % 528 = r.val + 7 by omega, show (r.val + 1591) % 528 = r.val + 7 by omega, show (r.val + 2119) % 528 = r.val + 7 by omega, show (r.val + 534) % 528 = r.val + 6 by omega, show (r.val + 1062) % 528 = r.val + 6 by omega, show (r.val + 1590) % 528 = r.val + 6 by omega, show (r.val + 2118) % 528 = r.val + 6 by omega, show (r.val + 533) % 528 = r.val + 5 by omega, show (r.val + 1061) % 528 = r.val + 5 by omega, show (r.val + 1589) % 528 = r.val + 5 by omega, show (r.val + 2117) % 528 = r.val + 5 by omega, show (r.val + 532) % 528 = r.val + 4 by omega, show (r.val + 1060) % 528 = r.val + 4 by omega, show (r.val + 1588) % 528 = r.val + 4 by omega, show (r.val + 2116) % 528 = r.val + 4 by omega, show (r.val + 531) % 528 = r.val + 3 by omega, show (r.val + 1059) % 528 = r.val + 3 by omega, show (r.val + 1587) % 528 = r.val + 3 by omega, show (r.val + 2115) % 528 = r.val + 3 by omega, show (r.val + 530) % 528 = r.val + 2 by omega, show (r.val + 1058) % 528 = r.val + 2 by omega, show (r.val + 1586) % 528 = r.val + 2 by omega, show (r.val + 2114) % 528 = r.val + 2 by omega, show (r.val + 529) % 528 = r.val + 1 by omega, show (r.val + 1057) % 528 = r.val + 1 by omega, show (r.val + 1585) % 528 = r.val + 1 by omega, show (r.val + 2113) % 528 = r.val + 1 by omega,
    Finset.sum_range_succ, Finset.sum_range_zero, zero_add, add_zero, add_assoc, Nat.add_comm 16 r.val]

theorem d0_apply (H : IsBlk A n i x1 x4 x5 x6 x7) (R : IsRows P n h Pb) (r : Fin 512) (k : Fin 256) :
    d0 i h Pb (ix2 r k) = Fw6.mean P (In.tok n r) (col 0 k) := by
  unfold d0
  refine (rot0 (v1 i) n H.hi _ (fun a => uu P (col 0 k) (512 * n.val + a)) k (fun a => ?_) r).trans ?_
  · exact (ld2 _ _ a k a (col 0 k) (by simp) (by simp [col])).trans (U_apply R a _)
  · unfold Fw6.mean Fw6.win
    simp only [uu_tok, gOf_col]
    simp only [← Nat.add_assoc]
    rfl

theorem d1_apply (H : IsBlk A n i x1 x4 x5 x6 x7) (R : IsRows P n h Pb) (r : Fin 512) (k : Fin 256) :
    d1 i h Pb (ix2 r k) = Fw6.mean P (In.tok n r) (col 1 k) := by
  unfold d1
  refine (rot1 (v1 i) n H.hi _ (fun a => uu P (col 1 k) (512 * n.val + a)) k (fun a => ?_) r).trans ?_
  · exact (ld2 _ _ a k a (col 1 k) (by simp) (by simp [col])).trans (U_apply R a _)
  · unfold Fw6.mean Fw6.win
    simp only [uu_tok, gOf_col]
    simp only [← Nat.add_assoc]
    rfl

theorem d2_apply (H : IsBlk A n i x1 x4 x5 x6 x7) (R : IsRows P n h Pb) (r : Fin 512) (k : Fin 256) :
    d2 i h Pb (ix2 r k) = Fw6.mean P (In.tok n r) (col 2 k) := by
  unfold d2
  refine (rot2 (v1 i) n H.hi _ (fun a => uu P (col 2 k) (512 * n.val + a)) k (fun a => ?_) r).trans ?_
  · exact (ld2 _ _ a k a (col 2 k) (by simp) (by simp [col])).trans (U_apply R a _)
  · unfold Fw6.mean Fw6.win
    simp only [uu_tok, gOf_col]
    simp only [← Nat.add_assoc]
    rfl

theorem d3_apply (H : IsBlk A n i x1 x4 x5 x6 x7) (R : IsRows P n h Pb) (r : Fin 512) (k : Fin 256) :
    d3 i h Pb (ix2 r k) = Fw6.mean P (In.tok n r) (col 3 k) := by
  unfold d3
  refine (rot3 (v1 i) n H.hi _ (fun a => uu P (col 3 k) (512 * n.val + a)) k (fun a => ?_) r).trans ?_
  · exact (ld2 _ _ a k a (col 3 k) (by simp) (by simp [col])).trans (U_apply R a _)
  · unfold Fw6.mean Fw6.win
    simp only [uu_tok, gOf_col]
    simp only [← Nat.add_assoc]
    rfl

theorem y0_apply (H : IsBlk A n i x1 x4 x5 x6 x7) (R : IsRows P n h Pb) (hd : A.d = Fw6.mean P) (hZ : ∀ t c, A.Z t c = P t (hi c)) (r : Fin 512) (k : Fin 256) :
    y0 i x4 x5 x6 h Pb (ix2 r k) = A.y2 (In.tok n r) (col 0 k) := by
  have hy : ∀ k', d0 i h Pb (ix2 r k') = A.d (In.tok n r) (col 0 k') := fun k' => by rw [d0_apply H R, hd]
  have hz : View.ld (Z Pb) (Rect.unit ![0, 0] ![512, 256] inb_S512x1024_S512x256_0_0) (ix2 r k) = A.Z (In.tok n r) (col 0 k) :=
    (ld2 _ _ r k r (col 0 k) (by simp) (by simp [col])).trans ((Z_apply R r _).trans (hZ _ _).symm)
  have hw : ∀ k', View.ld x4 (Rect.unit ![0, 0, 0] ![1, 256, 256] inb_S4x256x256_S1x256x256_0_0_0) (ix3 0 k' k) = A.W 0 k' k := fun k' =>
    (ld3 _ _ 0 k' k 0 k' k (by simp) (by simp) (by simp)).trans (H.h4 0 k' k)
  have hb : View.ld x5 (Rect.unit ![0, 0, 0] ![1, 1, 256] inb_S1x1x1024_S1x1x256_0_0_0) (ix3 0 0 k) = A.b (col 0 k) :=
    (ld3 _ _ 0 0 k 0 0 (col 0 k) (by simp) (by simp) (by simp [col])).trans (H.h5 _)
  have hs : View.ld x6 (Rect.unit ![0, 0, 0] ![1, 1, 256] inb_S1x1x1024_S1x1x256_0_0_0) (ix3 0 0 k) = A.s (col 0 k) :=
    (ld3 _ _ 0 0 k 0 0 (col 0 k) (by simp) (by simp) (by simp [col])).trans (H.h6 _)
  unfold y0 k0_pay15
  generalize d0 i h Pb = d at hy ⊢
  generalize View.ld (Z Pb) _ = z at hz ⊢
  generalize View.ld x4 _ = w at hw ⊢
  generalize View.ld x5 _ = b at hb ⊢
  generalize View.ld x6 _ = s at hs ⊢
  unfold Inp.y2 Inp.ob Inp.sz Inp.lg
  rw [gOf_col, rOf_col]
  pointwise
  simp only [hy, hz, hw, hb, hs]

theorem y1_apply (H : IsBlk A n i x1 x4 x5 x6 x7) (R : IsRows P n h Pb) (hd : A.d = Fw6.mean P) (hZ : ∀ t c, A.Z t c = P t (hi c)) (r : Fin 512) (k : Fin 256) :
    y1 i x4 x5 x6 h Pb (ix2 r k) = A.y2 (In.tok n r) (col 1 k) := by
  have hy : ∀ k', d1 i h Pb (ix2 r k') = A.d (In.tok n r) (col 1 k') := fun k' => by rw [d1_apply H R, hd]
  have hz : View.ld (Z Pb) (Rect.unit ![0, 256] ![512, 256] inb_S512x1024_S512x256_0_256) (ix2 r k) = A.Z (In.tok n r) (col 1 k) :=
    (ld2 _ _ r k r (col 1 k) (by simp) (by simp [col])).trans ((Z_apply R r _).trans (hZ _ _).symm)
  have hw : ∀ k', View.ld x4 (Rect.unit ![1, 0, 0] ![1, 256, 256] inb_S4x256x256_S1x256x256_1_0_0) (ix3 0 k' k) = A.W 1 k' k := fun k' =>
    (ld3 _ _ 0 k' k 1 k' k (by simp) (by simp) (by simp)).trans (H.h4 1 k' k)
  have hb : View.ld x5 (Rect.unit ![0, 0, 256] ![1, 1, 256] inb_S1x1x1024_S1x1x256_0_0_256) (ix3 0 0 k) = A.b (col 1 k) :=
    (ld3 _ _ 0 0 k 0 0 (col 1 k) (by simp) (by simp) (by simp [col])).trans (H.h5 _)
  have hs : View.ld x6 (Rect.unit ![0, 0, 256] ![1, 1, 256] inb_S1x1x1024_S1x1x256_0_0_256) (ix3 0 0 k) = A.s (col 1 k) :=
    (ld3 _ _ 0 0 k 0 0 (col 1 k) (by simp) (by simp) (by simp [col])).trans (H.h6 _)
  unfold y1 k0_pay22 k0_pay21
  rw [show k0_pay20 (v1 i) (View.ld (U h Pb) (Rect.unit ![0, 256] ![528, 256] inb_S528x1024_S528x256_0_256)) = d1 i h Pb from rfl]
  generalize d1 i h Pb = d at hy ⊢
  generalize View.ld (Z Pb) _ = z at hz ⊢
  generalize View.ld x4 _ = w at hw ⊢
  generalize View.ld x5 _ = b at hb ⊢
  generalize View.ld x6 _ = s at hs ⊢
  unfold Inp.y2 Inp.ob Inp.sz Inp.lg
  rw [gOf_col, rOf_col]
  pointwise
  simp only [hy, hz, hw, hb, hs]

theorem y2_apply (H : IsBlk A n i x1 x4 x5 x6 x7) (R : IsRows P n h Pb) (hd : A.d = Fw6.mean P) (hZ : ∀ t c, A.Z t c = P t (hi c)) (r : Fin 512) (k : Fin 256) :
    y2 i x4 x5 x6 h Pb (ix2 r k) = A.y2 (In.tok n r) (col 2 k) := by
  have hy : ∀ k', d2 i h Pb (ix2 r k') = A.d (In.tok n r) (col 2 k') := fun k' => by rw [d2_apply H R, hd]
  have hz : View.ld (Z Pb) (Rect.unit ![0, 512] ![512, 256] inb_S512x1024_S512x256_0_512) (ix2 r k) = A.Z (In.tok n r) (col 2 k) :=
    (ld2 _ _ r k r (col 2 k) (by simp) (by simp [col])).trans ((Z_apply R r _).trans (hZ _ _).symm)
  have hw : ∀ k', View.ld x4 (Rect.unit ![2, 0, 0] ![1, 256, 256] inb_S4x256x256_S1x256x256_2_0_0) (ix3 0 k' k) = A.W 2 k' k := fun k' =>
    (ld3 _ _ 0 k' k 2 k' k (by simp) (by simp) (by simp)).trans (H.h4 2 k' k)
  have hb : View.ld x5 (Rect.unit ![0, 0, 512] ![1, 1, 256] inb_S1x1x1024_S1x1x256_0_0_512) (ix3 0 0 k) = A.b (col 2 k) :=
    (ld3 _ _ 0 0 k 0 0 (col 2 k) (by simp) (by simp) (by simp [col])).trans (H.h5 _)
  have hs : View.ld x6 (Rect.unit ![0, 0, 512] ![1, 1, 256] inb_S1x1x1024_S1x1x256_0_0_512) (ix3 0 0 k) = A.s (col 2 k) :=
    (ld3 _ _ 0 0 k 0 0 (col 2 k) (by simp) (by simp) (by simp [col])).trans (H.h6 _)
  unfold y2 k0_pay29 k0_pay28
  rw [show k0_pay27 (v1 i) (View.ld (U h Pb) (Rect.unit ![0, 512] ![528, 256] inb_S528x1024_S528x256_0_512)) = d2 i h Pb from rfl]
  generalize d2 i h Pb = d at hy ⊢
  generalize View.ld (Z Pb) _ = z at hz ⊢
  generalize View.ld x4 _ = w at hw ⊢
  generalize View.ld x5 _ = b at hb ⊢
  generalize View.ld x6 _ = s at hs ⊢
  unfold Inp.y2 Inp.ob Inp.sz Inp.lg
  rw [gOf_col, rOf_col]
  pointwise
  simp only [hy, hz, hw, hb, hs]

theorem y3_apply (H : IsBlk A n i x1 x4 x5 x6 x7) (R : IsRows P n h Pb) (hd : A.d = Fw6.mean P) (hZ : ∀ t c, A.Z t c = P t (hi c)) (r : Fin 512) (k : Fin 256) :
    y3 i x4 x5 x6 h Pb (ix2 r k) = A.y2 (In.tok n r) (col 3 k) := by
  have hy : ∀ k', d3 i h Pb (ix2 r k') = A.d (In.tok n r) (col 3 k') := fun k' => by rw [d3_apply H R, hd]
  have hz : View.ld (Z Pb) (Rect.unit ![0, 768] ![512, 256] inb_S512x1024_S512x256_0_768) (ix2 r k) = A.Z (In.tok n r) (col 3 k) :=
    (ld2 _ _ r k r (col 3 k) (by simp) (by simp [col])).trans ((Z_apply R r _).trans (hZ _ _).symm)
  have hw : ∀ k', View.ld x4 (Rect.unit ![3, 0, 0] ![1, 256, 256] inb_S4x256x256_S1x256x256_3_0_0) (ix3 0 k' k) = A.W 3 k' k := fun k' =>
    (ld3 _ _ 0 k' k 3 k' k (by simp) (by simp) (by simp)).trans (H.h4 3 k' k)
  have hb : View.ld x5 (Rect.unit ![0, 0, 768] ![1, 1, 256] inb_S1x1x1024_S1x1x256_0_0_768) (ix3 0 0 k) = A.b (col 3 k) :=
    (ld3 _ _ 0 0 k 0 0 (col 3 k) (by simp) (by simp) (by simp [col])).trans (H.h5 _)
  have hs : View.ld x6 (Rect.unit ![0, 0, 768] ![1, 1, 256] inb_S1x1x1024_S1x1x256_0_0_768) (ix3 0 0 k) = A.s (col 3 k) :=
    (ld3 _ _ 0 0 k 0 0 (col 3 k) (by simp) (by simp) (by simp [col])).trans (H.h6 _)
  unfold y3 k0_pay1 k0_pay36
  rw [show k0_pay35 (v1 i) (View.ld (U h Pb) (Rect.unit ![0, 768] ![528, 256] inb_S528x1024_S528x256_0_768)) (k0_pay34 (View.ld (U h Pb) (Rect.unit ![0, 768] ![528, 256] inb_S528x1024_S528x256_0_768))) = d3 i h Pb from rfl]
  generalize d3 i h Pb = d at hy ⊢
  generalize View.ld (Z Pb) _ = z at hz ⊢
  generalize View.ld x4 _ = w at hw ⊢
  generalize View.ld x5 _ = b at hb ⊢
  generalize View.ld x6 _ = s at hs ⊢
  unfold Inp.y2 Inp.ob Inp.sz Inp.lg
  rw [gOf_col, rOf_col]
  pointwise
  simp only [hy, hz, hw, hb, hs]

theorem W10_apply (H : IsBlk A n i x1 x4 x5 x6 x7) (R : IsRows P n h Pb) (r : Fin 512) (c : Fin 1024) :
    W10 i h Pb (ix2 r c) = Fw6.mean P (In.tok n r) c := by
  obtain ⟨g, k, rfl⟩ : ∃ g k, c = col g k := ⟨gOf c, rOf c, (col_of c).symm⟩
  have hk := k.isLt
  unfold W10
  fin_cases g
  · refine (miss2 _ _ _ r _ (by simp [col]; try omega)).trans ?_
    refine (miss2 _ _ _ r _ (by simp [col]; try omega)).trans ?_
    refine (miss2 _ _ _ r _ (by simp [col]; try omega)).trans ?_
    refine (hit2 _ _ _ r _ r k (by simp) (by simp [col])).trans ?_
    exact d0_apply H R r k
  · refine (miss2 _ _ _ r _ (by simp [col]; try omega)).trans ?_
    refine (miss2 _ _ _ r _ (by simp [col]; try omega)).trans ?_
    refine (hit2 _ _ _ r _ r k (by simp) (by simp [col])).trans ?_
    exact d1_apply H R r k
  · refine (miss2 _ _ _ r _ (by simp [col]; try omega)).trans ?_
    refine (hit2 _ _ _ r _ r k (by simp) (by simp [col])).trans ?_
    exact d2_apply H R r k
  · refine (hit2 _ _ _ r _ r k (by simp) (by simp [col])).trans ?_
    exact d3_apply H R r k

theorem Y_apply (H : IsBlk A n i x1 x4 x5 x6 x7) (R : IsRows P n h Pb) (hd : A.d = Fw6.mean P) (hZ : ∀ t c, A.Z t c = P t (hi c)) (r : Fin 512) (c : Fin 1024) :
    Y i x4 x5 x6 h Pb (ix2 r c) = A.y2 (In.tok n r) c := by
  obtain ⟨g, k, rfl⟩ : ∃ g k, c = col g k := ⟨gOf c, rOf c, (col_of c).symm⟩
  have hk := k.isLt
  unfold Y
  fin_cases g
  · refine (miss2 _ _ _ r _ (by simp [col]; try omega)).trans ?_
    refine (miss2 _ _ _ r _ (by simp [col]; try omega)).trans ?_
    refine (miss2 _ _ _ r _ (by simp [col]; try omega)).trans ?_
    refine (hit2 _ _ _ r _ r k (by simp) (by simp [col])).trans ?_
    exact y0_apply H R hd hZ r k
  · refine (miss2 _ _ _ r _ (by simp [col]; try omega)).trans ?_
    refine (miss2 _ _ _ r _ (by simp [col]; try omega)).trans ?_
    refine (hit2 _ _ _ r _ r k (by simp) (by simp [col])).trans ?_
    exact y1_apply H R hd hZ r k
  · refine (miss2 _ _ _ r _ (by simp [col]; try omega)).trans ?_
    refine (hit2 _ _ _ r _ r k (by simp) (by simp [col])).trans ?_
    exact y2_apply H R hd hZ r k
  · refine (hit2 _ _ _ r _ r k (by simp) (by simp [col])).trans ?_
    exact y3_apply H R hd hZ r k

theorem W8_apply (H : IsBlk A n i x1 x4 x5 x6 x7) (R : IsRows P n h Pb) (hd : A.d = Fw6.mean P) (hZ : ∀ t c, A.Z t c = P t (hi c)) (r : Fin 512) (k : Fin 1024) :
    W8 i x1 x4 x5 x6 x7 h Pb (ix2 r k) = Fw6.ho A (In.tok n r) k := by
  have hy := Y_apply H R hd hZ
  unfold W8
  refine (hit2 _ _ _ r k r k (by simp) (by simp)).trans ?_
  rw [ldB, ldB, ldW]
  generalize Y i x4 x5 x6 h Pb = y at hy ⊢
  unfold k0_pay4 Fw6.ho
  pointwise
  simp only [H.h1, H.h7, hy]

end Mix

end Cert.Proof.Fw6Rows
-- ==== Proof.Fw6Arr.lean ====
/-
  The run of the forward call over the grid: each point mixes the tile before and projects its own, so that the carried
  scratch holds the projection's tile and the rows before it; and what the result arrays hold in the end.
-/
module

public import proofs.«01_k».proof.Proof.Fw6Rows
public import proofs.«01_k».proof.Proof.Gen.Kernel6Ideal.Value
public import Idealize.ShloMosaic.Lib.StableHlo.ReadAt
public import Idealize.ShloMosaic.Lib.Pipeline.ValueKit.Point

@[expose] public section

set_option maxRecDepth 16384

noncomputable section

open Idealize.ShloMosaic Idealize.ShloMosaic.TcCoe Idealize.SL.Sem

namespace Cert.Proof.Fw6Arr

open Cert.Kernel6Ideal Cert.Kernel6Ideal.Gen Cert.Proof.Fw6Blk Cert.Proof.Fw6Rows
open Fw6 (lo hi uu)

section Host

variable {F : FTy → Type} [FloatOps F] (m : (ℓ : Loc nD τ sig) → Buf (Elt F) ℓ) (c : Dev nD)

theorem V_v0 : V m c main_v0 = broadcastInDim S2x1x1024 ![0, 2] bcast_S2x1024_S2x1x1024_0_2 (m ((c : Thread nD τ).loc main_arg4)) := by
  unfold V
  after_reads_simp
theorem V_v1 : V m c main_v1 = broadcastInDim S2x1x1024 ![0, 2] bcast_S2x1024_S2x1x1024_0_2 (m ((c : Thread nD τ).loc main_arg5)) := by
  unfold V
  after_reads_simp
theorem V_v2 : V m c main_v2 = broadcastInDim S4x1x1024 ![0, 2] bcast_S4x1024_S4x1x1024_0_2 (m ((c : Thread nD τ).loc main_arg1)) := by
  unfold V
  after_reads_simp
theorem V_v3 : V m c main_v3 = truncf (F := F) (s := S1024x2048) (φ := .f32) .bf16 (m ((c : Thread nD τ).loc main_arg2)) bitsLt_bf16_f32 := by
  unfold V
  after_reads_simp
theorem V_v4 : V m c main_v4 = truncf (F := F) (s := S4x256x256) (φ := .f32) .bf16 (m ((c : Thread nD τ).loc main_arg3)) bitsLt_bf16_f32 := by
  unfold V
  after_reads_simp
theorem V_v5 : V m c main_v5 = truncf (F := F) (s := S1024x1024) (φ := .f32) .bf16 (m ((c : Thread nD τ).loc main_arg6)) bitsLt_bf16_f32 := by
  unfold V
  after_reads_simp

end Host

variable (m : (ℓ : Loc nD τ sig) → Buf (Elt Ideal) ℓ) (c : Dev nD)

/-- The tile that point `t` projects. -/
def nx (t : ℕ) : Fin 32 := ⟨min t 31, by omega⟩

theorem idx (t : Fin grid0.N) :
    win0_0.index t = ![min t.val 31, 0] ∧ win0_1.index t = ![t.val - 1, 0] ∧ win0_2.index t = ![1, 0, 0] ∧ win0_3.index t = ![0, 0]
      ∧ win0_4.index t = ![0, 0, 0] ∧ win0_5.index t = ![0, 0, 0] ∧ win0_6.index t = ![0, 0, 0] ∧ win0_7.index t = ![0, 0]
      ∧ win0_8.index t = ![t.val - 1, 0] ∧ win0_9.index t = ![min t.val 31, 0] ∧ win0_10.index t = ![t.val - 1, 0] :=
  (by decide +kernel : ∀ t : Fin grid0.N, win0_0.index t = ![min t.val 31, 0] ∧ win0_1.index t = ![t.val - 1, 0] ∧ win0_2.index t = ![1, 0, 0]
      ∧ win0_3.index t = ![0, 0] ∧ win0_4.index t = ![0, 0, 0] ∧ win0_5.index t = ![0, 0, 0] ∧ win0_6.index t = ![0, 0, 0] ∧ win0_7.index t = ![0, 0]
      ∧ win0_8.index t = ![t.val - 1, 0] ∧ win0_9.index t = ![min t.val 31, 0] ∧ win0_10.index t = ![t.val - 1, 0]) t

theorem b0 (t : Fin cfg0.N) (r : Fin 512) (k : Fin 1024) : (iblk m c 0 t : Vec Ideal S512x1024 .f32) (ix2 r k)
    = (m ((c : Thread nD τ).loc main_arg0) : Vec Ideal S16384x1024 .f32) (ix2 (In.tok (nx t.val) r) k) := by
  unfold In.tok nx
  blk_ext [iblk, V_main_arg0, idx t]
theorem b1 (t : Fin cfg0.N) (n : Fin 32) (hn : n.val = t.val - 1) (r : Fin 512) (k : Fin 1024) : (iblk m c 1 t : Vec Ideal S512x1024 .f32) (ix2 r k)
    = (m ((c : Thread nD τ).loc main_arg0) : Vec Ideal S16384x1024 .f32) (ix2 (In.tok n r) k) := by
  unfold In.tok
  blk_ext [iblk, V_main_arg0, idx t, hn]
theorem b2 (t : Fin cfg0.N) (k : Fin 1024) : (iblk m c 2 t : Vec Ideal S1x1x1024 .f32) (ix3 0 0 k)
    = (m ((c : Thread nD τ).loc main_arg1) : Vec Ideal S4x1024 .f32) (ix2 1 k) := by
  have e : (iblk m c 2 t : Vec Ideal S1x1x1024 .f32) (ix3 0 0 k) = (V m c main_v2 : Vec Ideal S4x1x1024 .f32) (ix3 1 0 k) := by
    blk_ext [iblk, idx t]
  rw [e, V_v2]
  pointwise
theorem b3 (t : Fin cfg0.N) (k : Fin 1024) (j : Fin 2048) : (iblk m c 3 t : Vec Ideal S1024x2048 .bf16) (ix2 k j)
    = (m ((c : Thread nD τ).loc main_arg2) : Vec Ideal S1024x2048 .f32) (ix2 k j) := by
  have e : (iblk m c 3 t : Vec Ideal S1024x2048 .bf16) (ix2 k j) = (V m c main_v3 : Vec Ideal S1024x2048 .bf16) (ix2 k j) := by
    blk_ext [iblk, idx t]
  rw [e, V_v3]
  rfl
theorem b4 (t : Fin cfg0.N) (g : Fin 4) (k k' : Fin 256) : (iblk m c 4 t : Vec Ideal S4x256x256 .bf16) (ix3 g k k')
    = (m ((c : Thread nD τ).loc main_arg3) : Vec Ideal S4x256x256 .f32) (ix3 g k k') := by
  have e : (iblk m c 4 t : Vec Ideal S4x256x256 .bf16) (ix3 g k k') = (V m c main_v4 : Vec Ideal S4x256x256 .bf16) (ix3 g k k') := by
    blk_ext [iblk, idx t]
  rw [e, V_v4]
  rfl
theorem b5 (t : Fin cfg0.N) (k : Fin 1024) : (iblk m c 5 t : Vec Ideal S1x1x1024 .f32) (ix3 0 0 k)
    = (m ((c : Thread nD τ).loc main_arg4) : Vec Ideal S2x1024 .f32) (ix2 0 k) := by
  have e : (iblk m c 5 t : Vec Ideal S1x1x1024 .f32) (ix3 0 0 k) = (V m c main_v0 : Vec Ideal S2x1x1024 .f32) (ix3 0 0 k) := by
    blk_ext [iblk, idx t]
  rw [e, V_v0]
  pointwise
theorem b6 (t : Fin cfg0.N) (k : Fin 1024) : (iblk m c 6 t : Vec Ideal S1x1x1024 .f32) (ix3 0 0 k)
    = (m ((c : Thread nD τ).loc main_arg5) : Vec Ideal S2x1024 .f32) (ix2 0 k) := by
  have e : (iblk m c 6 t : Vec Ideal S1x1x1024 .f32) (ix3 0 0 k) = (V m c main_v1 : Vec Ideal S2x1x1024 .f32) (ix3 0 0 k) := by
    blk_ext [iblk, idx t]
  rw [e, V_v1]
  pointwise
theorem b7 (t : Fin cfg0.N) (k j : Fin 1024) : (iblk m c 7 t : Vec Ideal S1024x1024 .bf16) (ix2 k j)
    = (m ((c : Thread nD τ).loc main_arg6) : Vec Ideal S1024x1024 .f32) (ix2 k j) := by
  have e : (iblk m c 7 t : Vec Ideal S1024x1024 .bf16) (ix2 k j) = (V m c main_v5 : Vec Ideal S1024x1024 .bf16) (ix2 k j) := by
    blk_ext [iblk, idx t]
  rw [e, V_v5]
  rfl

/-- The projection and the block's arrays, from the launch memory. -/
def P : Fin 16384 → Fin 2048 → EReal :=
  Fw6.pj (m ((c : Thread nD τ).loc main_arg0)) (m ((c : Thread nD τ).loc main_arg1)) (m ((c : Thread nD τ).loc main_arg2))
def A : Inp :=
  Fw6.inps (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem p2 (t : Fin cfg0.N) (r : Fin 512) (j : Fin 2048) :
    P2 (iblk m c 0 t) (iblk m c 2 t) (iblk m c 3 t) (ix2 r j) = P m c (In.tok (nx t.val) r) j := by
  rw [P2_apply]
  unfold P Fw6.pj Fw6.proj
  simp only [hn_apply, b0, b2, b3]
theorem p9 (t : Fin cfg0.N) (r : Fin 512) (j : Fin 2048) :
    P9 (iblk m c 0 t) (iblk m c 2 t) (iblk m c 3 t) (ix2 r j) = P m c (In.tok (nx t.val) r) j := by
  rw [P9_apply]
  unfold P Fw6.pj Fw6.proj
  simp only [hn_apply, b0, b2, b3]

theorem v1_eq (t : Fin grid0.N) : v1 (grid0.coords t) = BitVec.ofNat 32 (t.val - 1) :=
  (by decide +kernel : ∀ t : Fin grid0.N, v1 (grid0.coords t) = BitVec.ofNat 32 (t.val - 1)) t

theorem isBlk (t : Fin cfg0.N) (n : Fin 32) (hn : n.val = t.val - 1) :
    IsBlk (A m c) n (grid0.coords t) (iblk m c 1 t) (iblk m c 4 t) (iblk m c 5 t) (iblk m c 6 t) (iblk m c 7 t) where
  hi := (v1_eq t).trans (by rw [hn])
  h1 := fun r k => b1 m c t n hn r k
  h4 := fun g k k' => b4 m c t g k k'
  h5 := fun k => b5 m c t k
  h6 := fun k => b6 m c t k
  h7 := fun k j => b7 m c t k j

section Step

variable {Q : Fin 16384 → Fin 2048 → EReal}

theorem rows_first (n : Fin 32) (hn : n.val = 0) (Pb : Vec Ideal S512x2048 .f32) (hP : ∀ r j, Pb (ix2 r j) = Q (In.tok n r) j) :
    IsRows Q n (k0_pay6 (F := Ideal)) Pb where
  hh := fun q k => by
    have hq := q.isLt
    unfold uu
    rw [dif_neg (by omega)]
    unfold_payloads
    pointwise
  hP := hP

theorem rows_step (n : Fin 32) (hn : 1 ≤ n.val) (s0 : Vec Ideal S528x1024 .f32) (h0 : ∀ a k, s0 (ix2 a k) = uu Q k (512 * (n.val - 1) + a.val))
    (Pb : Vec Ideal S512x2048 .f32) (hP : ∀ r j, Pb (ix2 r j) = Q (In.tok n r) j) :
    IsRows Q n (k0_pay7 (View.ld s0 (Rect.unit ![512, 0] ![16, 1024] inb_S528x1024_S16x1024_512_0))) Pb where
  hh := fun q k => by
    unfold_payloads
    pointwise
    refine (h0 _ _).trans ?_
    congr 1
    show 512 * (n.val - 1) + (512 + q.val) = _
    omega
  hP := hP

end Step

/-- What the carried scratches hold after point `n`. -/
structure Inv (Q : Fin 16384 → Fin 2048 → EReal) (n : ℕ) (s0 : Vec Ideal S528x1024 .f32) (s2 : Vec Ideal S512x2048 .f32) : Prop where
  h2 : ∀ r j, s2 (ix2 r j) = Q (In.tok (nx n) r) j
  h0 : 1 ≤ n → ∀ a k, s0 (ix2 a k) = uu Q k (512 * (n - 1) + a.val)

theorem inv (n : ℕ) : ∀ hn : n < cfg0.N, Inv (P m c) n (outsAt0 m c n hn).2.2.2.1 (outsAt0 m c n hn).2.2.2.2 := by
  induction n with
  | zero =>
    intro hn
    have e := outsAt0_A m c ⟨0, hn⟩ rfl (by simp) (by simp)
    dsimp only at e
    rw [e]
    dsimp only
    rw [sout_A_2]
    exact ⟨p2 m c ⟨0, hn⟩, fun h => absurd h (by omega)⟩
  | succ n ih =>
    intro hn
    have hN : cfg0.N = 33 := rfl
    have I := ih (by omega)
    have hx : nx n = ⟨n, by omega⟩ := Fin.ext (by simp only [nx]; omega)
    by_cases h1 : n = 0
    · have e := outsAt0_B m c ⟨n + 1, hn⟩ (by dsimp only; omega) (by dsimp only; omega) (by dsimp only; omega)
      dsimp only at e
      rw [e]
      dsimp only
      rw [sout_B_0, sout_B_2]
      refine ⟨p2 m c ⟨n + 1, hn⟩, fun _ a k => ?_⟩
      exact U_apply (rows_first (nx n) (by simp only [hx]; exact h1) _ I.h2) a k |>.trans (by rw [hx]; rfl)
    · have e := outsAt0_C m c ⟨n + 1, hn⟩ (by dsimp only; omega) (by dsimp only; omega) (by dsimp only; omega)
      dsimp only at e
      rw [e]
      dsimp only
      rw [sout_C_0, sout_C_2]
      refine ⟨p2 m c ⟨n + 1, hn⟩, fun _ a k => ?_⟩
      exact U_apply (rows_step (nx n) (by simp only [hx]; omega) _ (by rw [hx]; exact I.h0 (by omega)) _ I.h2) a k |>.trans (by rw [hx]; rfl)

/-- The projection's block that point `t` writes. -/
theorem out9 (t : Fin cfg0.N) : (outsAt0 m c t.val t.isLt).2.1 = P9 (iblk m c 0 t) (iblk m c 2 t) (iblk m c 3 t) := by
  have hN : cfg0.N = 33 := rfl
  have ht := t.isLt
  by_cases h0 : t.val = 0
  · rw [outsAt0_A m c t (by omega) (by omega) (by omega)]
    dsimp only
    rw [out_A_9]
  · by_cases h1 : t.val < 2
    · rw [outsAt0_B m c t (by omega) h1 (by omega)]
      dsimp only
      rw [out_B_9]
    · rw [outsAt0_C m c t (by omega) h1 (by omega)]
      dsimp only
      rw [out_C_9]

/-- The blocks of the output and of the saved means that point `t` writes. -/
theorem out8 (t : Fin cfg0.N) (ht : 1 ≤ t.val) (n : Fin 32) (hn : n.val = t.val - 1) : ∃ h Pb, IsRows (P m c) n h Pb
    ∧ (outsAt0 m c t.val t.isLt).1 = W8 (grid0.coords t) (iblk m c 1 t) (iblk m c 4 t) (iblk m c 5 t) (iblk m c 6 t) (iblk m c 7 t) h Pb
    ∧ (outsAt0 m c t.val t.isLt).2.2.1 = W10 (grid0.coords t) h Pb := by
  have hN : cfg0.N = 33 := rfl
  have hl := t.isLt
  have I := inv m c (t.val - 1) (by omega)
  have hx : nx (t.val - 1) = n := Fin.ext (by simp only [nx]; omega)
  by_cases h1 : t.val < 2
  · refine ⟨_, _, rows_first n (by omega) _ (by rw [← hx]; exact I.h2), ?_⟩
    rw [outsAt0_B m c t (by omega) h1 (by omega)]
    dsimp only
    rw [out_B_8, out_B_10]
    exact ⟨rfl, rfl⟩
  · refine ⟨_, _, rows_step n (by omega) _ (by rw [hn]; exact I.h0 (by omega)) _ (by rw [← hx]; exact I.h2), ?_⟩
    rw [outsAt0_C m c t (by omega) h1 (by omega)]
    dsimp only
    rw [out_C_8, out_C_10]
    exact ⟨rfl, rfl⟩

theorem fl8 (t : Fin cfg0.N) : (cfg0.win 8).flush t = true → 1 ≤ t.val :=
  (by decide +kernel : ∀ t : Fin cfg0.N, (cfg0.win 8).flush t = true → 1 ≤ t.val) t
theorem fl10 (t : Fin cfg0.N) : (cfg0.win 10).flush t = true → 1 ≤ t.val :=
  (by decide +kernel : ∀ t : Fin cfg0.N, (cfg0.win 10).flush t = true → 1 ≤ t.val) t

theorem arr8 : (dats m 0 c).arrAt 8 cfg0.N = fun j => Fw6.ho (A m c) (j 0) (j 1) := by
  refine (dats m 0 c).arrAt_eq_of_covers 8 _ (by decide +kernel) fun t hf y => ?_
  have ht : t.val < 33 := t.isLt
  have h1 := fl8 t hf
  have hn : t.val - 1 < 32 := by omega
  obtain ⟨h, Pb, R, e, _⟩ := out8 m c t h1 ⟨t.val - 1, hn⟩ rfl
  blk_simp
  rw [after0_8, e]
  refine Eq.trans (congrArg _ (eq_ix2 y)) ((W8_apply (isBlk m c t ⟨t.val - 1, hn⟩ rfl) R rfl (fun _ _ => rfl) (y 0) (y 1)).trans ?_)
  have i8 := (idx t).2.2.2.2.2.2.2.2.1
  congr 1
  · apply Fin.ext
    blk_simp [i8]
    simp [In.tok, Nat.mul_comm]
  · apply Fin.ext
    blk_simp [i8]

theorem arr9 : (dats m 0 c).arrAt 9 cfg0.N = fun j => P m c (j 0) (j 1) := by
  refine (dats m 0 c).arrAt_eq_of_covers 9 _ (by decide +kernel) fun t hf y => ?_
  blk_simp
  rw [after0_9, out9]
  refine Eq.trans (congrArg _ (eq_ix2 y)) ((p9 m c t (y 0) (y 1)).trans ?_)
  have i9 := (idx t).2.2.2.2.2.2.2.2.2.1
  congr 1
  · apply Fin.ext
    blk_simp [i9]
    simp [In.tok, nx, Nat.mul_comm]
  · apply Fin.ext
    blk_simp [i9]

theorem arr10 : (dats m 0 c).arrAt 10 cfg0.N = fun j => Fw6.mean (P m c) (j 0) (j 1) := by
  refine (dats m 0 c).arrAt_eq_of_covers 10 _ (by decide +kernel) fun t hf y => ?_
  have ht : t.val < 33 := t.isLt
  have h1 := fl10 t hf
  have hn : t.val - 1 < 32 := by omega
  obtain ⟨h, Pb, R, _, e⟩ := out8 m c t h1 ⟨t.val - 1, hn⟩ rfl
  blk_simp
  rw [after0_10, e]
  refine Eq.trans (congrArg _ (eq_ix2 y)) ((W10_apply (isBlk m c t ⟨t.val - 1, hn⟩ rfl) R (y 0) (y 1)).trans ?_)
  have i10 := (idx t).2.2.2.2.2.2.2.2.2.2
  congr 1
  · apply Fin.ext
    blk_simp [i10]
    simp [In.tok, Nat.mul_comm]
  · apply Fin.ext
    blk_simp [i10]

end Cert.Proof.Fw6Arr

end
-- ==== Proof.Fw6Ref.lean ====
/-
  What the reference of the forward call computes, element by element: the running sum from the first token, the windows as
  differences of it, and the mixer behind them.
-/
module

public import proofs.«01_k».proof.Proof.Fw6Spec
public import proofs.«01_k».proof.Proof.Win
public import proofs.«01_k».proof.Proof.Rows
public import proofs.«01_k».proof.Proof.Gen.Reference6Ideal.Read

@[expose] public section

set_option maxRecDepth 16384

noncomputable section

open Idealize.ShloMosaic

namespace Cert.Proof.Fw6Ref

open Fw6 (lo hi uu)

/-- The host's window sum over the axis up to an element. -/
theorem fwdsum {N M : ℕ} (x : (⟨2, ![N, M]⟩ : Shape).Idx → EReal) (init : (⟨0, ![]⟩ : Shape).Idx → EReal)
    (h : (⟨2, ![N, M]⟩ : Shape).ReduceWindows ![N, 1] ![1, 1] ![N - 1, 0] ![0, 0] ⟨2, ![N, M]⟩) (hu : 0 < (⟨0, ![]⟩ : Shape).numel)
    (h0 : ∀ i, init i = 0) (t : Fin N) (c : Fin M) :
    Host.reduceWindowAdd (F := Ideal) (φ := .f32) ![N, 1] ![1, 1] ![N - 1, 0] ![0, 0] x init h hu (ix2 t c)
      = ∑ s ∈ Finset.range N, if hs : N - 1 ≤ t.val + s ∧ t.val + s - (N - 1) < N then x (ix2 ⟨t.val + s - (N - 1), hs.2⟩ c) else 0 := by
  unfold Host.reduceWindowAdd
  rw [Ideal.hostReduceWindowAdd_def]
  unfold Ideal.hostReduceWindowAdd Host.reduceWindow
  simp only [h0]
  rw [foldl_add, zero_add, ← List.ofFn_eq_map, List.sum_ofFn]
  let G : (⟨2, ![N, 1]⟩ : Shape).Idx → EReal := fun i => if hs : N - 1 ≤ t.val + (i 0).val ∧ t.val + (i 0).val - (N - 1) < N then x (ix2 ⟨t.val + (i 0).val - (N - 1), hs.2⟩ c) else 0
  have key : ∀ i : (⟨2, ![N, 1]⟩ : Shape).Idx, (if hin : ∀ a : Fin 2, (![N - 1, 0] : Fin 2 → ℕ) a ≤ ((ix2 t c : (⟨2, ![N, M]⟩ : Shape).Idx) (a.cast h.1.symm)).val * (![1, 1] : Fin 2 → ℕ) a + (i a).val ∧ ((ix2 t c : (⟨2, ![N, M]⟩ : Shape).Idx) (a.cast h.1.symm)).val * (![1, 1] : Fin 2 → ℕ) a + (i a).val - (![N - 1, 0] : Fin 2 → ℕ) a < (⟨2, ![N, M]⟩ : Shape).size a then x (fun a => ⟨_, (hin a).2⟩) else 0) = G i := by
    intro i
    have hi : (i 1).val = 0 := by have := (i 1).isLt; simp at this; omega
    have hc := c.isLt
    by_cases hs : N - 1 ≤ t.val + (i 0).val ∧ t.val + (i 0).val - (N - 1) < N
    · rw [dif_pos (fun a => by
        match a with
        | ⟨0, _⟩ => show N - 1 ≤ t.val * 1 + (i 0).val ∧ t.val * 1 + (i 0).val - (N - 1) < N; omega
        | ⟨1, _⟩ => show 0 ≤ c.val * 1 + (i 1).val ∧ c.val * 1 + (i 1).val - 0 < M; omega)]
      simp only [G]
      rw [dif_pos hs]
      congr 1
      funext a
      apply Fin.ext
      match a with
      | ⟨0, _⟩ => show t.val * 1 + (i 0).val - (N - 1) = t.val + (i 0).val - (N - 1); omega
      | ⟨1, _⟩ => show c.val * 1 + (i 1).val - 0 = c.val; omega
    · rw [dif_neg (fun hin => hs (by
        have h2 : N - 1 ≤ t.val * 1 + (i 0).val ∧ t.val * 1 + (i 0).val - (N - 1) < N := hin 0
        omega))]
      simp only [G]
      rw [dif_neg hs]
  refine (Finset.sum_congr rfl fun n _ => key ((⟨2, ![N, 1]⟩ : Shape).rowMajor.symm n)).trans ?_
  rw [Equiv.sum_comp (⟨2, ![N, 1]⟩ : Shape).rowMajor.symm G, sum_idx2, Finset.sum_range]
  refine Finset.sum_congr rfl fun a _ => ?_
  rw [Fin.sum_univ_one]
  rfl

/-- The sum of the first `m` tokens. -/
def pre (P : Fin 16384 → Fin 2048 → EReal) (c : Fin 1024) (m : ℕ) : EReal :=
  ∑ s ∈ Finset.range m, if h : s < 16384 then P ⟨s, h⟩ (lo c) else 0

variable (P : Fin 16384 → Fin 2048 → EReal)

theorem pre_split (c : Fin 1024) (t : ℕ) (ht : t < 16384) : ∀ w : ℕ, w ≤ 16 →
    pre P c (t + 1) = (∑ j ∈ Finset.range w, uu P c (t + (16 - j))) + pre P c (t + 1 - w)
  | 0, _ => by simp
  | w + 1, hw => by
    rw [pre_split c t ht w (by omega), Finset.sum_range_succ, add_assoc]
    congr 1
    unfold uu
    by_cases h : w ≤ t
    · rw [dif_pos (by omega), show t + 1 - w = (t + 1 - (w + 1)) + 1 by omega]
      unfold pre
      rw [Finset.sum_range_succ, dif_pos (by omega), add_comm]
      congr 2
      apply Fin.ext
      simp only
      omega
    · rw [dif_neg (by omega), zero_add, show t + 1 - w = 0 by omega, show t + 1 - (w + 1) = 0 by omega]

theorem pre_isR (hP : ∀ t j, IsR (P t j)) (c : Fin 1024) (m : ℕ) : IsR (pre P c m) :=
  IsR.sum _ _ fun s _ => by
    split
    · exact hP _ _
    · exact IsR.zero

theorem pre_diff (hP : ∀ t j, IsR (P t j)) (c : Fin 1024) (t : ℕ) (ht : t < 16384) (w : ℕ) (hw : w ≤ 16) :
    pre P c (t + 1) - pre P c (t + 1 - w) = ∑ j ∈ Finset.range w, uu P c (t + (16 - j)) := by
  rw [pre_split P c t ht w hw]
  obtain ⟨x, hx⟩ := pre_isR P hP c (t + 1 - w)
  rw [hx, EReal.add_sub_cancel_right]

theorem pre_sum (x : Fin 16384 → EReal) (t : Fin 16384) :
    (∑ s ∈ Finset.range 16384, if hs : 16384 - 1 ≤ t.val + s ∧ t.val + s - (16384 - 1) < 16384 then x ⟨t.val + s - (16384 - 1), hs.2⟩ else 0)
      = ∑ s ∈ Finset.range (t.val + 1), if h : s < 16384 then x ⟨s, h⟩ else 0 := by
  have ht := t.isLt
  rw [show Finset.range 16384 = Finset.range ((16383 - t.val) + (t.val + 1)) from congrArg _ (by omega)]
  rw [Finset.sum_range_add, Finset.sum_eq_zero, zero_add]
  · refine Finset.sum_congr rfl fun s hs => ?_
    have hs := Finset.mem_range.mp hs
    rw [dif_pos (by omega), dif_pos (by omega)]
    exact congrArg x (Fin.ext (by simp only; omega))
  · intro s hs
    have hs := Finset.mem_range.mp hs
    rw [dif_neg (by omega)]

theorem divmul (x : EReal) (y : ℝ) (hy : y ≠ 0) : Ideal.div x (y : EReal) = x * Ideal.div 1 (y : EReal) := by
  rw [Ideal.div_coe hy, Ideal.div_coe hy, one_mul]

theorem cntw (w : ℕ) (hw : w < 100) (t : Fin 16384) :
    (FloatOps.sitofp FTy.f32 (IntOp.minsi (IntOp.addi (BitVec.ofNat 32 t.val) 1#32) (BitVec.ofNat 32 w)) : Ideal .f32)
      = (((min (t.val + 1) w : ℕ) : ℝ) : EReal) := by
  have ht := t.isLt
  have e : (IntOp.addi (BitVec.ofNat 32 t.val) 1#32 : BitVec 32) = BitVec.ofNat 32 (t.val + 1) := by
    apply BitVec.eq_of_toNat_eq
    simp only [IntOp.addi, BitVec.toNat_add, BitVec.toNat_ofNat]
    omega
  show (((IntOp.minsi _ _ : BitVec 32).toInt : ℝ) : EReal) = _
  rw [e, Rows.minw _ w (by omega) hw]
  simp

theorem cnt_ne (g : Fin 4) (p : ℕ) : ((cnt g p : ℕ) : ℝ) ≠ 0 := by
  have : 0 < cnt g p := by unfold cnt wid; positivity
  exact_mod_cast this.ne'

theorem zw : (FloatOps.sitofp FTy.f32 (0#32) : Ideal .f32) = 0 := by
  show (((0#32 : BitVec 32).toInt : ℝ) : EReal) = 0
  simp

open Cert.Reference6Ideal Cert.Reference6Ideal.Gen Cert.Reference6Ideal.Read

variable (a0 : Vec Ideal S16384x1024 .f32) (a1 : Vec Ideal S4x1024 .f32) (a2 : Vec Ideal S1024x2048 .f32) (a3 : Vec Ideal S4x256x256 .f32)
  (a4 a5 : Vec Ideal S2x1024 .f32) (a6 : Vec Ideal S1024x1024 .f32)

/-- The projection and the block's arrays, from the programs' arguments. -/
abbrev pj (a0 : Vec Ideal S16384x1024 .f32) (a1 : Vec Ideal S4x1024 .f32) (a2 : Vec Ideal S1024x2048 .f32) : Fin 16384 → Fin 2048 → EReal :=
  Fw6.pj a0 a1 a2
abbrev inp (a0 : Vec Ideal S16384x1024 .f32) (a1 : Vec Ideal S4x1024 .f32) (a2 : Vec Ideal S1024x2048 .f32) (a3 : Vec Ideal S4x256x256 .f32)
    (a4 a5 : Vec Ideal S2x1024 .f32) (a6 : Vec Ideal S1024x1024 .f32) : Inp :=
  Fw6.inps a0 a1 a2 a3 a4 a5 a6

theorem p_apply (t : Fin 16384) (j : Fin 2048) : val_main_v15 (F := Ideal) a0 a1 a2 (ix2 t j) = pj a0 a1 a2 t j := by
  unfold pj Fw6.pj Fw6.proj In.width In.eps
  unfold val_main_v15 val_main_v14 val_main_v13 val_main_v12 val_main_v11 val_main_v10 val_main_v9 val_main_v8 val_main_v7 val_main_cst_1 val_main_v6
    val_main_v5 val_main_cst_0 val_main_v4 val_main_v3 val_main_cst val_main_v2 val_main_v1 val_main_v0
  pointwise

theorem u_apply (t : Fin 16384) (c : Fin 1024) : val_main_v20 (F := Ideal) a0 a1 a2 (ix2 t c) = pj a0 a1 a2 t (lo c) := by
  rw [← p_apply]
  unfold val_main_v20 lo
  pointwise

theorem z_apply (t : Fin 16384) (c : Fin 1024) : val_main_v21 (F := Ideal) a0 a1 a2 (ix2 t c) = pj a0 a1 a2 t (hi c) := by
  rw [← p_apply]
  unfold val_main_v21 hi
  pointwise

theorem cs_apply (t : Fin 16384) (c : Fin 1024) : val_main_v22 (F := Ideal) a0 a1 a2 (ix2 t c) = pre (pj a0 a1 a2) c (t.val + 1) := by
  unfold val_main_v22
  refine (fwdsum (N := 16384) (M := 1024) _ _ _ _ (fun _ => Ideal.ofBits_zero_f32) t c).trans ?_
  refine (pre_sum (fun s => val_main_v20 (F := Ideal) a0 a1 a2 (ix2 s c)) t).trans ?_
  unfold pre
  simp only [u_apply]

theorem csp_apply (p : Fin 16385) (c : Fin 1024) : val_main_v23 (F := Ideal) a0 a1 a2 (ix2 p c) = pre (pj a0 a1 a2) c p.val := by
  have hp := p.isLt
  have hu := cs_apply a0 a1 a2
  unfold val_main_v23 val_main_call1_v0 val_main_c
  generalize val_main_v22 (F := Ideal) a0 a1 a2 = u at hu ⊢
  pointwise
  by_cases h : 1 ≤ p.val
  · rw [dif_pos (by omega)]
    refine (hu _ _).trans ?_
    congr 1
    simp only
    omega
  · rw [dif_neg (by omega), zw, show p.val = 0 by omega]
    unfold pre
    simp

theorem mean0 (hP : ∀ t j, IsR (pj a0 a1 a2 t j)) (t : Fin 16384) (k : Fin 256) :
    val_main_v39 (F := Ideal) a0 a1 a2 (ix2 t k) = Fw6.mean (pj a0 a1 a2) t (col 0 k) := by
  have ht := t.isLt
  have hu := csp_apply a0 a1 a2
  have hq := u_apply a0 a1 a2
  unfold val_main_v39 val_main_v38 val_main_v37 val_main_v36 val_main_v35 val_main_v34 val_main_v33 val_main_v32 val_main_v31 val_main_v30 val_main_v29 val_main_v28 val_main_v27 val_main_call2_v0 val_main_c_3 val_main_c_4
    val_main_v26 val_main_v25 val_main_v24 val_main_c_2
  generalize val_main_v23 (F := Ideal) a0 a1 a2 = u at hu ⊢
  generalize val_main_v20 (F := Ideal) a0 a1 a2 = q at hq ⊢
  pointwise
  unfold Fw6.mean
  rw [gOf_col]
  refine congrArg₂ (· - ·) ?_ ((hq _ _).trans ?_)
  · rw [cntw 2 (by norm_num) t]
    refine (congrArg (fun z => Ideal.div z _) ?_).trans (divmul _ _ (cnt_ne 0 t.val))
    unfold Fw6.win
    rw [gOf_col]
    refine Eq.trans ?_ (pre_diff (pj a0 a1 a2) hP (col 0 k) t.val ht 2 (by norm_num))
    refine congrArg₂ (· - ·) ((hu _ _).trans ?_) ?_
    · exact congrArg₂ (pre (pj a0 a1 a2)) (Fin.ext (by simp [col])) (by first | omega | (simp only; omega))
    · by_cases h : 1 ≤ t.val
      · rw [dif_pos (by omega)]
        refine (hu _ _).trans ?_
        exact congrArg₂ (pre (pj a0 a1 a2)) (Fin.ext (by simp [col])) (by first | omega | (simp only; omega))
      · rw [dif_neg (by omega), zw, show t.val + 1 - 2 = 0 by omega]
        unfold pre
        simp
  · congr 1 <;> (apply Fin.ext; simp [lo, col])

theorem mean1 (hP : ∀ t j, IsR (pj a0 a1 a2 t j)) (t : Fin 16384) (k : Fin 256) :
    val_main_v52 (F := Ideal) a0 a1 a2 (ix2 t k) = Fw6.mean (pj a0 a1 a2) t (col 1 k) := by
  have ht := t.isLt
  have hu := csp_apply a0 a1 a2
  have hq := u_apply a0 a1 a2
  unfold val_main_v52 val_main_v51 val_main_v50 val_main_v49 val_main_v48 val_main_v47 val_main_v46 val_main_v45 val_main_v44 val_main_v43 val_main_v42 val_main_v41 val_main_v40 val_main_call3_v0 val_main_c_5 val_main_c_6
    val_main_v26 val_main_v25 val_main_v24 val_main_c_2
  generalize val_main_v23 (F := Ideal) a0 a1 a2 = u at hu ⊢
  generalize val_main_v20 (F := Ideal) a0 a1 a2 = q at hq ⊢
  pointwise
  unfold Fw6.mean
  rw [gOf_col]
  refine congrArg₂ (· - ·) ?_ ((hq _ _).trans ?_)
  · rw [cntw 4 (by norm_num) t]
    refine (congrArg (fun z => Ideal.div z _) ?_).trans (divmul _ _ (cnt_ne 1 t.val))
    unfold Fw6.win
    rw [gOf_col]
    refine Eq.trans ?_ (pre_diff (pj a0 a1 a2) hP (col 1 k) t.val ht 4 (by norm_num))
    refine congrArg₂ (· - ·) ((hu _ _).trans ?_) ?_
    · exact congrArg₂ (pre (pj a0 a1 a2)) (Fin.ext (by simp [col])) (by first | omega | (simp only; omega))
    · by_cases h : 3 ≤ t.val
      · rw [dif_pos (by omega)]
        refine (hu _ _).trans ?_
        exact congrArg₂ (pre (pj a0 a1 a2)) (Fin.ext (by simp [col])) (by first | omega | (simp only; omega))
      · rw [dif_neg (by omega), zw, show t.val + 1 - 4 = 0 by omega]
        unfold pre
        simp
  · congr 1 <;> (apply Fin.ext; simp [lo, col])

theorem mean2 (hP : ∀ t j, IsR (pj a0 a1 a2 t j)) (t : Fin 16384) (k : Fin 256) :
    val_main_v65 (F := Ideal) a0 a1 a2 (ix2 t k) = Fw6.mean (pj a0 a1 a2) t (col 2 k) := by
  have ht := t.isLt
  have hu := csp_apply a0 a1 a2
  have hq := u_apply a0 a1 a2
  unfold val_main_v65 val_main_v64 val_main_v63 val_main_v62 val_main_v61 val_main_v60 val_main_v59 val_main_v58 val_main_v57 val_main_v56 val_main_v55 val_main_v54 val_main_v53 val_main_call4_v0 val_main_c_7 val_main_c_8
    val_main_v26 val_main_v25 val_main_v24 val_main_c_2
  generalize val_main_v23 (F := Ideal) a0 a1 a2 = u at hu ⊢
  generalize val_main_v20 (F := Ideal) a0 a1 a2 = q at hq ⊢
  pointwise
  unfold Fw6.mean
  rw [gOf_col]
  refine congrArg₂ (· - ·) ?_ ((hq _ _).trans ?_)
  · rw [cntw 8 (by norm_num) t]
    refine (congrArg (fun z => Ideal.div z _) ?_).trans (divmul _ _ (cnt_ne 2 t.val))
    unfold Fw6.win
    rw [gOf_col]
    refine Eq.trans ?_ (pre_diff (pj a0 a1 a2) hP (col 2 k) t.val ht 8 (by norm_num))
    refine congrArg₂ (· - ·) ((hu _ _).trans ?_) ?_
    · exact congrArg₂ (pre (pj a0 a1 a2)) (Fin.ext (by simp [col])) (by first | omega | (simp only; omega))
    · by_cases h : 7 ≤ t.val
      · rw [dif_pos (by omega)]
        refine (hu _ _).trans ?_
        exact congrArg₂ (pre (pj a0 a1 a2)) (Fin.ext (by simp [col])) (by first | omega | (simp only; omega))
      · rw [dif_neg (by omega), zw, show t.val + 1 - 8 = 0 by omega]
        unfold pre
        simp
  · congr 1 <;> (apply Fin.ext; simp [lo, col])

theorem mean3 (hP : ∀ t j, IsR (pj a0 a1 a2 t j)) (t : Fin 16384) (k : Fin 256) :
    val_main_v78 (F := Ideal) a0 a1 a2 (ix2 t k) = Fw6.mean (pj a0 a1 a2) t (col 3 k) := by
  have ht := t.isLt
  have hu := csp_apply a0 a1 a2
  have hq := u_apply a0 a1 a2
  unfold val_main_v78 val_main_v77 val_main_v76 val_main_v75 val_main_v74 val_main_v73 val_main_v72 val_main_v71 val_main_v70 val_main_v69 val_main_v68 val_main_v67 val_main_v66 val_main_call5_v0 val_main_c_9 val_main_c_10
    val_main_v26 val_main_v25 val_main_v24 val_main_c_2
  generalize val_main_v23 (F := Ideal) a0 a1 a2 = u at hu ⊢
  generalize val_main_v20 (F := Ideal) a0 a1 a2 = q at hq ⊢
  pointwise
  unfold Fw6.mean
  rw [gOf_col]
  refine congrArg₂ (· - ·) ?_ ((hq _ _).trans ?_)
  · rw [cntw 16 (by norm_num) t]
    refine (congrArg (fun z => Ideal.div z _) ?_).trans (divmul _ _ (cnt_ne 3 t.val))
    unfold Fw6.win
    rw [gOf_col]
    refine Eq.trans ?_ (pre_diff (pj a0 a1 a2) hP (col 3 k) t.val ht 16 (by norm_num))
    refine congrArg₂ (· - ·) ((hu _ _).trans ?_) ?_
    · exact congrArg₂ (pre (pj a0 a1 a2)) (Fin.ext (by simp [col])) (by first | omega | (simp only; omega))
    · by_cases h : 15 ≤ t.val
      · rw [dif_pos (by omega)]
        refine (hu _ _).trans ?_
        exact congrArg₂ (pre (pj a0 a1 a2)) (Fin.ext (by simp [col])) (by first | omega | (simp only; omega))
      · rw [dif_neg (by omega), zw, show t.val + 1 - 16 = 0 by omega]
        unfold pre
        simp
  · congr 1 <;> (apply Fin.ext; simp [lo, col])

/-- Four arrays side by side, read at a channel. -/
theorem cat4_at (u0 u1 u2 u3 : Vec Ideal S16384x256 .f32) (t : Fin 16384) (c : Fin 1024) :
    concatenate S16384x1024 1 [⟨S16384x256, u0⟩, ⟨S16384x256, u1⟩, ⟨S16384x256, u2⟩, ⟨S16384x256, u3⟩]
        concatenates_S16384x256_S16384x256_S16384x256_S16384x256_S16384x1024_d1 (ix2 t c)
      = if h : c.val < 256 then u0 (ix2 t ⟨c.val, h⟩)
        else if h : c.val - 256 < 256 then u1 (ix2 t ⟨c.val - 256, h⟩)
        else if h : c.val - 256 - 256 < 256 then u2 (ix2 t ⟨c.val - 256 - 256, h⟩)
        else u3 (ix2 t ⟨c.val - 256 - 256 - 256, by have := c.isLt; omega⟩) := by
  pointwise
theorem cat4 (u0 u1 u2 u3 : Vec Ideal S16384x256 .f32) (t : Fin 16384) (g : Fin 4) (k : Fin 256) :
    concatenate S16384x1024 1 [⟨S16384x256, u0⟩, ⟨S16384x256, u1⟩, ⟨S16384x256, u2⟩, ⟨S16384x256, u3⟩]
        concatenates_S16384x256_S16384x256_S16384x256_S16384x256_S16384x1024_d1 (ix2 t (col g k))
      = (match g with | 0 => u0 | 1 => u1 | 2 => u2 | 3 => u3) (ix2 t k) := by
  rw [cat4_at]
  have hk := k.isLt
  fin_cases g
  · rw [dif_pos (by simp [col])]; congr 2; apply Fin.ext; simp [col]
  · rw [dif_neg (by simp [col]), dif_pos (by simp [col])]; congr 2; apply Fin.ext; simp [col]
  · rw [dif_neg (by simp [col]; omega), dif_neg (by simp [col]; omega), dif_pos (by simp [col]; omega)]; congr 2; apply Fin.ext; simp [col]; omega
  · rw [dif_neg (by simp [col]; omega), dif_neg (by simp [col]; omega), dif_neg (by simp [col]; omega)]; congr 2; apply Fin.ext; simp [col]; omega

theorem tw_u : val_main_v102 (F := Ideal) a0 a1 a2 = val_main_v20 (F := Ideal) a0 a1 a2 := rfl
theorem tw_s : val_main_v104 (F := Ideal) a0 a1 a2 = val_main_v23 (F := Ideal) a0 a1 a2 := rfl
theorem tw0 : val_main_v120 (F := Ideal) a0 a1 a2 = val_main_v39 (F := Ideal) a0 a1 a2 := rfl
theorem tw1 : val_main_v133 (F := Ideal) a0 a1 a2 = val_main_v52 (F := Ideal) a0 a1 a2 := rfl
theorem tw2 : val_main_v146 (F := Ideal) a0 a1 a2 = val_main_v65 (F := Ideal) a0 a1 a2 := rfl
theorem tw3 : val_main_v159 (F := Ideal) a0 a1 a2 = val_main_v78 (F := Ideal) a0 a1 a2 := rfl

theorem d_apply (hP : ∀ t j, IsR (pj a0 a1 a2 t j)) (t : Fin 16384) (c : Fin 1024) :
    val_main_v161 (F := Ideal) a0 a1 a2 (ix2 t c) = Fw6.mean (pj a0 a1 a2) t c := by
  obtain ⟨g, k, rfl⟩ : ∃ g k, c = col g k := ⟨gOf c, rOf c, (col_of c).symm⟩
  unfold val_main_v161 val_main_v160
  rw [tw0, tw1, tw2, tw3]
  refine (cat4 _ _ _ _ t g k).trans ?_
  fin_cases g
  · exact mean0 a0 a1 a2 hP t k
  · exact mean1 a0 a1 a2 hP t k
  · exact mean2 a0 a1 a2 hP t k
  · exact mean3 a0 a1 a2 hP t k

theorem dot0 (hP : ∀ t j, IsR (pj a0 a1 a2 t j)) (t : Fin 16384) (k : Fin 256) : val_main_v81 (F := Ideal) a0 a1 a2 a3 (ix2 t k)
    = ∑ j : Fin 256, Fw6.mean (pj a0 a1 a2) t (col 0 j) * a3 (ix3 0 j k) := by
  have hd := mean0 a0 a1 a2 hP
  unfold val_main_v81 val_main_v80 val_main_v79
  generalize val_main_v39 (F := Ideal) a0 a1 a2 = u at hd ⊢
  pointwise
  simp only [hd]

theorem dot1 (hP : ∀ t j, IsR (pj a0 a1 a2 t j)) (t : Fin 16384) (k : Fin 256) : val_main_v84 (F := Ideal) a0 a1 a2 a3 (ix2 t k)
    = ∑ j : Fin 256, Fw6.mean (pj a0 a1 a2) t (col 1 j) * a3 (ix3 1 j k) := by
  have hd := mean1 a0 a1 a2 hP
  unfold val_main_v84 val_main_v83 val_main_v82
  generalize val_main_v52 (F := Ideal) a0 a1 a2 = u at hd ⊢
  pointwise
  simp only [hd]

theorem dot2 (hP : ∀ t j, IsR (pj a0 a1 a2 t j)) (t : Fin 16384) (k : Fin 256) : val_main_v87 (F := Ideal) a0 a1 a2 a3 (ix2 t k)
    = ∑ j : Fin 256, Fw6.mean (pj a0 a1 a2) t (col 2 j) * a3 (ix3 2 j k) := by
  have hd := mean2 a0 a1 a2 hP
  unfold val_main_v87 val_main_v86 val_main_v85
  generalize val_main_v65 (F := Ideal) a0 a1 a2 = u at hd ⊢
  pointwise
  simp only [hd]

theorem dot3 (hP : ∀ t j, IsR (pj a0 a1 a2 t j)) (t : Fin 16384) (k : Fin 256) : val_main_v90 (F := Ideal) a0 a1 a2 a3 (ix2 t k)
    = ∑ j : Fin 256, Fw6.mean (pj a0 a1 a2) t (col 3 j) * a3 (ix3 3 j k) := by
  have hd := mean3 a0 a1 a2 hP
  unfold val_main_v90 val_main_v89 val_main_v88
  generalize val_main_v78 (F := Ideal) a0 a1 a2 = u at hd ⊢
  pointwise
  simp only [hd]

theorem ob_apply (hP : ∀ t j, IsR (pj a0 a1 a2 t j)) (t : Fin 16384) (c : Fin 1024) :
    val_main_v94 (F := Ideal) a0 a1 a2 a3 a4 (ix2 t c) = (inp a0 a1 a2 a3 a4 a5 a6).ob t c := by
  obtain ⟨g, k, rfl⟩ : ∃ g k, c = col g k := ⟨gOf c, rOf c, (col_of c).symm⟩
  rw [val_main_v94_apply]
  refine congrArg₂ (· + ·) ?_ ?_
  · unfold val_main_v91
    refine (cat4 _ _ _ _ t g k).trans ?_
    rw [gOf_col, rOf_col]
    fin_cases g
    · exact dot0 a0 a1 a2 a3 hP t k
    · exact dot1 a0 a1 a2 a3 hP t k
    · exact dot2 a0 a1 a2 a3 hP t k
    · exact dot3 a0 a1 a2 a3 hP t k
  · unfold val_main_v93 val_main_v92 val_main_v17 val_main_v16 inp Fw6.inps Fw6.inp
    pointwise

theorem sz_apply (t : Fin 16384) (c : Fin 1024) :
    val_main_v98 (F := Ideal) a0 a1 a2 (ix2 t c) = (inp a0 a1 a2 a3 a4 a5 a6).sz t c := by
  have hz := z_apply a0 a1 a2
  unfold val_main_v98 val_main_call6_v5 val_main_call6_v4 val_main_call6_v3 val_main_call6_v2 val_main_call6_v1 val_main_call6_v0 val_main_call6_cst val_main_call6_cst_0
  generalize val_main_v21 (F := Ideal) a0 a1 a2 = z at hz ⊢
  pointwise
  rw [hz]
  rfl

theorem y2_apply (hP : ∀ t j, IsR (pj a0 a1 a2 t j)) (t : Fin 16384) (c : Fin 1024) :
    val_main_v99 (F := Ideal) a0 a1 a2 a3 a4 a5 (ix2 t c) = (inp a0 a1 a2 a3 a4 a5 a6).y2 t c := by
  rw [val_main_v99_apply, val_main_v97_apply, ob_apply a0 a1 a2 a3 a4 a5 a6 hP, sz_apply a0 a1 a2 a3 a4 a5 a6]
  refine congrArg₂ (· * ·) (congrArg₂ (· * ·) rfl ?_) rfl
  unfold val_main_v96 val_main_v95 val_main_v19 val_main_v18 inp Fw6.inps Fw6.inp
  pointwise

theorem ho_apply (hP : ∀ t j, IsR (pj a0 a1 a2 t j)) (t : Fin 16384) (k : Fin 1024) :
    val_main_v101 (F := Ideal) a0 a1 a2 a3 a4 a5 a6 (ix2 t k) = Fw6.ho (inp a0 a1 a2 a3 a4 a5 a6) t k := by
  have hy := y2_apply a0 a1 a2 a3 a4 a5 a6 hP
  rw [val_main_v101_apply]
  refine congrArg₂ (· + ·) rfl ?_
  unfold val_main_v100
  generalize val_main_v99 (F := Ideal) a0 a1 a2 a3 a4 a5 = y at hy ⊢
  pointwise
  simp only [hy]
  rfl

theorem results (b0 : Vec Ideal S16384x1024 .f32) (b1 : Vec Ideal S4x1024 .f32) (b2 : Vec Ideal S1024x2048 .f32) (b3 : Vec Ideal S4x256x256 .f32)
    (b4 b5 : Vec Ideal S2x1024 .f32) (b6 : Vec Ideal S1024x1024 .f32) (hP : ∀ t j, IsR (pj a0 a1 a2 t j))
    (h : b0 = a0 ∧ b1 = a1 ∧ b2 = a2 ∧ b3 = a3 ∧ b4 = a4 ∧ b5 = a5 ∧ b6 = a6) :
    val_main_v101 (F := Ideal) b0 b1 b2 b3 b4 b5 b6 = (fun j => Fw6.ho (inp a0 a1 a2 a3 a4 a5 a6) (j 0) (j 1))
    ∧ val_main_v15 (F := Ideal) b0 b1 b2 = (fun j => pj a0 a1 a2 (j 0) (j 1))
    ∧ val_main_v161 (F := Ideal) b0 b1 b2 = (fun j => Fw6.mean (pj a0 a1 a2) (j 0) (j 1)) := by
  obtain ⟨rfl, rfl, rfl, rfl, rfl, rfl, rfl⟩ := h
  exact ⟨funext fun j => (congrArg _ (eq_ix2 j)).trans (ho_apply b0 b1 b2 b3 b4 b5 b6 hP (j 0) (j 1)),
    funext fun j => (congrArg _ (eq_ix2 j)).trans (p_apply b0 b1 b2 (j 0) (j 1)),
    funext fun j => (congrArg _ (eq_ix2 j)).trans (d_apply b0 b1 b2 hP (j 0) (j 1))⟩

/-- The projection is a real number where the norm's scale and the weights are: a row whose mean square is infinite is
    normalised to zeros. -/
theorem pj_isR (h1 : ∀ k, IsR (a1 (ix2 1 k))) (h2 : ∀ k j, IsR (a2 (ix2 k j))) (t : Fin 16384) (j : Fin 2048) : IsR (pj a0 a1 a2 t j) := by
  unfold pj Fw6.pj Fw6.proj
  refine IsR.sum _ _ fun k _ => ((?_ : IsR _).mul (h1 k)).mul (h2 k j)
  beta_reduce
  obtain ⟨e, he, hee⟩ := In.eps_pos
  rw [hee, In.width_eq, Ideal.div_coe (by norm_num)]
  have hs : (0 : EReal) ≤ ∑ k', a0 (ix2 t k') * a0 (ix2 t k') := Finset.sum_nonneg fun _ _ => In.sq_nonneg' _
  have hk : a0 (ix2 t k) * a0 (ix2 t k) ≤ ∑ k', a0 (ix2 t k') * a0 (ix2 t k') :=
    Finset.single_le_sum (f := fun k' => a0 (ix2 t k') * a0 (ix2 t k')) (fun _ _ => In.sq_nonneg' _) (Finset.mem_univ k)
  generalize (∑ k', a0 (ix2 t k') * a0 (ix2 t k')) = S at hs hk ⊢
  generalize a0 (ix2 t k) = x at hk ⊢
  by_cases hS : S = ⊤
  · subst hS
    rw [EReal.top_mul_coe_of_pos (by norm_num), EReal.top_add_coe]
    exact ⟨0, by simp⟩
  · induction S using EReal.rec with
    | bot => exact absurd hs (by simp)
    | top => exact absurd rfl hS
    | coe s =>
      have hs' : 0 ≤ s := by exact_mod_cast hs
      have hx : IsR x := by
        induction x using EReal.rec with
        | bot => exact absurd hk (by simp)
        | top => exact absurd hk (by simp)
        | coe x => exact ⟨x, rfl⟩
      refine hx.mul ?_
      rw [← EReal.coe_mul, ← EReal.coe_add]
      have hp : 0 < s * (1 / 1024) + e := by positivity
      rw [Ideal.rsqrt_coe, if_neg (by linarith), if_neg hp.ne']
      exact ⟨_, rfl⟩

end Cert.Proof.Fw6Ref
-- ==== Proof.Fw6Join.lean ====
/-
  The forward call's results are the reference's, and what each program ends with: program 6.
-/
module

public import proofs.«01_k».proof.Defs
public import proofs.«01_k».proof.Proof.Fw6Arr
public import proofs.«01_k».proof.Proof.Fw6Ref
public import proofs.«01_k».proof.Proof.Gen.Pre_finite_row1
public import Idealize.ShloMosaic.Lib.Claim
public import Idealize.ShloMosaic.Lib.Quiescent

@[expose] public section

set_option maxRecDepth 16384

noncomputable section

open Idealize.ShloMosaic Idealize.ShloMosaic.TcCoe Idealize.SL.Sem Idealize.ShloMosaic.StableHlo

namespace Cert.Proof.Fw6

theorem quiescent_ref : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

theorem quiescent_ref_pre : Cert.quiescent_Reference6Ideal_pre_finite_row1 := fun m ρ _ => quiescent_ref m ρ trivial

open Cert.Pre_finite_row1 in
/-- The precondition: the norm's row and the projection's weights are real numbers. -/
theorem pre_isR (a0 : FVec Ideal S16384x1024 .f32) (a1 : FVec Ideal S4x1024 .f32) (a2 : FVec Ideal S1024x2048 .f32) (a3 : FVec Ideal S4x256x256 .f32)
    (a4 a5 : FVec Ideal S2x1024 .f32) (a6 : FVec Ideal S1024x1024 .f32) (j : S_.Idx)
    (h : Cert.Pre_finite_row1.fn (F := Ideal) a0 a1 a2 a3 a4 a5 a6 j = 1#1) :
    (∀ k, IsR (a1 (ix2 1 k))) ∧ (∀ k j, IsR (a2 (ix2 k j))) := by
  unfold Cert.Pre_finite_row1.fn at h
  simp only [andi_apply] at h
  obtain ⟨h1, h2⟩ := IntOp.andi_eq_one.1 h
  refine ⟨fun k => ?_, fun k j' => isR_of_all a2 _ (zero_bcast _) _ _ _ j h2 _⟩
  have e := isR_of_all (s := S1024) _ _ (zero_bcast _) _ _ _ j h1 (ix1 k)
  have q : shapeCast (α := EReal) S1024 (extractStridedSlice S1x1024 ![1, 0] a1 Facts.slices_S4x1024_S1x1024_1_0) Facts.shapeCasts_S1x1024_S1024 (ix1 k)
      = a1 (ix2 1 k) := by
    pointwise
  rw [← q]
  exact e

/-- What the reference's launch finds is what the kernel is given. -/
theorem at_launch (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) :
    launchContents m' c (Proc.devRef .tc Cert.Reference6Ideal.main_arg0) = m ((c.tc : Thread Cert.Kernel6Ideal.nD Cert.Kernel6Ideal.τ).loc Cert.Kernel6Ideal.main_arg0)
      ∧ launchContents m' c (Proc.devRef .tc Cert.Reference6Ideal.main_arg1) = m ((c.tc : Thread Cert.Kernel6Ideal.nD Cert.Kernel6Ideal.τ).loc Cert.Kernel6Ideal.main_arg1)
      ∧ launchContents m' c (Proc.devRef .tc Cert.Reference6Ideal.main_arg2) = m ((c.tc : Thread Cert.Kernel6Ideal.nD Cert.Kernel6Ideal.τ).loc Cert.Kernel6Ideal.main_arg2)
      ∧ launchContents m' c (Proc.devRef .tc Cert.Reference6Ideal.main_arg3) = m ((c.tc : Thread Cert.Kernel6Ideal.nD Cert.Kernel6Ideal.τ).loc Cert.Kernel6Ideal.main_arg3)
      ∧ launchContents m' c (Proc.devRef .tc Cert.Reference6Ideal.main_arg4) = m ((c.tc : Thread Cert.Kernel6Ideal.nD Cert.Kernel6Ideal.τ).loc Cert.Kernel6Ideal.main_arg4)
      ∧ launchContents m' c (Proc.devRef .tc Cert.Reference6Ideal.main_arg5) = m ((c.tc : Thread Cert.Kernel6Ideal.nD Cert.Kernel6Ideal.τ).loc Cert.Kernel6Ideal.main_arg5)
      ∧ launchContents m' c (Proc.devRef .tc Cert.Reference6Ideal.main_arg6) = m ((c.tc : Thread Cert.Kernel6Ideal.nD Cert.Kernel6Ideal.τ).loc Cert.Kernel6Ideal.main_arg6) := h

theorem algebraic : Cert.algebraic_Kernel6Ideal_Reference6Ideal_pre_finite_row1 := fun m g m' g' hp ha => by
  refine ⟨fun c => fun j => Fw6.ho (Fw6Arr.A m c) (j 0) (j 1), fun c => fun j => Fw6Arr.P m c (j 0) (j 1),
    fun c => fun j => Fw6.mean (Fw6Arr.P m c) (j 0) (j 1), ?_, ?_⟩
  · refine (θ_run Cert.Kernel6Ideal.defs _ _).mono (fun r h c => ?_) (Cert.Kernel6Ideal.Value.run_blocks (F := Ideal) m g)
    obtain ⟨e0, e1, e2, k⟩ := h c
    exact ⟨e0.trans (Fw6Arr.arr8 m c), e1.trans (Fw6Arr.arr9 m c), e2.trans (Fw6Arr.arr10 m c), k⟩
  · refine (θ_run Cert.Reference6Ideal.defs _ _).mono (fun r h c => ?_) (Cert.Reference6Ideal.Value.run (F := Ideal) m' g')
    obtain ⟨e0, e1, e2, k⟩ := h c
    obtain ⟨f1, f2⟩ := pre_isR _ _ _ _ _ _ _ (fun i => i.elim0) (congrFun (hp c) _)
    obtain ⟨r0, r1, r2⟩ := Fw6Ref.results _ _ _ _ _ _ _ _ _ _ _ _ _ _ (Fw6Ref.pj_isR _ _ _ f1 f2) (at_launch m m' c (ha c))
    exact ⟨e0.trans ((Cert.Reference6Ideal.Read.val_main_v101_eq _).trans r0), e1.trans ((Cert.Reference6Ideal.Read.val_main_v15_eq _).trans r1),
      e2.trans ((Cert.Reference6Ideal.Read.val_main_v161_eq _).trans r2), k⟩

end Cert.Proof.Fw6

end
-- ==== Proof.lean ====
module

public import proofs.«01_k».proof.Defs
public import proofs.«01_k».proof.Proof.Join
public import proofs.«01_k».proof.Proof.In2Join
public import proofs.«01_k».proof.Proof.In3Join
public import proofs.«01_k».proof.Proof.In4Join
public import proofs.«01_k».proof.Proof.In5
public import proofs.«01_k».proof.Proof.Fw6Join
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite_row1.Gen.facts,
    fun m ρ _ => Cert.Kernel.Gen.frame m ρ, fun m ρ _ => Cert.KernelIdeal.Gen.frame m ρ, fun m ρ _ => Cert.KernelIdeal.Gen.frame m ρ, quiescent_ref, quiescent_ref_pre,
    fun m ρ _ => Cert.Kernel2.Gen.frame m ρ, fun m ρ _ => Cert.Kernel2Ideal.Gen.frame m ρ, In2.quiescent_ref,
    fun m ρ _ => Cert.Kernel3.Gen.frame m ρ, fun m ρ _ => Cert.Kernel3Ideal.Gen.frame m ρ, In3.quiescent_ref,
    fun m ρ _ => Cert.Kernel4.Gen.frame m ρ, fun m ρ _ => Cert.Kernel4Ideal.Gen.frame m ρ, In4.quiescent_ref,
    fun m ρ _ => Cert.Kernel5.Gen.frame m ρ, fun m ρ _ => Cert.Kernel5Ideal.Gen.frame m ρ, In5.quiescent_ref,
    fun m ρ _ => Cert.Kernel6.Gen.frame m ρ, fun m ρ _ => Cert.Kernel6Ideal.Gen.frame m ρ, fun m ρ _ => Cert.Kernel6Ideal.Gen.frame m ρ, Fw6.quiescent_ref, Fw6.quiescent_ref_pre,
    trivial, algebraic,
    trivial, In2.algebraic,
    trivial, In3.algebraic,
    trivial, In4.algebraic,
    trivial, In5.algebraic,
    trivial, Fw6.algebraic⟩

end Cert.Proof

end
